-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "scale2" .f32 0x3E0293EE#32 ((((Real.sqrt 128) * (Real.log 2))⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_v19) = v2 c
          ∧ r.2.mem ((c.tc : Thread Cert.Reference5Ideal.nD Cert.Reference5Ideal.τ).loc Cert.Reference5Ideal.main_v21) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_v21) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_scores_finite.lean ====
abbrev S16384x3072 : Shape := ⟨2, ![16384, 3072]⟩
abbrev S32x4096 : Shape := ⟨2, ![32, 4096]⟩
abbrev S16384x2048 : Shape := ⟨2, ![16384, 2048]⟩
abbrev S_ : Shape := ⟨0, ![]⟩

class Facts : Prop where
  slices_S16384x3072_S16384x2048_0_0 : S16384x3072.Slices ![0, 0] S16384x2048
  bitsLt_bf16_f32 : FTy.bits .bf16 < FTy.bits .f32
  bcast_S_S16384x2048 : S_.BroadcastsInDim S16384x2048 (![] : Fin 0 → Fin S16384x2048.rank)
  bcast_S_S32x4096 : S_.BroadcastsInDim S32x4096 (![] : Fin 0 → Fin S32x4096.rank)

variable [Facts]

def fn {F : FTy → Type} [FloatOps F] (main_arg0 : FVec F S16384x3072 .bf16) (main_arg1 : FVec F S32x4096 .f32) : IVec S16384x2048 1 × IVec S32x4096 1 :=
  let main_v0 : FVec F S16384x2048 .bf16 := (extractStridedSlice S16384x2048 ![0, 0] · slices_S16384x3072_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_v5 : FVec F S32x4096 .f32 := Host.absf main_arg1
  let main_cst_0 : FVec F S_ .f32 := constant S_ .f32 0x7F800000#32
  let main_v6 : FVec F S32x4096 .f32 := broadcastInDim S32x4096 ![] bcast_S_S32x4096 main_cst_0
  let main_v7 : IVec S32x4096 1 := cmpf .olt main_v5 main_v6
  (main_v4, main_v7)
-- ==== Kernel.lean ====
abbrev S16384x3072 : Shape := ⟨2, ![16384, 3072]⟩
abbrev S32x4096 : Shape := ⟨2, ![32, 4096]⟩
abbrev S32x4x1x1024 : Shape := ⟨4, ![32, 4, 1, 1024]⟩
abbrev S16384x1024 : Shape := ⟨2, ![16384, 1024]⟩
abbrev S1024x256 : Shape := ⟨2, ![1024, 256]⟩
abbrev S4096x256 : Shape := ⟨2, ![4096, 256]⟩
abbrev S2x4x1x1024 : Shape := ⟨4, ![2, 4, 1, 1024]⟩
abbrev S2x1024x128 : Shape := ⟨3, ![2, 1024, 128]⟩
abbrev S1024x1024 : Shape := ⟨2, ![1024, 1024]⟩
abbrev S1024x128 : Shape := ⟨2, ![1024, 128]⟩
abbrev S1x1x1x1024 : Shape := ⟨4, ![1, 1, 1, 1024]⟩
abbrev S1x1024 : Shape := ⟨2, ![1, 1024]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 4
  | .vmem => 13
  | .smem => 0
  | _ => 0

abbrev bufTy : (tb : Table) → Fin (tcTables nBuf tb) → BufTy
  | .hbm, ⟨0, _⟩ => ⟨S16384x3072, .bf16⟩
  | .hbm, ⟨1, _⟩ => ⟨S32x4096, .f32⟩
  | .hbm, ⟨2, _⟩ => ⟨S32x4x1x1024, .f32⟩
  | .hbm, ⟨3, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S2x4x1x1024, .f32⟩
  | .local _ .vmem, ⟨7, _⟩ => ⟨S2x4x1x1024, .f32⟩
  | .local _ .vmem, ⟨8, _⟩ => ⟨S1024x256, .bf16⟩
  | .local _ .vmem, ⟨9, _⟩ => ⟨S1024x256, .bf16⟩
  | .local _ .vmem, ⟨10, _⟩ => ⟨S2x1024x128, .f32⟩
  | .local _ .vmem, ⟨11, _⟩ => ⟨S2x1024x128, .f32⟩
  | .local _ .vmem, ⟨12, _⟩ => ⟨S2x1024x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_off1 (i : grid0.Coords) : Fin 4 → Nat :=
  let c0_13 : Index := 0#32
  let arg2 : BitVec 32 := BitVec.ofNat 32 (i 2).val
  let v17 : Index := Scalar.indexCast arg2
  let c0_14 : Index := 0#32
  let c0_15 : Index := 0#32
  ![0, v17.toNat, 0, 0]
def k0_off2 (i : grid0.Coords) : Fin 4 → Nat :=
  let c1 : Index := 1#32
  let arg2 : BitVec 32 := BitVec.ofNat 32 (i 2).val
  let v29 : Index := Scalar.indexCast arg2
  let c0_19 : Index := 0#32
  let c0_20 : Index := 0#32
  ![1, v29.toNat, 0, 0]
@[reducible] def k0_t1_loop (i : grid0.Coords) : Scf.Loop 32 :=
  let c0_i32_24 : BitVec 32 := 0#32
  let arg2 : BitVec 32 := BitVec.ofNat 32 (i 2).val
  let v40 : BitVec 32 := Scalar.subi arg2 c0_i32_24
  let c1_i32 : BitVec 32 := 1#32
  let v42 : BitVec 32 := Scalar.divsi v40 c1_i32
  let v43 : BitVec 32 := Scalar.muli v42 c1_i32
  let v44 : BitVec 32 := Scalar.addi c0_i32_24 v43
  let c1_i32_25 : BitVec 32 := 1#32
  ⟨c0_i32_24, v44, c1_i32_25⟩
def k0_mult1 (i : grid0.Coords) (k0_t1 : Fin (k0_t1_loop i).trips) : BitVec 32 :=
  let c0_i32_24 : BitVec 32 := 0#32
  let c1_i32_25 : BitVec 32 := 1#32
  let arg11 : BitVec 32 := Scf.iv c0_i32_24 c1_i32_25 k0_t1
  let c1024_i32_115 : BitVec 32 := 1024#32
  let v175 : BitVec 32 := Scalar.muli arg11 c1024_i32_115
  v175
def k0_off3 (i : grid0.Coords) (k0_t1 : Fin (k0_t1_loop i).trips) : Fin 2 → Nat :=
  let c0_i32_24 : BitVec 32 := 0#32
  let c1_i32_25 : BitVec 32 := 1#32
  let arg11 : BitVec 32 := Scf.iv c0_i32_24 c1_i32_25 k0_t1
  let c1024_i32_115 : BitVec 32 := 1024#32
  let v175 : BitVec 32 := Scalar.muli arg11 c1024_i32_115
  let v176 : BitVec 32 := v175
  let v177 : Index := Scalar.indexCast v176
  let c0_116 : Index := 0#32
  ![v177.toNat, 0]
def k0_off4 (i : grid0.Coords) (k0_t1 : Fin (k0_t1_loop i).trips) : Fin 4 → Nat :=
  let c0_119 : Index := 0#32
  let c0_i32_24 : BitVec 32 := 0#32
  let c1_i32_25 : BitVec 32 := 1#32
  let arg11 : BitVec 32 := Scf.iv c0_i32_24 c1_i32_25 k0_t1
  let v182 : Index := Scalar.indexCast arg11
  let c0_120 : Index := 0#32
  let c0_121 : Index := 0#32
  ![0, v182.toNat, 0, 0]
def k0_off5 (i : grid0.Coords) (k0_t1 : Fin (k0_t1_loop i).trips) : Fin 2 → Nat :=
  let c0_i32_24 : BitVec 32 := 0#32
  let c1_i32_25 : BitVec 32 := 1#32
  let arg11 : BitVec 32 := Scf.iv c0_i32_24 c1_i32_25 k0_t1
  let c1024_i32_115 : BitVec 32 := 1024#32
  let v175 : BitVec 32 := Scalar.muli arg11 c1024_i32_115
  let v176 : BitVec 32 := v175
  let v231 : Index := Scalar.indexCast v176
  let c128_151 : Index := 128#32
  ![v231.toNat, 128]
def k0_off6 (i : grid0.Coords) (k0_t1 : Fin (k0_t1_loop i).trips) : Fin 4 → Nat :=
  let c1_154 : Index := 1#32
  let c0_i32_24 : BitVec 32 := 0#32
  let c1_i32_25 : BitVec 32 := 1#32
  let arg11 : BitVec 32 := Scf.iv c0_i32_24 c1_i32_25 k0_t1
  let v236 : Index := Scalar.indexCast arg11
  let c0_155 : Index := 0#32
  let c0_156 : Index := 0#32
  ![1, v236.toNat, 0, 0]
@[reducible] def k0_t2_loop (i : grid0.Coords) : Scf.Loop 32 :=
  let c0_i32_24 : BitVec 32 := 0#32
  let arg2 : BitVec 32 := BitVec.ofNat 32 (i 2).val
  let v40 : BitVec 32 := Scalar.subi arg2 c0_i32_24
  let c1_i32 : BitVec 32 := 1#32
  let v42 : BitVec 32 := Scalar.divsi v40 c1_i32
  let v43 : BitVec 32 := Scalar.muli v42 c1_i32
  let v44 : BitVec 32 := Scalar.addi c0_i32_24 v43
  let v41 : BitVec 32 := Scalar.addi c0_i32_24 v40
  let c1_i32_26 : BitVec 32 := 1#32
  ⟨v44, v41, c1_i32_26⟩
def k0_mult2 (i : grid0.Coords) (k0_t2 : Fin (k0_t2_loop i).trips) : BitVec 32 :=
  let c0_i32_24 : BitVec 32 := 0#32
  let arg2 : BitVec 32 := BitVec.ofNat 32 (i 2).val
  let v40 : BitVec 32 := Scalar.subi arg2 c0_i32_24
  let c1_i32 : BitVec 32 := 1#32
  let v42 : BitVec 32 := Scalar.divsi v40 c1_i32
  let v43 : BitVec 32 := Scalar.muli v42 c1_i32
  let v44 : BitVec 32 := Scalar.addi c0_i32_24 v43
  let c1_i32_26 : BitVec 32 := 1#32
  let arg11 : BitVec 32 := Scf.iv v44 c1_i32_26 k0_t2
  let c1024_i32_115 : BitVec 32 := 1024#32
  let v175 : BitVec 32 := Scalar.muli arg11 c1024_i32_115
  v175
def k0_off7 (i : grid0.Coords) (k0_t2 : Fin (k0_t2_loop i).trips) : Fin 2 → Nat :=
  let c0_i32_24 : BitVec 32 := 0#32
  let arg2 : BitVec 32 := BitVec.ofNat 32 (i 2).val
  let v40 : BitVec 32 := Scalar.subi arg2 c0_i32_24
  let c1_i32 : BitVec 32 := 1#32
  let v42 : BitVec 32 := Scalar.divsi v40 c1_i32
  let v43 : BitVec 32 := Scalar.muli v42 c1_i32
  let v44 : BitVec 32 := Scalar.addi c0_i32_24 v43
  let c1_i32_26 : BitVec 32 := 1#32
  let arg11 : BitVec 32 := Scf.iv v44 c1_i32_26 k0_t2
  let c1024_i32_115 : BitVec 32 := 1024#32
  let v175 : BitVec 32 := Scalar.muli arg11 c1024_i32_115
  let v176 : BitVec 32 := v175
  let v177 : Index := Scalar.indexCast v176
  let c0_116 : Index := 0#32
  ![v177.toNat, 0]
def k0_off8 (i : grid0.Coords) (k0_t2 : Fin (k0_t2_loop i).trips) : Fin 4 → Nat :=
  let c0_119 : Index := 0#32
  let c0_i32_24 : BitVec 32 := 0#32
  let arg2 : BitVec 32 := BitVec.ofNat 32 (i 2).val
  let v40 : BitVec 32 := Scalar.subi arg2 c0_i32_24
  let c1_i32 : BitVec 32 := 1#32
  let v42 : BitVec 32 := Scalar.divsi v40 c1_i32
  let v43 : BitVec 32 := Scalar.muli v42 c1_i32
  let v44 : BitVec 32 := Scalar.addi c0_i32_24 v43
  let c1_i32_26 : BitVec 32 := 1#32
  let arg11 : BitVec 32 := Scf.iv v44 c1_i32_26 k0_t2
  let v182 : Index := Scalar.indexCast arg11
  let c0_120 : Index := 0#32
  let c0_121 : Index := 0#32
  ![0, v182.toNat, 0, 0]
def k0_off9 (i : grid0.Coords) (k0_t2 : Fin (k0_t2_loop i).trips) : Fin 2 → Nat :=
  let c0_i32_24 : BitVec 32 := 0#32
  let arg2 : BitVec 32 := BitVec.ofNat 32 (i 2).val
  let v40 : BitVec 32 := Scalar.subi arg2 c0_i32_24
  let c1_i32 : BitVec 32 := 1#32
  let v42 : BitVec 32 := Scalar.divsi v40 c1_i32
  let v43 : BitVec 32 := Scalar.muli v42 c1_i32
  let v44 : BitVec 32 := Scalar.addi c0_i32_24 v43
  let c1_i32_26 : BitVec 32 := 1#32
  let arg11 : BitVec 32 := Scf.iv v44 c1_i32_26 k0_t2
  let c1024_i32_115 : BitVec 32 := 1024#32
  let v175 : BitVec 32 := Scalar.muli arg11 c1024_i32_115
  let v176 : BitVec 32 := v175
  let v231 : Index := Scalar.indexCast v176
  let c128_151 : Index := 128#32
  ![v231.toNat, 128]
def k0_off10 (i : grid0.Coords) (k0_t2 : Fin (k0_t2_loop i).trips) : Fin 4 → Nat :=
  let c1_154 : Index := 1#32
  let c0_i32_24 : BitVec 32 := 0#32
  let arg2 : BitVec 32 := BitVec.ofNat 32 (i 2).val
  let v40 : BitVec 32 := Scalar.subi arg2 c0_i32_24
  let c1_i32 : BitVec 32 := 1#32
  let v42 : BitVec 32 := Scalar.divsi v40 c1_i32
  let v43 : BitVec 32 := Scalar.muli v42 c1_i32
  let v44 : BitVec 32 := Scalar.addi c0_i32_24 v43
  let c1_i32_26 : BitVec 32 := 1#32
  let arg11 : BitVec 32 := Scf.iv v44 c1_i32_26 k0_t2
  let v236 : Index := Scalar.indexCast arg11
  let c0_155 : Index := 0#32
  let c0_156 : Index := 0#32
  ![1, v236.toNat, 0, 0]
def k0_mult3 (i : grid0.Coords) : BitVec 32 :=
  let arg2 : BitVec 32 := BitVec.ofNat 32 (i 2).val
  let c1024_i32 : BitVec 32 := 1024#32
  let v45 : BitVec 32 := Scalar.muli arg2 c1024_i32
  v45
def k0_off11 (i : grid0.Coords) : Fin 2 → Nat :=
  let arg2 : BitVec 32 := BitVec.ofNat 32 (i 2).val
  let c1024_i32 : BitVec 32 := 1024#32
  let v45 : BitVec 32 := Scalar.muli arg2 c1024_i32
  let v46 : BitVec 32 := v45
  let v47 : Index := Scalar.indexCast v46
  let c0_27 : Index := 0#32
  ![v47.toNat, 0]
def k0_off12 (i : grid0.Coords) : Fin 2 → Nat :=
  let arg2 : BitVec 32 := BitVec.ofNat 32 (i 2).val
  let c1024_i32 : BitVec 32 := 1024#32
  let v45 : BitVec 32 := Scalar.muli arg2 c1024_i32
  let v46 : BitVec 32 := v45
  let v104 : Index := Scalar.indexCast v46
  let c128_63 : Index := 128#32
  ![v104.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale2" => some ((((Real.sqrt 128) * (Real.log 2))⁻¹ : ℝ) : EReal)
  | _ => none
-- ==== ReferenceIdeal.lean ====
abbrev S16384x3072 : Shape := ⟨2, ![16384, 3072]⟩
abbrev S32x4096 : Shape := ⟨2, ![32, 4096]⟩
abbrev S4x4096x3072 : Shape := ⟨3, ![4, 4096, 3072]⟩
abbrev S4x4096x1024 : Shape := ⟨3, ![4, 4096, 1024]⟩
abbrev S4x4096x8x128 : Shape := ⟨4, ![4, 4096, 8, 128]⟩
abbrev S4x8x4096 : Shape := ⟨3, ![4, 8, 4096]⟩
abbrev S4x4096x8 : Shape := ⟨3, ![4, 4096, 8]⟩
abbrev S4096 : Shape := ⟨1, ![4096]⟩
abbrev S4x8x4096x4096 : Shape := ⟨4, ![4, 8, 4096, 4096]⟩
abbrev S_ : Shape := ⟨0, ![]⟩
abbrev S4x8x4096x1 : Shape := ⟨4, ![4, 8, 4096, 1]⟩
abbrev S4x8x1x4096 : Shape := ⟨4, ![4, 8, 1, 4096]⟩
abbrev S4096x1 : Shape := ⟨2, ![4096, 1]⟩
abbrev S1x4096 : Shape := ⟨2, ![1, 4096]⟩
abbrev S4096x4096 : Shape := ⟨2, ![4096, 4096]⟩
abbrev S4x8x128x4096 : Shape := ⟨4, ![4, 8, 128, 4096]⟩
abbrev S16384x1024 : Shape := ⟨2, ![16384, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S32x4096, .f32⟩
  | .hbm, ⟨2, _⟩ => ⟨S16384x3072, .f32⟩
  | .hbm, ⟨3, _⟩ => ⟨S4x4096x3072, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x8x128, .f32⟩
  | .hbm, ⟨8, _⟩ => ⟨S4x4096x8x128, .f32⟩
  | .hbm, ⟨9, _⟩ => ⟨S4x4096x8x128, .f32⟩
  | .hbm, ⟨10, _⟩ => ⟨S4x8x4096, .f32⟩
  | .hbm, ⟨11, _⟩ => ⟨S4x4096x8, .f32⟩
  | .hbm, ⟨12, _⟩ => ⟨S4096, .i32⟩
  | .hbm, ⟨13, _⟩ => ⟨S4x8x4096x4096, .f32⟩
  | .hbm, ⟨14, _⟩ => ⟨S_, .f32⟩
  | .hbm, ⟨15, _⟩ => ⟨S_, .f32⟩
  | .hbm, ⟨16, _⟩ => ⟨S4x8x4096x4096, .f32⟩
  | .hbm, ⟨17, _⟩ => ⟨S4x8x4096x4096, .f32⟩
  | .hbm, ⟨18, _⟩ => ⟨S4x8x4096, .f32⟩
  | .hbm, ⟨19, _⟩ => ⟨S4x8x4096x1, .f32⟩
  | .hbm, ⟨20, _⟩ => ⟨S4x8x4096, .f32⟩
  | .hbm, ⟨21, _⟩ => ⟨S4x8x1x4096, .f32⟩
  | .hbm, ⟨22, _⟩ => ⟨S4x8x4096x4096, .f32⟩
  | .hbm, ⟨23, _⟩ => ⟨S4x8x4096x4096, .f32⟩
  | .hbm, ⟨24, _⟩ => ⟨S4x8x4096x4096, .f32⟩
  | .hbm, ⟨25, _⟩ => ⟨S4096x1, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S4x8x4096x4096, .f32⟩
  | .hbm, ⟨31, _⟩ => ⟨S_, .f32⟩
  | .hbm, ⟨32, _⟩ => ⟨S_, .f32⟩
  | .hbm, ⟨33, _⟩ => ⟨S4x8x4096x4096, .i1⟩
  | .hbm, ⟨34, _⟩ => ⟨S4x8x4096x4096, .f32⟩
  | .hbm, ⟨35, _⟩ => ⟨S4x8x4096x4096, .f32⟩
  | .hbm, ⟨36, _⟩ => ⟨S_, .f32⟩
  | .hbm, ⟨37, _⟩ => ⟨S4x8x4096, .f32⟩
  | .hbm, ⟨38, _⟩ => ⟨S_, .f32⟩
  | .hbm, ⟨39, _⟩ => ⟨S4x8x4096, .f32⟩
  | .hbm, ⟨40, _⟩ => ⟨S4x8x4096, .f32⟩
  | .hbm, ⟨41, _⟩ => ⟨S4x8x4096x1, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S_, .f32⟩
  | .hbm, ⟨46, _⟩ => ⟨S4x8x4096, .f32⟩
  | .hbm, ⟨47, _⟩ => ⟨S4x8x4096x1, .f32⟩
  | .hbm, ⟨48, _⟩ => ⟨S4x8x4096x4096, .f32⟩
  | .hbm, ⟨49, _⟩ => ⟨S4x8x4096x4096, .f32⟩
  | .hbm, ⟨50, _⟩ => ⟨S4x8x128x4096, .f32⟩
  | .hbm, ⟨51, _⟩ => ⟨S4x4096x8x128, .f32⟩
  | .hbm, ⟨52, _⟩ => ⟨S16384x1024, .f32⟩
  | .hbm, ⟨53, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x2816 : Shape := ⟨2, ![1024, 2816]⟩
abbrev S3x2816 : Shape := ⟨2, ![3, 2816]⟩
abbrev S4x2x2816 : Shape := ⟨3, ![4, 2, 2816]⟩
abbrev S2816x1024 : Shape := ⟨2, ![2816, 1024]⟩
abbrev S32x2x2816 : Shape := ⟨3, ![32, 2, 2816]⟩
abbrev S512x1024 : Shape := ⟨2, ![512, 1024]⟩
abbrev S1x2x2816 : Shape := ⟨3, ![1, 2, 2816]⟩
abbrev S520x2816 : Shape := ⟨2, ![520, 2816]⟩
abbrev S512 : Shape := ⟨1, ![512]⟩
abbrev S512x1 : Shape := ⟨2, ![512, 1]⟩
abbrev S2x2816 : Shape := ⟨2, ![2, 2816]⟩
abbrev S512x2816 : Shape := ⟨2, ![512, 2816]⟩
abbrev S1x2816 : Shape := ⟨2, ![1, 2816]⟩

abbrev nBuf : Space → Nat
  | .hbm => 10
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S4x2x2816, .f32⟩
  | .hbm, ⟨6, _⟩ => ⟨S2816x1024, .bf16⟩
  | .hbm, ⟨7, _⟩ => ⟨S1x1024, .f32⟩
  | .hbm, ⟨8, _⟩ => ⟨S16384x1024, .f32⟩
  | .hbm, ⟨9, _⟩ => ⟨S32x2x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2816, .f32⟩
  | .local _ .vmem, ⟨6, _⟩ => ⟨S1x2x2816, .f32⟩
  | .local _ .vmem, ⟨7, _⟩ => ⟨S1x2x2816, .f32⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x2x2816, .f32⟩
  | .local _ .vmem, ⟨13, _⟩ => ⟨S1x2x2816, .f32⟩
  | .local _ .vmem, ⟨14, _⟩ => ⟨S512x1024, .bf16⟩
  | .local _ .vmem, ⟨15, _⟩ => ⟨S512x1024, .f32⟩
  | .local _ .vmem, ⟨16, _⟩ => ⟨S520x2816, .f32⟩
  | .local _ .vmem, ⟨17, _⟩ => ⟨S1x2x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v16 : BitVec 1 := Scalar.xori v10 v_true
  let v17 : BitVec 32 := Scalar.extui v16
  let c0_i32_7 : BitVec 32 := 0#32
  let v18 : BitVec 1 := Scalar.cmpi .ne v17 c0_i32_7
  v18

def k0_off1 (i : grid0.Coords) : Fin 3 → Nat :=
  let arg1 : BitVec 32 := BitVec.ofNat 32 (i 1).val
  let v68 : Index := Scalar.indexCast arg1
  let c0_39 : Index := 0#32
  let c0_40 : Index := 0#32
  ![v68.toNat, 0, 0]
def k0_off2 (i : grid0.Coords) : Fin 3 → Nat :=
  let arg1 : BitVec 32 := BitVec.ofNat 32 (i 1).val
  let v28 : Index := Scalar.indexCast arg1
  let c0_16 : Index := 0#32
  let c0_17 : Index := 0#32
  ![v28.toNat, 0, 0]
def k0_cond4 (i : grid0.Coords) : BitVec 1 :=
  let arg1 : BitVec 32 := BitVec.ofNat 32 (i 1).val
  let c0_i32_37 : BitVec 32 := 0#32
  let v65 : BitVec 1 := Scalar.cmpi .eq arg1 c0_i32_37
  let v66 : BitVec 32 := Scalar.extui v65
  let c0_i32_38 : BitVec 32 := 0#32
  let v67 : BitVec 1 := Scalar.cmpi .ne v66 c0_i32_38
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x2x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16384x1024 : Shape := ⟨2, ![16384, 1024]⟩
abbrev S1x1024 : Shape := ⟨2, ![1, 1024]⟩
abbrev S1024x2816 : Shape := ⟨2, ![1024, 2816]⟩
abbrev S3x2816 : Shape := ⟨2, ![3, 2816]⟩
abbrev S4x2x2816 : Shape := ⟨3, ![4, 2, 2816]⟩
abbrev S2816x1024 : Shape := ⟨2, ![2816, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S4x4098x2816 : Shape := ⟨3, ![4, 4098, 2816]⟩
abbrev S1x2816 : Shape := ⟨2, ![1, 2816]⟩
abbrev S2816 : Shape := ⟨1, ![2816]⟩
abbrev S1x1x2816 : Shape := ⟨3, ![1, 1, 2816]⟩
abbrev S32x512x2816 : Shape := ⟨3, ![32, 512, 2816]⟩
abbrev S32x2x2816 : Shape := ⟨3, ![32, 2, 2816]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S4x2x2816, .f32⟩
  | .hbm, ⟨6, _⟩ => ⟨S2816x1024, .bf16⟩
  | .hbm, ⟨7, _⟩ => ⟨S1x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S1024x2816, .f32⟩
  | .hbm, ⟨26, _⟩ => ⟨S4x4096x2816, .f32⟩
  | .hbm, ⟨27, _⟩ => ⟨S4x4098x2816, .f32⟩
  | .hbm, ⟨28, _⟩ => ⟨S4x4096x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S4x4096x2816, .f32⟩
  | .hbm, ⟨33, _⟩ => ⟨S4x4096x2816, .f32⟩
  | .hbm, ⟨34, _⟩ => ⟨S4x4096x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S1x2816, .f32⟩
  | .hbm, ⟨43, _⟩ => ⟨S2816, .f32⟩
  | .hbm, ⟨44, _⟩ => ⟨S1x1x2816, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S_, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S1024x2816, .f32⟩
  | .hbm, ⟨58, _⟩ => ⟨S4x4096x2816, .f32⟩
  | .hbm, ⟨59, _⟩ => ⟨S4x4096x2816, .f32⟩
  | .hbm, ⟨60, _⟩ => ⟨S2816x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S1x1x1024, .f32⟩
  | .hbm, ⟨77, _⟩ => ⟨S4x4096x1024, .f32⟩
  | .hbm, ⟨78, _⟩ => ⟨S4x4096x1024, .f32⟩
  | .hbm, ⟨79, _⟩ => ⟨S32x512x2816, .f32⟩
  | .hbm, ⟨80, _⟩ => ⟨S32x2x2816, .f32⟩
  | .hbm, ⟨81, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_2 : Ref sig .tc := ⟨.hbm, 64, rfl⟩
abbrev main_v45 : Ref sig .tc := ⟨.hbm, 65, rfl⟩
abbrev main_v46 : Ref sig .tc := ⟨.hbm, 66, rfl⟩
abbrev main_cst_3 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x2816 : Shape := ⟨2, ![1024, 2816]⟩
abbrev S3x2816 : Shape := ⟨2, ![3, 2816]⟩
abbrev S4x2x2816 : Shape := ⟨3, ![4, 2, 2816]⟩
abbrev S2816x1024 : Shape := ⟨2, ![2816, 1024]⟩
abbrev S32x2x2816 : Shape := ⟨3, ![32, 2, 2816]⟩
abbrev S512x1024 : Shape := ⟨2, ![512, 1024]⟩
abbrev S1x2x2816 : Shape := ⟨3, ![1, 2, 2816]⟩
abbrev S520x2816 : Shape := ⟨2, ![520, 2816]⟩
abbrev S512 : Shape := ⟨1, ![512]⟩
abbrev S512x1 : Shape := ⟨2, ![512, 1]⟩
abbrev S2x2816 : Shape := ⟨2, ![2, 2816]⟩
abbrev S512x2816 : Shape := ⟨2, ![512, 2816]⟩
abbrev S1x2816 : Shape := ⟨2, ![1, 2816]⟩

abbrev nBuf : Space → Nat
  | .hbm => 10
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S4x2x2816, .f32⟩
  | .hbm, ⟨6, _⟩ => ⟨S2816x1024, .bf16⟩
  | .hbm, ⟨7, _⟩ => ⟨S1x1024, .f32⟩
  | .hbm, ⟨8, _⟩ => ⟨S16384x1024, .f32⟩
  | .hbm, ⟨9, _⟩ => ⟨S32x2x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2816, .f32⟩
  | .local _ .vmem, ⟨6, _⟩ => ⟨S1x2x2816, .f32⟩
  | .local _ .vmem, ⟨7, _⟩ => ⟨S1x2x2816, .f32⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x2x2816, .f32⟩
  | .local _ .vmem, ⟨13, _⟩ => ⟨S1x2x2816, .f32⟩
  | .local _ .vmem, ⟨14, _⟩ => ⟨S512x1024, .bf16⟩
  | .local _ .vmem, ⟨15, _⟩ => ⟨S512x1024, .f32⟩
  | .local _ .vmem, ⟨16, _⟩ => ⟨S520x2816, .f32⟩
  | .local _ .vmem, ⟨17, _⟩ => ⟨S1x2x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v16 : BitVec 1 := Scalar.xori v10 v_true
  let v17 : BitVec 32 := Scalar.extui v16
  let c0_i32_7 : BitVec 32 := 0#32
  let v18 : BitVec 1 := Scalar.cmpi .ne v17 c0_i32_7
  v18

def k0_off1 (i : grid0.Coords) : Fin 3 → Nat :=
  let arg1 : BitVec 32 := BitVec.ofNat 32 (i 1).val
  let v68 : Index := Scalar.indexCast arg1
  let c0_39 : Index := 0#32
  let c0_40 : Index := 0#32
  ![v68.toNat, 0, 0]
def k0_off2 (i : grid0.Coords) : Fin 3 → Nat :=
  let arg1 : BitVec 32 := BitVec.ofNat 32 (i 1).val
  let v28 : Index := Scalar.indexCast arg1
  let c0_16 : Index := 0#32
  let c0_17 : Index := 0#32
  ![v28.toNat, 0, 0]
def k0_cond4 (i : grid0.Coords) : BitVec 1 :=
  let arg1 : BitVec 32 := BitVec.ofNat 32 (i 1).val
  let c0_i32_37 : BitVec 32 := 0#32
  let v65 : BitVec 1 := Scalar.cmpi .eq arg1 c0_i32_37
  let v66 : BitVec 32 := Scalar.extui v65
  let c0_i32_38 : BitVec 32 := 0#32
  let v67 : BitVec 1 := Scalar.cmpi .ne v66 c0_i32_38
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x2x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S16384x1024 : Shape := ⟨2, ![16384, 1024]⟩
abbrev S1x1024 : Shape := ⟨2, ![1, 1024]⟩
abbrev S1024x2816 : Shape := ⟨2, ![1024, 2816]⟩
abbrev S3x2816 : Shape := ⟨2, ![3, 2816]⟩
abbrev S4x2x2816 : Shape := ⟨3, ![4, 2, 2816]⟩
abbrev S2816x1024 : Shape := ⟨2, ![2816, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S4x4098x2816 : Shape := ⟨3, ![4, 4098, 2816]⟩
abbrev S1x2816 : Shape := ⟨2, ![1, 2816]⟩
abbrev S2816 : Shape := ⟨1, ![2816]⟩
abbrev S1x1x2816 : Shape := ⟨3, ![1, 1, 2816]⟩
abbrev S32x512x2816 : Shape := ⟨3, ![32, 512, 2816]⟩
abbrev S32x2x2816 : Shape := ⟨3, ![32, 2, 2816]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S3x2816, .f32⟩
  | .hbm, ⟨5, _⟩ => ⟨S4x2x2816, .f32⟩
  | .hbm, ⟨6, _⟩ => ⟨S2816x1024, .bf16⟩
  | .hbm, ⟨7, _⟩ => ⟨S1x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S1024x2816, .f32⟩
  | .hbm, ⟨26, _⟩ => ⟨S4x4096x2816, .f32⟩
  | .hbm, ⟨27, _⟩ => ⟨S4x4098x2816, .f32⟩
  | .hbm, ⟨28, _⟩ => ⟨S4x4096x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S4x4096x2816, .f32⟩
  | .hbm, ⟨33, _⟩ => ⟨S4x4096x2816, .f32⟩
  | .hbm, ⟨34, _⟩ => ⟨S4x4096x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S1x2816, .f32⟩
  | .hbm, ⟨43, _⟩ => ⟨S2816, .f32⟩
  | .hbm, ⟨44, _⟩ => ⟨S1x1x2816, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S_, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S1024x2816, .f32⟩
  | .hbm, ⟨58, _⟩ => ⟨S4x4096x2816, .f32⟩
  | .hbm, ⟨59, _⟩ => ⟨S4x4096x2816, .f32⟩
  | .hbm, ⟨60, _⟩ => ⟨S2816x1024, .f32⟩
  | .hbm, ⟨61, _⟩ => ⟨S4x4096x1024, .f32⟩
  | .hbm, ⟨62, _⟩ => ⟨S4x4096x1024, .f32⟩
  | .hbm, ⟨63, _⟩ => ⟨S32x512x2816, .f32⟩
  | .hbm, ⟨64, _⟩ => ⟨S32x2x2816, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel5.lean ====
abbrev S16384x1024 : Shape := ⟨2, ![16384, 1024]⟩
abbrev S1x1024 : Shape := ⟨2, ![1, 1024]⟩
abbrev S1024x3072 : Shape := ⟨2, ![1024, 3072]⟩
abbrev S1024x128 : Shape := ⟨2, ![1024, 128]⟩
abbrev S131072x128 : Shape := ⟨2, ![131072, 128]⟩
abbrev S16384x3072 : Shape := ⟨2, ![16384, 3072]⟩
abbrev S16384x128 : Shape := ⟨2, ![16384, 128]⟩
abbrev S512x1024 : Shape := ⟨2, ![512, 1024]⟩
abbrev S4096x128 : Shape := ⟨2, ![4096, 128]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3072, .bf16⟩
  | .hbm, ⟨3, _⟩ => ⟨S1024x128, .bf16⟩
  | .hbm, ⟨4, _⟩ => ⟨S131072x128, .f32⟩
  | .hbm, ⟨5, _⟩ => ⟨S131072x128, .f32⟩
  | .hbm, ⟨6, _⟩ => ⟨S16384x3072, .bf16⟩
  | .hbm, ⟨7, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S512x3072, .bf16⟩
  | .local _ .vmem, ⟨10, _⟩ => ⟨S512x3072, .bf16⟩
  | .local _ .vmem, ⟨11, _⟩ => ⟨S512x128, .f32⟩
  | .local _ .vmem, ⟨12, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S1x1024 : Shape := ⟨2, ![1, 1024]⟩
abbrev S1024x3072 : Shape := ⟨2, ![1024, 3072]⟩
abbrev S1024x128 : Shape := ⟨2, ![1024, 128]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S131072x128 : Shape := ⟨2, ![131072, 128]⟩
abbrev S16384x128 : Shape := ⟨2, ![16384, 128]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3072, .bf16⟩
  | .hbm, ⟨3, _⟩ => ⟨S1024x128, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1024x3072, .f32⟩
  | .hbm, ⟨20, _⟩ => ⟨S16384x3072, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S131072x128, .f32⟩
  | .hbm, ⟨25, _⟩ => ⟨S131072x128, .f32⟩
  | .hbm, ⟨26, _⟩ => ⟨S16384x3072, .bf16⟩
  | .hbm, ⟨27, _⟩ => ⟨S1024x128, .f32⟩
  | .hbm, ⟨28, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel6.lean ====
abbrev S16384x1024 : Shape := ⟨2, ![16384, 1024]⟩
abbrev S1x1024 : Shape := ⟨2, ![1, 1024]⟩
abbrev S1024x3072 : Shape := ⟨2, ![1024, 3072]⟩
abbrev S16384x1536 : Shape := ⟨2, ![16384, 1536]⟩
abbrev S65536x128 : Shape := ⟨2, ![65536, 128]⟩
abbrev S512x1024 : Shape := ⟨2, ![512, 1024]⟩
abbrev S512x1536 : Shape := ⟨2, ![512, 1536]⟩
abbrev S2048x128 : Shape := ⟨2, ![2048, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3072, .bf16⟩
  | .hbm, ⟨3, _⟩ => ⟨S16384x1536, .f32⟩
  | .hbm, ⟨4, _⟩ => ⟨S65536x128, .f32⟩
  | .hbm, ⟨5, _⟩ => ⟨S65536x128, .f32⟩
  | .hbm, ⟨6, _⟩ => ⟨S16384x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1536, .f32⟩
  | .local _ .vmem, ⟨5, _⟩ => ⟨S512x1536, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S512x1536, .bf16⟩
  | .local _ .vmem, ⟨11, _⟩ => ⟨S512x1536, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x1024 : Shape := ⟨2, ![16384, 1024]⟩
abbrev S1x1024 : Shape := ⟨2, ![1, 1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S16384x1536 : Shape := ⟨2, ![16384, 1536]⟩
abbrev S16384x512 : Shape := ⟨2, ![16384, 512]⟩
abbrev S65536x128 : Shape := ⟨2, ![65536, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3072, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x3072, .f32⟩
  | .hbm, ⟨19, _⟩ => ⟨S16384x3072, .f32⟩
  | .hbm, ⟨20, _⟩ => ⟨S16384x1536, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S65536x128, .f32⟩
  | .hbm, ⟨25, _⟩ => ⟨S65536x128, .f32⟩
  | .hbm, ⟨26, _⟩ => ⟨S16384x1536, .f32⟩
  | .hbm, ⟨27, _⟩ => ⟨S16384x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Proof.Trip.lean ====
/- One trip of the kernel's loop over key tiles, read back: the three scratch buffers hold, per head, a running row maximum, a running
   sum of weights and a running weighted sum of values, and a trip replaces each head's part by one step of the online softmax. -/
module

public import proofs.«01_k».proof.Proof.Gen.KernelIdeal.Value
public import Idealize.ShloMosaic.Lib.WritesUnit

@[expose] public section

set_option maxRecDepth 16384

noncomputable section

namespace Cert.KernelIdeal.Trip

open Cert.KernelIdeal Cert.KernelIdeal.Gen Idealize.ShloMosaic Idealize.ShloMosaic.TcCoe Idealize.ShloMosaic.Tactic

variable {F : FTy → Type} [FloatOps F] [Named F]

/-- The first head's part of a scratch buffer. -/
abbrev head0 : Rect S2x1024x128 := Rect.unit ![0, 0, 0] S1x1024x128.size inb_S2x1024x128_S1x1024x128_0_0_0
/-- The second head's part of a scratch buffer. -/
abbrev head1 : Rect S2x1024x128 := Rect.unit ![1, 0, 0] S1x1024x128.size inb_S2x1024x128_S1x1024x128_1_0_0

/-- What a scratch buffer's contents are under one rectangle. -/
abbrev part (a : Memref sig .tc .vmem S2x1024x128 .f32) (r : Rect S2x1024x128) (f : BufTy.Contents (Elt F) a.view.ty) :
    r.shape.Idx → Elt F .f32 := View.readAt (Elt F) a.view r.toLoadRect f

/-- A store to a part, read back at that part, is the stored value. -/
theorem part_same (a : Memref sig .tc .vmem S2x1024x128 .f32) (r : Rect S2x1024x128) (f : BufTy.Contents (Elt F) a.view.ty)
    (w : r.shape.Idx → Elt F .f32) (L : List (View.Piece (Elt F) S2x1024x128 .f32)) :
    part a r (a.view.writes (Elt F) f (⟨r, w⟩ :: L)) = w := by
  funext x
  exact View.read_writes_cons_emb a.view f r w L x

/-- A store to a part disjoint from the one read is not seen. -/
theorem part_other (a : Memref sig .tc .vmem S2x1024x128 .f32) (r r' : Rect S2x1024x128) (h : Disjoint r.set r'.set)
    (f : BufTy.Contents (Elt F) a.view.ty) (w : r.shape.Idx → Elt F .f32) (L : List (View.Piece (Elt F) S2x1024x128 .f32)) :
    part a r' (a.view.writes (Elt F) f (⟨r, w⟩ :: L)) = part a r' (a.view.writes (Elt F) f L) := by
  funext x
  have hx : r'.idx x ∉ Finset.univ.map r.emb := by
    rw [Rect.map_emb_univ]
    exact Finset.disjoint_right.mp h (r'.idx_mem x)
  show a.view.read (Elt F) (a.view.writes (Elt F) f (⟨r, w⟩ :: L)) (r'.idx x) = _
  rw [View.writes_cons]
  exact View.read_slice_write_of_not_mem _ _ _ _ hx

theorem disjoint_heads : Disjoint head0.set head1.set := by
  rw [Finset.disjoint_left]
  intro y h0 h1
  rw [Rect.mem_set_unit] at h0 h1
  have a0 := h0 0
  have a1 := h1 0
  have e0 : (![0, 0, 0] : Fin 3 → ℕ) 0 = 0 := rfl
  have e1 : (![1, 0, 0] : Fin 3 → ℕ) 0 = 1 := rfl
  have e2 : S1x1024x128.size 0 = 1 := rfl
  omega

/-- One head's maximum after a tile of scores `s`. -/
abbrev newM (s : FVec F S1024x1024 .f32) (m : Vec F S1x1024x128 .f32) : Vec F S1x1024x128 .f32 := k0_pay17 s m
/-- One head's sum of weights after a tile of scores `s`. -/
abbrev newL (s : FVec F S1024x1024 .f32) (m l : Vec F S1x1024x128 .f32) : Vec F S1x1024x128 .f32 := k0_pay18 s m l
/-- One head's weighted sum of values `v` after a tile of scores `s`. -/
abbrev newA (s : FVec F S1024x1024 .f32) (m a : Vec F S1x1024x128 .f32) (v : Vec F S1024x128 .bf16) : Vec F S1x1024x128 .f32 :=
  k0_pay48 (k0_pay20 s m) (k0_pay21 (k0_pay19 s m a)) v

section
variable (𝒱 : Variants) (c : Dev nD) (bd : Option 𝒱.V) (i : grid0.Coords)
  (arg3 : Memref sig .tc .vmem S1024x256 .bf16) (harg3 : arg3.IsWhole) (arg4 : Memref sig .tc .vmem S4096x256 .bf16) (harg4 : arg4.IsWhole)
  (arg5 : Memref sig .tc .vmem S4096x256 .bf16) (harg5 : arg5.IsWhole) (arg6 : Memref sig .tc .vmem S2x4x1x1024 .f32) (harg6 : arg6.IsWhole)
  (arg7 : Memref sig .tc .vmem S1024x256 .bf16) (harg7 : arg7.IsWhole) (arg8 : Memref sig .tc .vmem S2x1024x128 .f32) (harg8 : arg8.IsWhole)
  (arg9 : Memref sig .tc .vmem S2x1024x128 .f32) (harg9 : arg9.IsWhole) (arg10 : Memref sig .tc .vmem S2x1024x128 .f32) (harg10 : arg10.IsWhole)
  (arg2 : BitVec 32) (v0 v1 : IVec S1024x1024 32) (v14 v15 : Vec F S1024x128 .bf16) (v27 : FVec F S1024x1 .f32)
  (v28 : IVec S1024x1024 1) (v30 : Vec F S1x1x1x1024 .f32)
  (X4 : BufTy.Contents (Elt F) arg4.view.ty) (X5 : BufTy.Contents (Elt F) arg5.view.ty) (X6 : BufTy.Contents (Elt F) arg6.view.ty)
  (k : Fin (k0_t1_loop i).trips)
  (f8 : BufTy.Contents (Elt F) arg8.view.ty) (f9 : BufTy.Contents (Elt F) arg9.view.ty) (f10 : BufTy.Contents (Elt F) arg10.view.ty)

/-- The first head's scores of tile `k`. -/
abbrev score0 : FVec F S1024x1024 .f32 :=
  k0_pay2 v14 v27 (View.readAt (Elt F) arg4.view (Rect.unit (s := S4096x256) (k0_off3 i k) S1024x128.size (k0_off3_inb i k)).toLoadRect X4)
    (View.readAt (Elt F) arg6.view (Rect.unit (s := S2x4x1x1024) (k0_off4 i k) S1x1x1x1024.size (k0_off4_inb i k)).toLoadRect X6)
/-- The second head's scores of tile `k`. -/
abbrev score1 : FVec F S1024x1024 .f32 :=
  k0_pay12 v15 (k0_pay47 v28 v30) (View.readAt (Elt F) arg4.view (Rect.unit (s := S4096x256) (k0_off5 i k) S1024x128.size (k0_off5_inb i k)).toLoadRect X4)
    (View.readAt (Elt F) arg6.view (Rect.unit (s := S2x4x1x1024) (k0_off6 i k) S1x1x1x1024.size (k0_off6_inb i k)).toLoadRect X6)

/-- The first head's values of tile `k`. -/
abbrev val0 : Vec F S1024x128 .bf16 :=
  View.readAt (Elt F) arg5.view (Rect.unit (s := S4096x256) (k0_off3 i k) S1024x128.size (k0_off3_inb i k)).toLoadRect X5
/-- The second head's values of tile `k`. -/
abbrev val1 : Vec F S1024x128 .bf16 :=
  View.readAt (Elt F) arg5.view (Rect.unit (s := S4096x256) (k0_off5 i k) S1024x128.size (k0_off5_inb i k)).toLoadRect X5

/-- A trip's effect on the six parts: each is one step of the online softmax over the contents the trip finds. -/
theorem trip_read (T : List (View.Piece (Elt F) S2x1024x128 .f32) × List (View.Piece (Elt F) S2x1024x128 .f32) × List (View.Piece (Elt F) S2x1024x128 .f32))
    (hT : T = tripL_k0_t1 (F := F) 𝒱 c bd i arg3 harg3 arg4 harg4 arg5 harg5 arg6 harg6 arg7 harg7 arg8 harg8 arg9 harg9 arg10 harg10 arg2 v0 v1 v14 v15 v27 v28 v30 X4 X5 X6 k f8 f9 f10)
    (L8 L9 L10 : List (View.Piece (Elt F) S2x1024x128 .f32)) :
    (part arg8 head0 (arg8.view.writes (Elt F) f8 (T.1 ++ L8)) = newM (score0 i arg4 arg6 v14 v27 X4 X6 k) (part arg8 head0 f8)
      ∧ part arg9 head0 (arg9.view.writes (Elt F) f9 (T.2.1 ++ L9))
          = newL (score0 i arg4 arg6 v14 v27 X4 X6 k) (part arg8 head0 f8) (part arg9 head0 f9)
      ∧ part arg10 head0 (arg10.view.writes (Elt F) f10 (T.2.2 ++ L10))
          = newA (score0 i arg4 arg6 v14 v27 X4 X6 k) (part arg8 head0 f8) (part arg10 head0 f10) (val0 i arg5 X5 k))
    ∧ (part arg8 head1 (arg8.view.writes (Elt F) f8 (T.1 ++ L8)) = newM (score1 i arg4 arg6 v15 v28 v30 X4 X6 k) (part arg8 head1 f8)
      ∧ part arg9 head1 (arg9.view.writes (Elt F) f9 (T.2.1 ++ L9))
          = newL (score1 i arg4 arg6 v15 v28 v30 X4 X6 k) (part arg8 head1 f8) (part arg9 head1 f9)
      ∧ part arg10 head1 (arg10.view.writes (Elt F) f10 (T.2.2 ++ L10))
          = newA (score1 i arg4 arg6 v15 v28 v30 X4 X6 k) (part arg8 head1 f8) (part arg10 head1 f10) (val1 i arg5 X5 k)) := by
  subst hT
  unfold tripL_k0_t1 trip_k0_t1
  dsimp only
  refine ⟨⟨?_, ?_, ?_⟩, ?_, ?_, ?_⟩
  · exact (part_other arg8 head1 head0 disjoint_heads.symm _ _ _).trans (part_same arg8 head0 _ _ _)
  · exact (part_other arg9 head1 head0 disjoint_heads.symm _ _ _).trans (part_same arg9 head0 _ _ _)
  · refine (part_other arg10 head1 head0 disjoint_heads.symm _ _ _).trans ?_
    sl_unfold_words
    refine (part_other arg10 head1 head0 disjoint_heads.symm _ _ _).trans ((part_same arg10 head0 _ _ _).trans ?_)
    rw [View.readCov_cons_toLoadRect]
    rfl
  · exact part_same arg8 head1 _ _ _
  · exact part_same arg9 head1 _ _ _
  · refine (part_same arg10 head1 _ _ _).trans ?_
    sl_unfold_words
    rw [View.readCov_cons_toLoadRect]
    rfl
end

end Cert.KernelIdeal.Trip

end
-- ==== Proof.Body.lean ====
/- The kernel's body at one grid point, read back: the block it writes is, per head, the weighted sum over the sum of weights after the
   loop's tiles and the diagonal tile. -/
module

public import proofs.«01_k».proof.Proof.Trip

@[expose] public section

set_option maxRecDepth 16384

noncomputable section

namespace Cert.KernelIdeal.Trip

open Cert.KernelIdeal Cert.KernelIdeal.Gen Idealize.ShloMosaic Idealize.ShloMosaic.TcCoe Idealize.ShloMosaic.Tactic

variable {F : FTy → Type} [FloatOps F] [Named F]

/-- The main loop makes one trip per key tile before the diagonal one. -/
theorem trips1 : ∀ i : grid0.Coords, (k0_t1_loop i).trips = (i 2).val := by decide +kernel
/-- The remainder loop makes no trip. -/
theorem trips2 : ∀ i : grid0.Coords, (k0_t2_loop i).trips = 0 := by decide +kernel

theorem pb2_zero (𝒱 : Variants) (c : Dev nD) (bd : Option 𝒱.V) (i : grid0.Coords)
    (arg3 : Memref sig .tc .vmem S1024x256 .bf16) (harg3 : arg3.IsWhole) (arg4 : Memref sig .tc .vmem S4096x256 .bf16) (harg4 : arg4.IsWhole)
    (arg5 : Memref sig .tc .vmem S4096x256 .bf16) (harg5 : arg5.IsWhole) (arg6 : Memref sig .tc .vmem S2x4x1x1024 .f32) (harg6 : arg6.IsWhole)
    (arg7 : Memref sig .tc .vmem S1024x256 .bf16) (harg7 : arg7.IsWhole) (arg8 : Memref sig .tc .vmem S2x1024x128 .f32) (harg8 : arg8.IsWhole)
    (arg9 : Memref sig .tc .vmem S2x1024x128 .f32) (harg9 : arg9.IsWhole) (arg10 : Memref sig .tc .vmem S2x1024x128 .f32) (harg10 : arg10.IsWhole)
    (arg2 : BitVec 32) (v0 v1 : IVec S1024x1024 32) (v14 v15 : Vec F S1024x128 .bf16) (v27 : FVec F S1024x1 .f32)
    (v28 : IVec S1024x1024 1) (v30 : Vec F S1x1x1x1024 .f32) (v44 : BitVec 32)
    (X4 : BufTy.Contents (Elt F) arg4.view.ty) (X5 : BufTy.Contents (Elt F) arg5.view.ty) (X6 : BufTy.Contents (Elt F) arg6.view.ty)
    (f8 : BufTy.Contents (Elt F) arg8.view.ty) (f9 : BufTy.Contents (Elt F) arg9.view.ty) (f10 : BufTy.Contents (Elt F) arg10.view.ty) :
    pb_k0_t2 (F := F) 𝒱 c bd i arg3 harg3 arg4 harg4 arg5 harg5 arg6 harg6 arg7 harg7 arg8 harg8 arg9 harg9 arg10 harg10 arg2 v0 v1 v14 v15 v27 v28 v30 v44 X4 X5 X6 f8 f9 f10 0
      = ([], [], []) := rfl

section
variable (c : Dev nD) (i : grid0.Coords)
  (arg3 : Memref sig .tc .vmem S1024x256 .bf16) (harg3 : arg3.IsWhole) (arg4 : Memref sig .tc .vmem S4096x256 .bf16) (harg4 : arg4.IsWhole)
  (arg5 : Memref sig .tc .vmem S4096x256 .bf16) (harg5 : arg5.IsWhole) (arg6 : Memref sig .tc .vmem S2x4x1x1024 .f32) (harg6 : arg6.IsWhole)
  (arg7 : Memref sig .tc .vmem S1024x256 .bf16) (harg7 : arg7.IsWhole) (arg8 : Memref sig .tc .vmem S2x1024x128 .f32) (harg8 : arg8.IsWhole)
  (arg9 : Memref sig .tc .vmem S2x1024x128 .f32) (harg9 : arg9.IsWhole) (arg10 : Memref sig .tc .vmem S2x1024x128 .f32) (harg10 : arg10.IsWhole)
  (x0 : Vec F S1024x256 .bf16) (x1 x2 : Vec F S4096x256 .bf16) (x3 : Vec F S2x4x1x1024 .f32)

/-- The first head's queries. -/
abbrev Q0 : Vec F S1024x128 .bf16 := View.readAt (Elt F) arg3.view (Rect.unit (s := S1024x256) ![0, 0] S1024x128.size inb_S1024x256_S1024x128_0_0).toLoadRect (harg3.unread x0)
/-- The second head's queries. -/
abbrev Q1 : Vec F S1024x128 .bf16 := View.readAt (Elt F) arg3.view (Rect.unit (s := S1024x256) ![0, 128] S1024x128.size inb_S1024x256_S1024x128_0_128).toLoadRect (harg3.unread x0)
/-- The first head's gates at the query tile's positions. -/
abbrev G0 : Vec F S1x1x1x1024 .f32 := View.readAt (Elt F) arg6.view (Rect.unit (s := S2x4x1x1024) (k0_off1 i) S1x1x1x1024.size (k0_off1_inb i)).toLoadRect (harg6.unread x3)
/-- The second head's gates at the query tile's positions. -/
abbrev G1 : Vec F S1x1x1x1024 .f32 := View.readAt (Elt F) arg6.view (Rect.unit (s := S2x4x1x1024) (k0_off2 i) S1x1x1x1024.size (k0_off2_inb i)).toLoadRect (harg6.unread x3)

/-- Scores with the entries above the diagonal masked. -/
abbrev masked (s : FVec F S1024x1024 .f32) : FVec F S1024x1024 .f32 :=
  select (cmpi .sge (iota .tc S1024x1024 32 [0] iota_S1024x1024_d0_w32) (iota .tc S1024x1024 32 [1] iota_S1024x1024_d1_w32)) s
    (broadcast S1024x1024 (Named.named κ "mask" 0xF149F2CA#32))

/-- The first head's scores of the diagonal tile. -/
abbrev diag0 : FVec F S1024x1024 .f32 :=
  masked (k0_pay2 (Q0 arg3 harg3 x0) (k0_pay45 (G0 i arg6 harg6 x3)) (View.readAt (Elt F) arg4.view (Rect.unit (s := S4096x256) (k0_off11 i) S1024x128.size (k0_off11_inb i)).toLoadRect (harg4.unread x1)) (G0 i arg6 harg6 x3))
/-- The second head's scores of the diagonal tile. -/
abbrev diag1 : FVec F S1024x1024 .f32 :=
  masked (k0_pay2 (Q1 arg3 harg3 x0) (k0_pay45 (G1 i arg6 harg6 x3)) (View.readAt (Elt F) arg4.view (Rect.unit (s := S4096x256) (k0_off12 i) S1024x128.size (k0_off12_inb i)).toLoadRect (harg4.unread x1)) (G1 i arg6 harg6 x3))
/-- The first head's values of the diagonal tile. -/
abbrev dval0 : Vec F S1024x128 .bf16 := View.readAt (Elt F) arg5.view (Rect.unit (s := S4096x256) (k0_off11 i) S1024x128.size (k0_off11_inb i)).toLoadRect (harg5.unread x2)
/-- The second head's values of the diagonal tile. -/
abbrev dval1 : Vec F S1024x128 .bf16 := View.readAt (Elt F) arg5.view (Rect.unit (s := S4096x256) (k0_off12 i) S1024x128.size (k0_off12_inb i)).toLoadRect (harg5.unread x2)

/-- The pieces the first `n` trips have written. -/
abbrev pieces (n : ℕ) := pb_k0_t1 (F := F) Variants.none c none i arg3 harg3 arg4 harg4 arg5 harg5 arg6 harg6 arg7 harg7 arg8 harg8 arg9 harg9 arg10 harg10
  (BitVec.ofNat 32 (i 2).val) (iota .tc S1024x1024 32 [0] iota_S1024x1024_d0_w32) (iota .tc S1024x1024 32 [1] iota_S1024x1024_d1_w32)
  (Q0 arg3 harg3 x0) (Q1 arg3 harg3 x0) (k0_pay45 (G0 i arg6 harg6 x3)) k0_pay46 (G1 i arg6 harg6 x3) (harg4.unread x1) (harg5.unread x2) (harg6.unread x3)
  (arg8.view.writes (Elt F) arg8.view.junk [⟨Rect.unit ![0, 0, 0] S2x1024x128.size inb_S2x1024x128_S2x1024x128_0_0_0, k0_pay42⟩])
  (arg9.view.writes (Elt F) arg9.view.junk [⟨Rect.unit ![0, 0, 0] S2x1024x128.size inb_S2x1024x128_S2x1024x128_0_0_0, k0_pay43⟩])
  (arg10.view.writes (Elt F) arg10.view.junk [⟨Rect.unit ![0, 0, 0] S2x1024x128.size inb_S2x1024x128_S2x1024x128_0_0_0, k0_pay44⟩]) n

/-- The maxima's buffer after `n` trips. -/
abbrev W8 (n : ℕ) := arg8.view.writes (Elt F) arg8.view.junk
  ((pieces c i arg3 harg3 arg4 harg4 arg5 harg5 arg6 harg6 arg7 harg7 arg8 harg8 arg9 harg9 arg10 harg10 x0 x1 x2 x3 n).1
    ++ [⟨Rect.unit ![0, 0, 0] S2x1024x128.size inb_S2x1024x128_S2x1024x128_0_0_0, k0_pay42⟩])
/-- The sums' buffer after `n` trips. -/
abbrev W9 (n : ℕ) := arg9.view.writes (Elt F) arg9.view.junk
  ((pieces c i arg3 harg3 arg4 harg4 arg5 harg5 arg6 harg6 arg7 harg7 arg8 harg8 arg9 harg9 arg10 harg10 x0 x1 x2 x3 n).2.1
    ++ [⟨Rect.unit ![0, 0, 0] S2x1024x128.size inb_S2x1024x128_S2x1024x128_0_0_0, k0_pay43⟩])
/-- The weighted sums' buffer after `n` trips. -/
abbrev W10 (n : ℕ) := arg10.view.writes (Elt F) arg10.view.junk
  ((pieces c i arg3 harg3 arg4 harg4 arg5 harg5 arg6 harg6 arg7 harg7 arg8 harg8 arg9 harg9 arg10 harg10 x0 x1 x2 x3 n).2.2
    ++ [⟨Rect.unit ![0, 0, 0] S2x1024x128.size inb_S2x1024x128_S2x1024x128_0_0_0, k0_pay44⟩])

/-- The first head's sum of weights at the end. -/
theorem last_l0 : kernelRun0_A.sl.v163 c i arg3 harg3 arg4 harg4 arg5 harg5 arg6 harg6 arg7 harg7 arg8 harg8 arg9 harg9 arg10 harg10 x0 x1 x2 x3
    = newL (diag0 i arg3 harg3 arg4 harg4 arg6 harg6 x0 x1 x3)
        (part arg8 head0 (W8 c i arg3 harg3 arg4 harg4 arg5 harg5 arg6 harg6 arg7 harg7 arg8 harg8 arg9 harg9 arg10 harg10 x0 x1 x2 x3 (k0_t1_loop i).trips)) (part arg9 head0 (W9 c i arg3 harg3 arg4 harg4 arg5 harg5 arg6 harg6 arg7 harg7 arg8 harg8 arg9 harg9 arg10 harg10 x0 x1 x2 x3 (k0_t1_loop i).trips)) := by
  have h2 : Scf.trips (k0_t2_loop i).lb (k0_t2_loop i).ub (k0_t2_loop i).st = 0 := trips2 i
  sl_unfold_run_names
  rw [h2, pb2_zero]
  refine (part_other arg9 head1 head0 disjoint_heads.symm _ _ _).trans ((part_same arg9 head0 _ _ _).trans ?_)
  rfl

/-- The second head's sum of weights at the end. -/
theorem last_l1 : kernelRun0_A.sl.v170 c i arg3 harg3 arg4 harg4 arg5 harg5 arg6 harg6 arg7 harg7 arg8 harg8 arg9 harg9 arg10 harg10 x0 x1 x2 x3
    = newL (diag1 i arg3 harg3 arg4 harg4 arg6 harg6 x0 x1 x3)
        (part arg8 head1 (W8 c i arg3 harg3 arg4 harg4 arg5 harg5 arg6 harg6 arg7 harg7 arg8 harg8 arg9 harg9 arg10 harg10 x0 x1 x2 x3 (k0_t1_loop i).trips)) (part arg9 head1 (W9 c i arg3 harg3 arg4 harg4 arg5 harg5 arg6 harg6 arg7 harg7 arg8 harg8 arg9 harg9 arg10 harg10 x0 x1 x2 x3 (k0_t1_loop i).trips)) := by
  have h2 : Scf.trips (k0_t2_loop i).lb (k0_t2_loop i).ub (k0_t2_loop i).st = 0 := trips2 i
  sl_unfold_run_names
  rw [h2, pb2_zero]
  refine (part_same arg9 head1 _ _ _).trans ?_
  rw [View.readCov_cons_of_disjoint arg9.view ⟨head0, _⟩ _ head1.toLoadRect disjoint_heads,
    View.readCov_cons_of_disjoint arg8.view ⟨head0, _⟩ _ head1.toLoadRect disjoint_heads]
  rfl

/-- The first head's weighted sum at the end. -/
theorem last_a0 : kernelRun0_A.sl.v161 c i arg3 harg3 arg4 harg4 arg5 harg5 arg6 harg6 arg7 harg7 arg8 harg8 arg9 harg9 arg10 harg10 x0 x1 x2 x3
    = newA (diag0 i arg3 harg3 arg4 harg4 arg6 harg6 x0 x1 x3)
        (part arg8 head0 (W8 c i arg3 harg3 arg4 harg4 arg5 harg5 arg6 harg6 arg7 harg7 arg8 harg8 arg9 harg9 arg10 harg10 x0 x1 x2 x3 (k0_t1_loop i).trips)) (part arg10 head0 (W10 c i arg3 harg3 arg4 harg4 arg5 harg5 arg6 harg6 arg7 harg7 arg8 harg8 arg9 harg9 arg10 harg10 x0 x1 x2 x3 (k0_t1_loop i).trips)) (dval0 i arg5 harg5 x2) := by
  have h2 : Scf.trips (k0_t2_loop i).lb (k0_t2_loop i).ub (k0_t2_loop i).st = 0 := trips2 i
  sl_unfold_run_names
  rw [h2, pb2_zero]
  refine (part_other arg10 head1 head0 disjoint_heads.symm _ _ _).trans
    ((part_other arg10 head1 head0 disjoint_heads.symm _ _ _).trans ((part_same arg10 head0 _ _ _).trans ?_))
  rw [View.readCov_cons_toLoadRect]
  rfl

/-- The second head's weighted sum at the end. -/
theorem last_a1 : kernelRun0_A.sl.v168 c i arg3 harg3 arg4 harg4 arg5 harg5 arg6 harg6 arg7 harg7 arg8 harg8 arg9 harg9 arg10 harg10 x0 x1 x2 x3
    = newA (diag1 i arg3 harg3 arg4 harg4 arg6 harg6 x0 x1 x3)
        (part arg8 head1 (W8 c i arg3 harg3 arg4 harg4 arg5 harg5 arg6 harg6 arg7 harg7 arg8 harg8 arg9 harg9 arg10 harg10 x0 x1 x2 x3 (k0_t1_loop i).trips)) (part arg10 head1 (W10 c i arg3 harg3 arg4 harg4 arg5 harg5 arg6 harg6 arg7 harg7 arg8 harg8 arg9 harg9 arg10 harg10 x0 x1 x2 x3 (k0_t1_loop i).trips)) (dval1 i arg5 harg5 x2) := by
  have h2 : Scf.trips (k0_t2_loop i).lb (k0_t2_loop i).ub (k0_t2_loop i).st = 0 := trips2 i
  sl_unfold_run_names
  rw [h2, pb2_zero]
  refine (part_same arg10 head1 _ _ _).trans ?_
  rw [View.readCov_cons_toLoadRect,
    View.readCov_cons_of_disjoint arg10.view ⟨head0, _⟩ _ head1.toLoadRect disjoint_heads,
    View.readCov_cons_of_disjoint arg10.view ⟨head0, _⟩ _ head1.toLoadRect disjoint_heads,
    View.readCov_cons_of_disjoint arg8.view ⟨head0, _⟩ _ head1.toLoadRect disjoint_heads]
  rfl

end

end Cert.KernelIdeal.Trip

end
-- ==== Proof.Tile.lean ====
/- The kernel's vector expressions read at an index over the extended reals: a tile of scores, and what a tile does to one row's running
   maximum, sum of weights and weighted sum. -/
module

public import proofs.«01_k».proof.Proof.Body
public import Idealize.ShloMosaic.Lib.Pointwise

@[expose] public section

set_option maxRecDepth 16384

noncomputable section

namespace Cert.KernelIdeal.Trip

open Cert.KernelIdeal Cert.KernelIdeal.Gen Idealize.ShloMosaic Idealize.ShloMosaic.TcCoe Idealize.ShloMosaic.Tactic

/-- The word the maximum starts from is minus infinity. -/
theorem ofBits_bot : Ideal.ofBits .f32 0xFF800000#32 = ⊥ := by
  simp [Ideal.ofBits, Ideal.ieee]

theorem mask_val : (Named.named κ "mask" 0xF149F2CA#32 : Ideal .f32) = (⊥ : EReal) := IdealRules.named_const.ideal_named_scalar _ _ _ _ rfl
theorem log2e_val : (Named.named κ "log2e" 0x3FB8AA3B#32 : Ideal .f32) = (((Real.log 2)⁻¹ : ℝ) : EReal) := IdealRules.named_const.ideal_named_scalar _ _ _ _ rfl
theorem scale2_val : (Named.named κ "scale2" 0x3E0293EE#32 : Ideal .f32) = ((((Real.sqrt 128) * (Real.log 2))⁻¹ : ℝ) : EReal) := IdealRules.named_const.ideal_named_scalar _ _ _ _ rfl

/-- The gates' column: the row's own gate, in base two. -/
theorem pay45_at (g : Vec Ideal S1x1x1x1024 .f32) (r : Fin 1024) :
    k0_pay45 g (ix2 r 0) = g (ix4 0 0 0 r) * (((Real.log 2)⁻¹ : ℝ) : EReal) := by
  pointwise [k0_pay45, log2e_val]
  congr 1
  have e : ∀ x : Fin 1024, IntOp.cmpi CmpIPredicate.eq (BitVec.ofNat 32 r.val) (BitVec.ofNat 32 x.val) = BitVec.ofBool (decide (r = x)) := by
    intro x
    have hr := r.isLt
    have hx := x.isLt
    have h : (BitVec.ofNat 32 r.val = BitVec.ofNat 32 x.val) ↔ r = x := by
      rw [← BitVec.toNat_inj, BitVec.toNat_ofNat, BitVec.toNat_ofNat, Nat.mod_eq_of_lt (by omega), Nat.mod_eq_of_lt (by omega), Fin.ext_iff]
    exact congrArg BitVec.ofBool (decide_eq_decide.mpr h)
  simp only [e, Scalar.select_decide]
  rw [Finset.sum_ite_eq]
  simp

/-- A score. -/
theorem pay2_at (q : Vec Ideal S1024x128 .bf16) (cq : FVec Ideal S1024x1 .f32) (K : Vec Ideal S1024x128 .bf16) (g : Vec Ideal S1x1x1x1024 .f32)
    (r j : Fin 1024) :
    k0_pay2 q cq K g (ix2 r j) = (∑ d : Fin 128, (q (ix2 r d) * K (ix2 j d) : EReal)) * ((((Real.sqrt 128) * (Real.log 2))⁻¹ : ℝ) : EReal)
      + (cq (ix2 r 0) - g (ix4 0 0 0 j) * (((Real.log 2)⁻¹ : ℝ) : EReal)) := by
  pointwise [k0_pay2, log2e_val, scale2_val]

theorem masked_at (s : FVec Ideal S1024x1024 .f32) (r j : Fin 1024) :
    masked s (ix2 r j) = if j ≤ r then s (ix2 r j) else (⊥ : EReal) := by
  pointwise [masked, mask_val]
  have e : IntOp.cmpi CmpIPredicate.sge (BitVec.ofNat 32 r.val) (BitVec.ofNat 32 j.val) = BitVec.ofBool (decide (j ≤ r)) := by
    have hr := r.isLt
    have hj := j.isLt
    have t : ∀ a : ℕ, a < 1024 → (BitVec.ofNat 32 a).toInt = (a : ℤ) := fun a ha => by
      rw [BitVec.toInt_eq_toNat_of_lt (by rw [BitVec.toNat_ofNat, Nat.mod_eq_of_lt (by omega)]; omega), BitVec.toNat_ofNat, Nat.mod_eq_of_lt (by omega)]
    have h : ((BitVec.ofNat 32 j.val).toInt ≤ (BitVec.ofNat 32 r.val).toInt) ↔ j ≤ r := by
      rw [t _ hr, t _ hj, Fin.le_def]
      exact Int.ofNat_le
    exact congrArg BitVec.ofBool (decide_eq_decide.mpr h)
  rw [e, Scalar.select_decide]

theorem pay14_at (s : FVec Ideal S1024x1024 .f32) (m : Vec Ideal S1x1024x128 .f32) (r : Fin 1024) (d : Fin 128) :
    k0_pay14 s m (ix2 r d) = max (m (ix3 0 r d) : EReal) (Finset.univ.sup fun j : Fin 1024 => (s (ix2 r j) : EReal)) := by
  pointwise [k0_pay14, k0_pay13, ofBits_bot]
  rfl

theorem newM_at (s : FVec Ideal S1024x1024 .f32) (m : Vec Ideal S1x1024x128 .f32) (r : Fin 1024) (d : Fin 128) :
    newM s m (ix3 0 r d) = max (m (ix3 0 r d) : EReal) (Finset.univ.sup fun j : Fin 1024 => (s (ix2 r j) : EReal)) := by
  rw [← pay14_at]
  pointwise [newM, k0_pay17]

theorem pay16_at (s : FVec Ideal S1024x1024 .f32) (m : Vec Ideal S1x1024x128 .f32) (M : EReal) (r : Fin 1024) (hm : ∀ d, m (ix3 0 r d) = M) (j : Fin 1024) :
    k0_pay16 s m (ix2 r j) = Ideal.exp2 (s (ix2 r j) - max M (Finset.univ.sup fun j : Fin 1024 => (s (ix2 r j) : EReal))) := by
  have h := fun d => pay14_at s m r d
  simp only [hm] at h
  pointwise [k0_pay16]
  simp only [h]
  split_ifs <;> rfl

theorem newL_at (s : FVec Ideal S1024x1024 .f32) (m l : Vec Ideal S1x1024x128 .f32) (M : EReal) (r : Fin 1024) (hm : ∀ d, m (ix3 0 r d) = M) (d : Fin 128) :
    newL s m l (ix3 0 r d) = Ideal.exp2 (M - max M (Finset.univ.sup fun j : Fin 1024 => (s (ix2 r j) : EReal))) * l (ix3 0 r d)
      + ∑ j : Fin 1024, Ideal.exp2 (s (ix2 r j) - max M (Finset.univ.sup fun j : Fin 1024 => (s (ix2 r j) : EReal))) := by
  simp only [← pay16_at s m M r hm]
  have h := pay14_at s m r d
  rw [hm d] at h
  rw [← h]
  pointwise [newL, k0_pay18, k0_pay15, k0_pay13]
  rw [hm d]
  rfl

theorem newA_at (s : FVec Ideal S1024x1024 .f32) (m a : Vec Ideal S1x1024x128 .f32) (v : Vec Ideal S1024x128 .bf16) (M : EReal) (r : Fin 1024) (hm : ∀ d, m (ix3 0 r d) = M) (d : Fin 128) :
    newA s m a v (ix3 0 r d) = Ideal.exp2 (M - max M (Finset.univ.sup fun j : Fin 1024 => (s (ix2 r j) : EReal))) * a (ix3 0 r d)
      + ∑ j : Fin 1024, Ideal.exp2 (s (ix2 r j) - max M (Finset.univ.sup fun j : Fin 1024 => (s (ix2 r j) : EReal))) * v (ix2 j d) := by
  simp only [← pay16_at s m M r hm]
  have h := pay14_at s m r d
  rw [hm d] at h
  rw [← h]
  pointwise [newA, k0_pay48, k0_pay20, k0_pay21, k0_pay19, k0_pay15, k0_pay13]
  rw [hm d]
  rfl

theorem pay70_at (a l : Vec Ideal S1x1024x128 .f32) (r : Fin 1024) (d : Fin 128) :
    k0_pay70 a l (ix2 r d) = Ideal.div (a (ix3 0 r d)) (l (ix3 0 r d)) := by
  pointwise [k0_pay70]
theorem pay1_at (a l : Vec Ideal S1x1024x128 .f32) (r : Fin 1024) (d : Fin 128) :
    k0_pay1 a l (ix2 r d) = Ideal.div (a (ix3 0 r d)) (l (ix3 0 r d)) := by
  pointwise [k0_pay1]

end Cert.KernelIdeal.Trip

end
-- ==== Proof.Online.lean ====
/- The online softmax over the extended reals: a running maximum, sum of weights and weighted sum of values, kept over any number of tiles, divide
   to the plain softmax average. Scores are real or minus infinity (masked); values are arbitrary. -/
module

public import Idealize.ShloMosaic.Lib.Pointwise

@[expose] public section

noncomputable section

namespace Cert.Online

open Idealize.ShloMosaic

/-- Two factors of an exponential meet: rescaling a weight from one maximum to a larger one. -/
theorem exp2_rescale (t m m' : EReal) (h : t ≤ m) (h' : m ≤ m') (ht : m' ≠ ⊤) :
    Ideal.exp2 (m - m') * Ideal.exp2 (t - m) = Ideal.exp2 (t - m') := by
  induction t with
  | bot => simp [sub_eq_add_neg]
  | top => exact absurd (top_le_iff.mp (h.trans h')) ht
  | coe t =>
    induction m with
    | bot => exact absurd h (by simp)
    | top => exact absurd (top_le_iff.mp h') ht
    | coe m =>
      induction m' with
      | bot => exact absurd h' (by simp)
      | top => exact absurd rfl ht
      | coe m' =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (t - m) = (2 : ℝ) ^ (t - m')
        rw [← Real.rpow_add (by norm_num)]
        congr 1
        ring

theorem exp2_nonneg (x : EReal) : 0 ≤ Ideal.exp2 x := by
  induction x with
  | bot => simp
  | top => simp
  | coe r =>
    rw [Ideal.exp2_coe]
    exact EReal.coe_nonneg.mpr (Real.rpow_nonneg (by norm_num) r)

theorem exp2_ne_top (x : EReal) (h : x ≠ ⊤) : Ideal.exp2 x ≠ ⊤ := by
  induction x with
  | bot => simp
  | top => exact absurd rfl h
  | coe r => rw [Ideal.exp2_coe]; exact EReal.coe_ne_top _

/-- The difference of a maximum and a larger one is not plus infinity. -/
theorem sub_ne_top (m m' : EReal) (h : m ≤ m') (ht : m' ≠ ⊤) : m - m' ≠ ⊤ := by
  induction m with
  | bot => simp [sub_eq_add_neg]
  | top => exact absurd (top_le_iff.mp h) ht
  | coe m =>
    induction m' with
    | bot => exact absurd h (by simp)
    | top => exact absurd rfl ht
    | coe m' => rw [← EReal.coe_sub]; exact EReal.coe_ne_top _

/-- A nonnegative finite factor goes into a finite sum. -/
theorem mul_sum {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- A finite sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What the three running values are after the first `n` positions of a row of scores `t` and values `v`. -/
structure Holds (t v : ℕ → EReal) (n : ℕ) (m l a : EReal) : Prop where
  ne_top : m ≠ ⊤
  le : ∀ p < n, t p ≤ m
  sum : l = ∑ p ∈ Finset.range n, Ideal.exp2 (t p - m)
  acc : a = ∑ p ∈ Finset.range n, Ideal.exp2 (t p - m) * v p

theorem Holds.start (t v : ℕ → EReal) : Holds t v 0 ⊥ 0 0 where
  ne_top := by simp
  le := by simp
  sum := by simp
  acc := by simp

/-- One tile's step. -/
theorem Holds.step {t v : ℕ → EReal} {n w : ℕ} {m l a : EReal} (h : Holds t v n m l a) (s u : Fin w → EReal)
    (hs : ∀ j : Fin w, s j = t (n + j.val)) (hu : ∀ j : Fin w, u j = v (n + j.val)) (ht : ∀ p, t p ≠ ⊤) :
    Holds t v (n + w) (max m (Finset.univ.sup s))
      (Ideal.exp2 (m - max m (Finset.univ.sup s)) * l + ∑ j : Fin w, Ideal.exp2 (s j - max m (Finset.univ.sup s)))
      (Ideal.exp2 (m - max m (Finset.univ.sup s)) * a + ∑ j : Fin w, Ideal.exp2 (s j - max m (Finset.univ.sup s)) * u j) := by
  have hsup : Finset.univ.sup s ≠ ⊤ := by
    refine (Finset.sup_lt_iff (by simp)).mpr (fun j _ => ?_) |>.ne
    rw [hs j]
    exact (ht _).lt_top
  have hm' : max m (Finset.univ.sup s) ≠ ⊤ := by
    rcases max_choice m (Finset.univ.sup s) with e | e <;> rw [e]
    · exact h.ne_top
    · exact hsup
  generalize hM : max m (Finset.univ.sup s) = M at *
  have hmM : m ≤ M := hM ▸ le_max_left _ _
  have hsM : ∀ j, s j ≤ M := fun j => (Finset.le_sup (Finset.mem_univ j)).trans (hM ▸ le_max_right _ _)
  have c0 := exp2_nonneg (m - M)
  have ct := exp2_ne_top _ (sub_ne_top m M hmM hm')
  refine ⟨hm', fun p hp => ?_, ?_, ?_⟩
  · by_cases h' : p < n
    · exact (h.le p h').trans hmM
    · have := hsM ⟨p - n, by omega⟩
      rw [hs] at this
      simpa [show n + (p - n) = p by omega] using this
  · rw [Finset.sum_range_add, h.sum, mul_sum _ _ c0 ct, Finset.sum_range (n := w)]
    congr 1
    · exact Finset.sum_congr rfl fun p hp => exp2_rescale _ _ _ (h.le p (Finset.mem_range.mp hp)) hmM hm'
    · exact Finset.sum_congr rfl fun j _ => by rw [hs]
  · rw [Finset.sum_range_add, h.acc, mul_sum _ _ c0 ct, Finset.sum_range (n := w)]
    congr 1
    · exact Finset.sum_congr rfl fun p hp => by
        rw [← mul_assoc, exp2_rescale _ _ _ (h.le p (Finset.mem_range.mp hp)) hmM hm']
    · exact Finset.sum_congr rfl fun j _ => by rw [hs, hu]

/-- Masked positions add nothing. -/
theorem Holds.extend {t v : ℕ → EReal} {n : ℕ} {m l a : EReal} (h : Holds t v n m l a) (N : ℕ) (hn : n ≤ N) (hb : ∀ p, n ≤ p → t p = ⊥) :
    Holds t v N m l a := by
  have hz : ∀ p, n ≤ p → Ideal.exp2 (t p - m) = 0 := fun p hp => by rw [hb p hp]; simp [sub_eq_add_neg]
  refine ⟨h.ne_top, fun p hp => ?_, ?_, ?_⟩
  · by_cases h' : p < n
    · exact h.le p h'
    · rw [hb p (by omega)]; exact bot_le
  · rw [h.sum]
    exact Finset.sum_subset (Finset.range_mono hn) fun p _ hp => hz p (by simpa using hp)
  · rw [h.acc]
    exact Finset.sum_subset (Finset.range_mono hn) fun p _ hp => by rw [hz p (by simpa using hp), zero_mul]

/-- A weight in base two is a positive multiple of the weight in base `e`. -/
theorem weight (x t : EReal) (M X : ℝ) (hx : x ≠ ⊤) (h : t = x * (((Real.log 2)⁻¹ : ℝ) : EReal)) :
    ∃ w : ℝ, 0 ≤ w ∧ (x ≠ ⊥ → 0 < w) ∧ Ideal.exp (x - X) = (w : EReal)
      ∧ Ideal.exp2 (t - M) = ((Real.exp (X - M * Real.log 2) * w : ℝ) : EReal) := by
  have hl : 0 < Real.log 2 := Real.log_pos (by norm_num)
  induction x with
  | bot =>
    refine ⟨0, le_rfl, fun h => absurd rfl h, by simp [sub_eq_add_neg], ?_⟩
    rw [h, EReal.bot_mul_coe_of_pos (inv_pos.mpr hl)]
    simp [sub_eq_add_neg]
  | top => exact absurd rfl hx
  | coe x =>
    refine ⟨Real.exp (x - X), (Real.exp_pos _).le, fun _ => Real.exp_pos _, ?_, ?_⟩
    · rw [← EReal.coe_sub, Ideal.exp_coe]
    · rw [h, ← EReal.coe_mul, ← EReal.coe_sub, Ideal.exp2_coe]
      congr 1
      show (2 : ℝ) ^ (x * (Real.log 2)⁻¹ - M) = _
      rw [← Real.exp_add, Real.rpow_def_of_pos (by norm_num)]
      congr 1
      field_simp
      ring

/-- The running values divide to the plain softmax average: `x` the scores in base `e`, `X` their maximum, position `p0` unmasked. -/
theorem Holds.average {t v : ℕ → EReal} {N : ℕ} {m l a : EReal} (h : Holds t v N m l a) (x : ℕ → EReal) (hx : ∀ p, x p ≠ ⊤)
    (htx : ∀ p, t p = x p * (((Real.log 2)⁻¹ : ℝ) : EReal)) (p0 : ℕ) (hp0 : p0 < N) (hb : x p0 ≠ ⊥) (X : EReal)
    (hX : X = Finset.univ.sup fun p : Fin N => x p.val) :
    Ideal.div a l = ∑ p : Fin N, v p.val * Ideal.div (Ideal.exp (x p.val - X)) (∑ p : Fin N, Ideal.exp (x p.val - X)) := by
  have hl : 0 < Real.log 2 := Real.log_pos (by norm_num)
  have hXt : X ≠ ⊤ := by
    rw [hX]
    exact ((Finset.sup_lt_iff (by simp)).mpr fun p _ => (hx _).lt_top).ne
  have hXb : X ≠ ⊥ := by
    intro e
    have : x p0 ≤ X := hX ▸ Finset.le_sup (f := fun p : Fin N => x p.val) (Finset.mem_univ ⟨p0, hp0⟩)
    rw [e, le_bot_iff] at this
    exact hb this
  have hmb : m ≠ ⊥ := by
    intro e
    have := h.le p0 hp0
    rw [e, le_bot_iff, htx] at this
    rcases EReal.mul_eq_bot _ _ |>.mp this with h1 | h1 | h1 | h1
    · exact hb h1.1
    · exact absurd h1.2 (EReal.coe_ne_bot _)
    · exact absurd h1.1 (hx _)
    · exact absurd h1.2 (EReal.coe_ne_top _)
  lift X to ℝ using ⟨hXt, hXb⟩
  lift m to ℝ using ⟨h.ne_top, hmb⟩
  choose w w0 wpos we wt using fun p => weight (x p) (t p) m X (hx p) (htx p)
  set c : ℝ := Real.exp (X - m * Real.log 2) with hc
  have c0 : 0 < c := Real.exp_pos _
  have hL : (∑ p : Fin N, Ideal.exp (x p.val - X)) = ((∑ p : Fin N, w p.val : ℝ) : EReal) := by
    rw [coe_sum]
    exact Finset.sum_congr rfl fun p _ => we _
  have hl' : l = ((c * ∑ p : Fin N, w p.val : ℝ) : EReal) := by
    rw [h.sum, Finset.sum_range, Finset.mul_sum, coe_sum]
    exact Finset.sum_congr rfl fun p _ => wt _
  have W0 : 0 < ∑ p : Fin N, w p.val :=
    Finset.sum_pos' (fun p _ => w0 _) ⟨⟨p0, hp0⟩, Finset.mem_univ _, wpos p0 hb⟩
  generalize (∑ p : Fin N, w p.val) = W at *
  have hcW : (((c * W : ℝ)) : EReal) ≠ 0 := by exact_mod_cast (mul_pos c0 W0).ne'
  have hW : ((W : ℝ) : EReal) ≠ 0 := by exact_mod_cast W0.ne'
  rw [hL, hl', h.acc, Finset.sum_range]
  unfold Ideal.div
  rw [if_neg hcW]
  simp only [if_neg hW]
  rw [← EReal.coe_inv, ← EReal.coe_inv, mul_comm, mul_sum _ _ (by exact_mod_cast (inv_pos.mpr (mul_pos c0 W0)).le) (EReal.coe_ne_top _)]
  refine Finset.sum_congr rfl fun p _ => ?_
  rw [wt, we, ← mul_assoc, ← EReal.coe_mul, ← EReal.coe_mul, mul_comm (v p.val)]
  congr 2
  field_simp

end Cert.Online

end
-- ==== Proof.Row.lean ====
/- What a grid point's body reads, at an index: the query, key, value and gate blocks at a row, a position and a head. -/
module

public import proofs.«01_k».proof.Proof.Tile
public import proofs.«01_k».proof.Proof.Online
public import Idealize.ShloMosaic.Lib.WholeRead

@[expose] public section

set_option maxRecDepth 16384

noncomputable section

namespace Cert.KernelIdeal.Trip

open Cert.KernelIdeal Cert.KernelIdeal.Gen Idealize.ShloMosaic Idealize.ShloMosaic.TcCoe Idealize.ShloMosaic.Tactic

theorem off1_at : ∀ i : grid0.Coords, k0_off1 i = ![0, (i 2).val, 0, 0] := by decide +kernel
theorem off2_at : ∀ i : grid0.Coords, k0_off2 i = ![1, (i 2).val, 0, 0] := by decide +kernel
theorem off3_at : ∀ (i : grid0.Coords) (k : Fin (k0_t1_loop i).trips), k0_off3 i k = ![k.val * 1024, 0] := by decide +kernel
theorem off4_at : ∀ (i : grid0.Coords) (k : Fin (k0_t1_loop i).trips), k0_off4 i k = ![0, k.val, 0, 0] := by decide +kernel
theorem off5_at : ∀ (i : grid0.Coords) (k : Fin (k0_t1_loop i).trips), k0_off5 i k = ![k.val * 1024, 128] := by decide +kernel
theorem off6_at : ∀ (i : grid0.Coords) (k : Fin (k0_t1_loop i).trips), k0_off6 i k = ![1, k.val, 0, 0] := by decide +kernel
theorem off11_at : ∀ i : grid0.Coords, k0_off11 i = ![(i 2).val * 1024, 0] := by decide +kernel
theorem off12_at : ∀ i : grid0.Coords, k0_off12 i = ![(i 2).val * 1024, 128] := by decide +kernel

/-- A load of part of a matrix. -/
theorem read2 {F : FTy → Type} {a b a' b' : ℕ} {e : EltTy} (m : Memref sig .tc .vmem ⟨2, ![a, b]⟩ e) (h : m.IsWhole) (X : (⟨2, ![a, b]⟩ : Shape).Idx → Elt F e)
    (off : Fin 2 → ℕ) (inb : ∀ d : Fin 2, off d + (![a', b'] : Fin 2 → ℕ) d ≤ (![a, b] : Fin 2 → ℕ) d) (o0 o1 : ℕ) (ho : off = ![o0, o1])
    (r : Fin a') (c : Fin b') (hr : o0 + r.val < a) (hc : o1 + c.val < b) :
    View.readAt (Elt F) m.view (Rect.unit (s := ⟨2, ![a, b]⟩) off ![a', b'] inb).toLoadRect (h.unread X) (ix2 r c)
      = X (ix2 ⟨o0 + r.val, hr⟩ ⟨o1 + c.val, hc⟩) := by
  subst ho
  refine (Memref.IsWhole.readAt_unread h X _ _).trans (congrArg X ?_)
  funext d
  match d with
  | ⟨0, _⟩ => exact Fin.ext (by show o0 + 1 * r.val = o0 + r.val; omega)
  | ⟨1, _⟩ => exact Fin.ext (by show o1 + 1 * c.val = o1 + c.val; omega)

/-- A load of one row of gates. -/
theorem read4 {F : FTy → Type} {e : EltTy} (m : Memref sig .tc .vmem S2x4x1x1024 e) (h : m.IsWhole) (X : S2x4x1x1024.Idx → Elt F e)
    (off : Fin 4 → ℕ) (inb : ∀ d : Fin 4, off d + S1x1x1x1024.size d ≤ S2x4x1x1024.size d) (o0 o1 : ℕ) (ho : off = ![o0, o1, 0, 0])
    (c : Fin 1024) (h0 : o0 < 2) (h1 : o1 < 4) :
    View.readAt (Elt F) m.view (Rect.unit (s := S2x4x1x1024) off S1x1x1x1024.size inb).toLoadRect (h.unread X) (ix4 0 0 0 c)
      = X (ix4 ⟨o0, h0⟩ ⟨o1, h1⟩ 0 c) := by
  subst ho
  refine (Memref.IsWhole.readAt_unread h X _ _).trans (congrArg X ?_)
  funext d
  match d with
  | ⟨0, _⟩ => exact Fin.ext (by show o0 + 1 * 0 = o0; omega)
  | ⟨1, _⟩ => exact Fin.ext (by show o1 + 1 * 0 = o1; omega)
  | ⟨2, _⟩ => exact Fin.ext (by show 0 + 1 * 0 = 0; omega)
  | ⟨3, _⟩ => exact Fin.ext (by show 0 + 1 * c.val = c.val; omega)

/-- The score of query row `r` of tile `qi` against key position `p`, for head `h` of the block, in base two; minus infinity past the row. -/
def score (qi : Fin 4) (x0 : Vec Ideal S1024x256 .bf16) (x1 : Vec Ideal S4096x256 .bf16) (x3 : Vec Ideal S2x4x1x1024 .f32) (h : Fin 2)
    (r : Fin 1024) (p : ℕ) : EReal :=
  if hp : p < 4096 ∧ p ≤ qi.val * 1024 + r.val then
    (∑ d : Fin 128, (x0 (ix2 r ⟨h.val * 128 + d.val, by omega⟩) * x1 (ix2 ⟨p, hp.1⟩ ⟨h.val * 128 + d.val, by omega⟩) : EReal))
        * ((((Real.sqrt 128) * (Real.log 2))⁻¹ : ℝ) : EReal)
      + (x3 (ix4 h qi 0 r) * (((Real.log 2)⁻¹ : ℝ) : EReal)
        - x3 (ix4 h ⟨p / 1024, by omega⟩ 0 ⟨p % 1024, by omega⟩) * (((Real.log 2)⁻¹ : ℝ) : EReal))
  else ⊥

/-- Column `d` of head `h`'s value at position `p`. -/
def value (x2 : Vec Ideal S4096x256 .bf16) (h : Fin 2) (d : Fin 128) (p : ℕ) : EReal :=
  if hp : p < 4096 then x2 (ix2 ⟨p, hp⟩ ⟨h.val * 128 + d.val, by omega⟩) else 0

/-- A tile of scores from loaded parts is the row's scores, at an unmasked position. -/
theorem pay2_score (qi : Fin 4) (x0 : Vec Ideal S1024x256 .bf16) (x1 : Vec Ideal S4096x256 .bf16) (x3 : Vec Ideal S2x4x1x1024 .f32) (h : Fin 2)
    (q K : Vec Ideal S1024x128 .bf16) (gq gk : Vec Ideal S1x1x1x1024 .f32) (k : ℕ) (r j : Fin 1024) (hk : k < 4)
    (hq : ∀ d : Fin 128, q (ix2 r d) = x0 (ix2 r ⟨h.val * 128 + d.val, by omega⟩))
    (hK : ∀ d : Fin 128, K (ix2 j d) = x1 (ix2 ⟨k * 1024 + j.val, by omega⟩ ⟨h.val * 128 + d.val, by omega⟩))
    (hgq : gq (ix4 0 0 0 r) = x3 (ix4 h qi 0 r)) (hgk : gk (ix4 0 0 0 j) = x3 (ix4 h ⟨k, hk⟩ 0 j))
    (hp : k * 1024 + j.val ≤ qi.val * 1024 + r.val) :
    k0_pay2 q (k0_pay45 gq) K gk (ix2 r j) = score qi x0 x1 x3 h r (k * 1024 + j.val) := by
  rw [pay2_at, pay45_at, score, dif_pos ⟨by omega, hp⟩, hgq, hgk]
  have e1 : (⟨(k * 1024 + j.val) / 1024, by omega⟩ : Fin 4) = ⟨k, hk⟩ := Fin.ext (by show (k * 1024 + j.val) / 1024 = k; omega)
  have e2 : (⟨(k * 1024 + j.val) % 1024, by omega⟩ : Fin 1024) = j := Fin.ext (by show (k * 1024 + j.val) % 1024 = j.val; omega)
  rw [e1, e2]
  congr 2
  exact Finset.sum_congr rfl fun d _ => by rw [hq, hK]

/-- The three parts of a head after some tiles, at row `r` and column `d`. -/
theorem loop_holds (t v : ℕ → EReal) (ht : ∀ p, t p ≠ ⊤) (r : Fin 1024) (d : Fin 128) (M L A : ℕ → Vec Ideal S1x1024x128 .f32)
    (S : ℕ → FVec Ideal S1024x1024 .f32) (V : ℕ → Vec Ideal S1024x128 .bf16)
    (hM0 : ∀ d', M 0 (ix3 0 r d') = (⊥ : EReal)) (hL0 : L 0 (ix3 0 r d) = (0 : EReal)) (hA0 : A 0 (ix3 0 r d) = (0 : EReal)) (n : ℕ)
    (hM : ∀ k < n, M (k + 1) = newM (S k) (M k)) (hL : ∀ k < n, L (k + 1) = newL (S k) (M k) (L k))
    (hA : ∀ k < n, A (k + 1) = newA (S k) (M k) (A k) (V k))
    (hS : ∀ k < n, ∀ j : Fin 1024, (S k (ix2 r j) : EReal) = t (k * 1024 + j.val))
    (hV : ∀ k < n, ∀ j : Fin 1024, (V k (ix2 j d) : EReal) = v (k * 1024 + j.val)) :
    ∃ mx : EReal, (∀ d', M n (ix3 0 r d') = mx) ∧ Online.Holds t v (n * 1024) mx (L n (ix3 0 r d)) (A n (ix3 0 r d)) := by
  induction n with
  | zero =>
    refine ⟨⊥, hM0, ?_⟩
    rw [hL0, hA0, zero_mul]
    exact Online.Holds.start t v
  | succ n ih =>
    obtain ⟨mx, h1, h2⟩ := ih (fun k hk => hM k (by omega)) (fun k hk => hL k (by omega)) (fun k hk => hA k (by omega))
      (fun k hk => hS k (by omega)) (fun k hk => hV k (by omega))
    refine ⟨_, fun d' => by rw [hM n (by omega), newM_at, h1], ?_⟩
    rw [hL n (by omega), hA n (by omega), newL_at _ _ _ mx r h1, newA_at _ _ _ _ mx r h1, Nat.succ_mul]
    exact h2.step _ (fun j => V n (ix2 j d)) (hS n (by omega)) (hV n (by omega)) ht

end Cert.KernelIdeal.Trip

end
-- ==== Proof.Loop.lean ====
/- The body's loop over key tiles at one grid point, and the values the point writes: for each head, row and column, the running weighted sum
   and sum of weights over every key position up to the row's own tile. -/
module

public import proofs.«01_k».proof.Proof.Row

@[expose] public section

set_option maxRecDepth 16384

noncomputable section

namespace Cert.KernelIdeal.Trip

open Cert.KernelIdeal Cert.KernelIdeal.Gen Idealize.ShloMosaic Idealize.ShloMosaic.TcCoe Idealize.ShloMosaic.Tactic

section
variable (c : Dev nD) (i : grid0.Coords)
  (arg3 : Memref sig .tc .vmem S1024x256 .bf16) (harg3 : arg3.IsWhole) (arg4 : Memref sig .tc .vmem S4096x256 .bf16) (harg4 : arg4.IsWhole)
  (arg5 : Memref sig .tc .vmem S4096x256 .bf16) (harg5 : arg5.IsWhole) (arg6 : Memref sig .tc .vmem S2x4x1x1024 .f32) (harg6 : arg6.IsWhole)
  (arg7 : Memref sig .tc .vmem S1024x256 .bf16) (harg7 : arg7.IsWhole) (arg8 : Memref sig .tc .vmem S2x1024x128 .f32) (harg8 : arg8.IsWhole)
  (arg9 : Memref sig .tc .vmem S2x1024x128 .f32) (harg9 : arg9.IsWhole) (arg10 : Memref sig .tc .vmem S2x1024x128 .f32) (harg10 : arg10.IsWhole)
  (x0 : Vec Ideal S1024x256 .bf16) (x1 x2 : Vec Ideal S4096x256 .bf16) (x3 : Vec Ideal S2x4x1x1024 .f32)

/-- A trip's step, over the contents the earlier trips left. -/
theorem trip_step (k : Fin (k0_t1_loop i).trips) :
    (part arg8 head0 (W8 c i arg3 harg3 arg4 harg4 arg5 harg5 arg6 harg6 arg7 harg7 arg8 harg8 arg9 harg9 arg10 harg10 x0 x1 x2 x3 (k.val + 1)) = newM (score0 i arg4 arg6 (Q0 arg3 harg3 x0) (k0_pay45 (G0 i arg6 harg6 x3)) (harg4.unread x1) (harg6.unread x3) k) (part arg8 head0 (W8 c i arg3 harg3 arg4 harg4 arg5 harg5 arg6 harg6 arg7 harg7 arg8 harg8 arg9 harg9 arg10 harg10 x0 x1 x2 x3 k.val))
      ∧ part arg9 head0 (W9 c i arg3 harg3 arg4 harg4 arg5 harg5 arg6 harg6 arg7 harg7 arg8 harg8 arg9 harg9 arg10 harg10 x0 x1 x2 x3 (k.val + 1)) = newL (score0 i arg4 arg6 (Q0 arg3 harg3 x0) (k0_pay45 (G0 i arg6 harg6 x3)) (harg4.unread x1) (harg6.unread x3) k) (part arg8 head0 (W8 c i arg3 harg3 arg4 harg4 arg5 harg5 arg6 harg6 arg7 harg7 arg8 harg8 arg9 harg9 arg10 harg10 x0 x1 x2 x3 k.val)) (part arg9 head0 (W9 c i arg3 harg3 arg4 harg4 arg5 harg5 arg6 harg6 arg7 harg7 arg8 harg8 arg9 harg9 arg10 harg10 x0 x1 x2 x3 k.val))
      ∧ part arg10 head0 (W10 c i arg3 harg3 arg4 harg4 arg5 harg5 arg6 harg6 arg7 harg7 arg8 harg8 arg9 harg9 arg10 harg10 x0 x1 x2 x3 (k.val + 1)) = newA (score0 i arg4 arg6 (Q0 arg3 harg3 x0) (k0_pay45 (G0 i arg6 harg6 x3)) (harg4.unread x1) (harg6.unread x3) k) (part arg8 head0 (W8 c i arg3 harg3 arg4 harg4 arg5 harg5 arg6 harg6 arg7 harg7 arg8 harg8 arg9 harg9 arg10 harg10 x0 x1 x2 x3 k.val)) (part arg10 head0 (W10 c i arg3 harg3 arg4 harg4 arg5 harg5 arg6 harg6 arg7 harg7 arg8 harg8 arg9 harg9 arg10 harg10 x0 x1 x2 x3 k.val)) (val0 i arg5 (harg5.unread x2) k))
    ∧ (part arg8 head1 (W8 c i arg3 harg3 arg4 harg4 arg5 harg5 arg6 harg6 arg7 harg7 arg8 harg8 arg9 harg9 arg10 harg10 x0 x1 x2 x3 (k.val + 1)) = newM (score1 i arg4 arg6 (Q1 arg3 harg3 x0) k0_pay46 (G1 i arg6 harg6 x3) (harg4.unread x1) (harg6.unread x3) k) (part arg8 head1 (W8 c i arg3 harg3 arg4 harg4 arg5 harg5 arg6 harg6 arg7 harg7 arg8 harg8 arg9 harg9 arg10 harg10 x0 x1 x2 x3 k.val))
      ∧ part arg9 head1 (W9 c i arg3 harg3 arg4 harg4 arg5 harg5 arg6 harg6 arg7 harg7 arg8 harg8 arg9 harg9 arg10 harg10 x0 x1 x2 x3 (k.val + 1)) = newL (score1 i arg4 arg6 (Q1 arg3 harg3 x0) k0_pay46 (G1 i arg6 harg6 x3) (harg4.unread x1) (harg6.unread x3) k) (part arg8 head1 (W8 c i arg3 harg3 arg4 harg4 arg5 harg5 arg6 harg6 arg7 harg7 arg8 harg8 arg9 harg9 arg10 harg10 x0 x1 x2 x3 k.val)) (part arg9 head1 (W9 c i arg3 harg3 arg4 harg4 arg5 harg5 arg6 harg6 arg7 harg7 arg8 harg8 arg9 harg9 arg10 harg10 x0 x1 x2 x3 k.val))
      ∧ part arg10 head1 (W10 c i arg3 harg3 arg4 harg4 arg5 harg5 arg6 harg6 arg7 harg7 arg8 harg8 arg9 harg9 arg10 harg10 x0 x1 x2 x3 (k.val + 1)) = newA (score1 i arg4 arg6 (Q1 arg3 harg3 x0) k0_pay46 (G1 i arg6 harg6 x3) (harg4.unread x1) (harg6.unread x3) k) (part arg8 head1 (W8 c i arg3 harg3 arg4 harg4 arg5 harg5 arg6 harg6 arg7 harg7 arg8 harg8 arg9 harg9 arg10 harg10 x0 x1 x2 x3 k.val)) (part arg10 head1 (W10 c i arg3 harg3 arg4 harg4 arg5 harg5 arg6 harg6 arg7 harg7 arg8 harg8 arg9 harg9 arg10 harg10 x0 x1 x2 x3 k.val)) (val1 i arg5 (harg5.unread x2) k)) := by
  have h := pb_k0_t1_succ (F := Ideal) Variants.none c none i arg3 harg3 arg4 harg4 arg5 harg5 arg6 harg6 arg7 harg7 arg8 harg8 arg9 harg9 arg10 harg10
    (BitVec.ofNat 32 (i 2).val) (iota .tc S1024x1024 32 [0] iota_S1024x1024_d0_w32) (iota .tc S1024x1024 32 [1] iota_S1024x1024_d1_w32)
    (Q0 arg3 harg3 x0) (Q1 arg3 harg3 x0) (k0_pay45 (G0 i arg6 harg6 x3)) k0_pay46 (G1 i arg6 harg6 x3) (harg4.unread x1) (harg5.unread x2) (harg6.unread x3)
    (arg8.view.writes (Elt Ideal) arg8.view.junk [⟨Rect.unit ![0, 0, 0] S2x1024x128.size inb_S2x1024x128_S2x1024x128_0_0_0, k0_pay42 (F := Ideal)⟩])
    (arg9.view.writes (Elt Ideal) arg9.view.junk [⟨Rect.unit ![0, 0, 0] S2x1024x128.size inb_S2x1024x128_S2x1024x128_0_0_0, k0_pay43 (F := Ideal)⟩])
    (arg10.view.writes (Elt Ideal) arg10.view.junk [⟨Rect.unit ![0, 0, 0] S2x1024x128.size inb_S2x1024x128_S2x1024x128_0_0_0, k0_pay44 (F := Ideal)⟩]) k
  have w3 : ∀ (a : Memref sig .tc .vmem S2x1024x128 .f32) (f : BufTy.Contents (Elt Ideal) a.view.ty) (T P I : List (View.Piece (Elt Ideal) S2x1024x128 .f32)),
      a.view.writes (Elt Ideal) f ((T ++ P) ++ I) = a.view.writes (Elt Ideal) (a.view.writes (Elt Ideal) (a.view.writes (Elt Ideal) f I) P) (T ++ []) := fun a f T P I => by
    rw [View.writes_append, View.writes_append, List.append_nil]
  have e8 : (W8 c i arg3 harg3 arg4 harg4 arg5 harg5 arg6 harg6 arg7 harg7 arg8 harg8 arg9 harg9 arg10 harg10 x0 x1 x2 x3 (k.val + 1)) = _ := (congrArg (fun q => arg8.view.writes (Elt Ideal) arg8.view.junk (q.1 ++ [⟨Rect.unit ![0, 0, 0] S2x1024x128.size inb_S2x1024x128_S2x1024x128_0_0_0, k0_pay42 (F := Ideal)⟩])) h).trans (w3 arg8 _ _ _ _)
  have e9 : (W9 c i arg3 harg3 arg4 harg4 arg5 harg5 arg6 harg6 arg7 harg7 arg8 harg8 arg9 harg9 arg10 harg10 x0 x1 x2 x3 (k.val + 1)) = _ := (congrArg (fun q => arg9.view.writes (Elt Ideal) arg9.view.junk (q.2.1 ++ [⟨Rect.unit ![0, 0, 0] S2x1024x128.size inb_S2x1024x128_S2x1024x128_0_0_0, k0_pay43 (F := Ideal)⟩])) h).trans (w3 arg9 _ _ _ _)
  have e10 : (W10 c i arg3 harg3 arg4 harg4 arg5 harg5 arg6 harg6 arg7 harg7 arg8 harg8 arg9 harg9 arg10 harg10 x0 x1 x2 x3 (k.val + 1)) = _ := (congrArg (fun q => arg10.view.writes (Elt Ideal) arg10.view.junk (q.2.2 ++ [⟨Rect.unit ![0, 0, 0] S2x1024x128.size inb_S2x1024x128_S2x1024x128_0_0_0, k0_pay44 (F := Ideal)⟩])) h).trans (w3 arg10 _ _ _ _)
  have c8 : (W8 c i arg3 harg3 arg4 harg4 arg5 harg5 arg6 harg6 arg7 harg7 arg8 harg8 arg9 harg9 arg10 harg10 x0 x1 x2 x3 k.val) = _ := View.writes_append _ _ _ _
  have c9 : (W9 c i arg3 harg3 arg4 harg4 arg5 harg5 arg6 harg6 arg7 harg7 arg8 harg8 arg9 harg9 arg10 harg10 x0 x1 x2 x3 k.val) = _ := View.writes_append _ _ _ _
  have c10 : (W10 c i arg3 harg3 arg4 harg4 arg5 harg5 arg6 harg6 arg7 harg7 arg8 harg8 arg9 harg9 arg10 harg10 x0 x1 x2 x3 k.val) = _ := View.writes_append _ _ _ _
  rw [e8, e9, e10, c8, c9, c10]
  exact trip_read (F := Ideal) Variants.none c none i arg3 harg3 arg4 harg4 arg5 harg5 arg6 harg6 arg7 harg7 arg8 harg8 arg9 harg9 arg10 harg10 _ _ _ _ _ _ _ _ _ _ _ k _ _ _ _ rfl [] [] []

/-- The whole buffer at one value reads that value everywhere. -/
theorem start_part (a : Memref sig .tc .vmem S2x1024x128 .f32) (f : BufTy.Contents (Elt Ideal) a.view.ty) (w : S2x1024x128.Idx → Elt Ideal .f32)
    (z : EReal) (hw : ∀ y, w y = z) (r : Rect S2x1024x128) (y : r.shape.Idx) :
    part a r (a.view.writes (Elt Ideal) f [⟨Rect.unit ![0, 0, 0] S2x1024x128.size inb_S2x1024x128_S2x1024x128_0_0_0, w⟩]) y = z := by
  have e : ∀ y : S2x1024x128.Idx, (Rect.unit (s := S2x1024x128) ![0, 0, 0] S2x1024x128.size inb_S2x1024x128_S2x1024x128_0_0_0).emb y = y := fun y => by
    funext d
    match d with
    | ⟨0, _⟩ => exact Fin.ext (by show 0 + 1 * (y 0).val = (y 0).val; omega)
    | ⟨1, _⟩ => exact Fin.ext (by show 0 + 1 * (y 1).val = (y 1).val; omega)
    | ⟨2, _⟩ => exact Fin.ext (by show 0 + 1 * (y 2).val = (y 2).val; omega)
  have h := View.read_writes_cons_emb (Val := Elt Ideal) a.view f (Rect.unit (s := S2x1024x128) ![0, 0, 0] S2x1024x128.size inb_S2x1024x128_S2x1024x128_0_0_0) w [] (r.idx y)
  rw [e] at h
  exact h.trans (hw _)

theorem pay42_val (y : S2x1024x128.Idx) : k0_pay42 (F := Ideal) y = (⊥ : EReal) := by
  pointwise [k0_pay42, mask_val]
theorem pay43_val (y : S2x1024x128.Idx) : k0_pay43 (F := Ideal) y = (0 : EReal) := by
  pointwise [k0_pay43]
theorem pay44_val (y : S2x1024x128.Idx) : k0_pay44 (F := Ideal) y = (0 : EReal) := by
  pointwise [k0_pay44]

/-- The query tile of a grid point. -/
abbrev qi : Fin 4 := ⟨(i 2).val, (i 2).isLt⟩
/-- The block's scores are never plus infinity. -/
abbrev NoTop : Prop := ∀ (h : Fin 2) (r : Fin 1024) (p : ℕ), score (qi i) x0 x1 x3 h r p ≠ ⊤

/-- Head 0's sum of weights and weighted sum at the end of the body. -/
theorem head0_holds (hno : NoTop i x0 x1 x3) (r : Fin 1024) (d : Fin 128) :
    ∃ mx : EReal, Online.Holds (score (qi i) x0 x1 x3 0 r) (value x2 0 d) ((i 2).val * 1024 + 1024) mx
      (kernelRun0_A.sl.v163 c i arg3 harg3 arg4 harg4 arg5 harg5 arg6 harg6 arg7 harg7 arg8 harg8 arg9 harg9 arg10 harg10 x0 x1 x2 x3 (ix3 0 r d)) (kernelRun0_A.sl.v161 c i arg3 harg3 arg4 harg4 arg5 harg5 arg6 harg6 arg7 harg7 arg8 harg8 arg9 harg9 arg10 harg10 x0 x1 x2 x3 (ix3 0 r d)) := by
  have hi : (i 2).val < 4 := (i 2).isLt
  have hqi : (qi i).val = (i 2).val := rfl
  have ht : (k0_t1_loop i).trips = (i 2).val := trips1 i
  have hq : ∀ d : Fin 128, Q0 arg3 harg3 x0 (ix2 r d) = x0 (ix2 r ⟨0 * 128 + d.val, by omega⟩) := fun d => by
    refine (read2 arg3 harg3 x0 ![0, 0] _ 0 0 rfl r d (by omega) (by omega)).trans (congrArg x0 ?_)
    congr 1
    exact Fin.ext (Nat.zero_add _)
  have hg : G0 i arg6 harg6 x3 (ix4 0 0 0 r) = x3 (ix4 0 (qi i) 0 r) :=
    read4 arg6 harg6 x3 _ _ 0 (i 2).val (off1_at i) r (by omega) hi
  have hdv : ∀ j : Fin 1024, (dval0 i arg5 harg5 x2 (ix2 j d) : EReal) = value x2 0 d ((i 2).val * 1024 + j.val) := fun j => by
    rw [value, dif_pos (by omega)]
    exact read2 arg5 harg5 x2 _ _ ((i 2).val * 1024) 0 (off11_at i) j d (by omega) (by omega)
  have hds : ∀ j : Fin 1024, (diag0 i arg3 harg3 arg4 harg4 arg6 harg6 x0 x1 x3 (ix2 r j) : EReal) = score (qi i) x0 x1 x3 0 r ((i 2).val * 1024 + j.val) := fun j => by
    refine (masked_at _ r j).trans ?_
    split_ifs with hjr
    · exact pay2_score (qi i) x0 x1 x3 0 _ _ _ _ (i 2).val r j hi hq
        (fun d => read2 arg4 harg4 x1 _ _ ((i 2).val * 1024) 0 (off11_at i) j d (by omega) (by omega)) hg
        (read4 arg6 harg6 x3 _ _ 0 (i 2).val (off1_at i) j (by omega) hi) (Nat.add_le_add_left hjr _)
    · rw [score, dif_neg]
      rintro ⟨_, h2⟩
      exact hjr (Fin.le_def.mpr (by omega))
  have hS : ∀ k (hk : k < (k0_t1_loop i).trips) (j : Fin 1024),
      (score0 i arg4 arg6 (Q0 arg3 harg3 x0) (k0_pay45 (G0 i arg6 harg6 x3)) (harg4.unread x1) (harg6.unread x3) ⟨k, hk⟩ (ix2 r j) : EReal)
        = score (qi i) x0 x1 x3 0 r (k * 1024 + j.val) := fun k hk j => by
    have hk4 : k < 4 := by omega
    exact pay2_score (qi i) x0 x1 x3 0 _ _ _ _ k r j hk4 hq
      (fun d => read2 arg4 harg4 x1 _ _ (k * 1024) 0 (off3_at i ⟨k, hk⟩) j d (by omega) (by omega)) hg
      (read4 arg6 harg6 x3 _ _ 0 k (off4_at i ⟨k, hk⟩) j (by omega) hk4) (by omega)
  have hV : ∀ k (hk : k < (k0_t1_loop i).trips) (j : Fin 1024), (val0 i arg5 (harg5.unread x2) ⟨k, hk⟩ (ix2 j d) : EReal) = value x2 0 d (k * 1024 + j.val) := fun k hk j => by
    rw [value, dif_pos (by omega)]
    exact read2 arg5 harg5 x2 _ _ (k * 1024) 0 (off3_at i ⟨k, hk⟩) j d (by omega) (by omega)
  obtain ⟨mx, h1, h2⟩ := loop_holds (score (qi i) x0 x1 x3 0 r) (value x2 0 d) (hno 0 r) r d
    (fun k => part arg8 head0 (W8 c i arg3 harg3 arg4 harg4 arg5 harg5 arg6 harg6 arg7 harg7 arg8 harg8 arg9 harg9 arg10 harg10 x0 x1 x2 x3 k)) (fun k => part arg9 head0 (W9 c i arg3 harg3 arg4 harg4 arg5 harg5 arg6 harg6 arg7 harg7 arg8 harg8 arg9 harg9 arg10 harg10 x0 x1 x2 x3 k)) (fun k => part arg10 head0 (W10 c i arg3 harg3 arg4 harg4 arg5 harg5 arg6 harg6 arg7 harg7 arg8 harg8 arg9 harg9 arg10 harg10 x0 x1 x2 x3 k))
    (fun k => if hk : k < (k0_t1_loop i).trips then score0 i arg4 arg6 (Q0 arg3 harg3 x0) (k0_pay45 (G0 i arg6 harg6 x3)) (harg4.unread x1) (harg6.unread x3) ⟨k, hk⟩ else fun _ => (0 : EReal))
    (fun k => if hk : k < (k0_t1_loop i).trips then val0 i arg5 (harg5.unread x2) ⟨k, hk⟩ else fun _ => (0 : EReal))
    (fun d' => start_part arg8 _ _ _ pay42_val head0 _) (start_part arg9 _ _ _ pay43_val head0 _) (start_part arg10 _ _ _ pay44_val head0 _)
    (k0_t1_loop i).trips
    (fun k hk => by rw [dif_pos hk]; exact (trip_step c i arg3 harg3 arg4 harg4 arg5 harg5 arg6 harg6 arg7 harg7 arg8 harg8 arg9 harg9 arg10 harg10 x0 x1 x2 x3 ⟨k, hk⟩).1.1)
    (fun k hk => by rw [dif_pos hk]; exact (trip_step c i arg3 harg3 arg4 harg4 arg5 harg5 arg6 harg6 arg7 harg7 arg8 harg8 arg9 harg9 arg10 harg10 x0 x1 x2 x3 ⟨k, hk⟩).1.2.1)
    (fun k hk => by rw [dif_pos hk, dif_pos hk]; exact (trip_step c i arg3 harg3 arg4 harg4 arg5 harg5 arg6 harg6 arg7 harg7 arg8 harg8 arg9 harg9 arg10 harg10 x0 x1 x2 x3 ⟨k, hk⟩).1.2.2)
    (fun k hk j => by rw [dif_pos hk]; exact hS k hk j)
    (fun k hk j => by rw [dif_pos hk]; exact hV k hk j)
  rw [last_l0, last_a0, newL_at _ _ _ mx r h1, newA_at _ _ _ _ mx r h1]
  rw [ht] at h2 ⊢
  exact ⟨_, h2.step _ (fun j => dval0 i arg5 harg5 x2 (ix2 j d)) hds hdv (hno 0 r)⟩

/-- Head 1's sum of weights and weighted sum at the end of the body. -/
theorem head1_holds (hno : NoTop i x0 x1 x3) (r : Fin 1024) (d : Fin 128) :
    ∃ mx : EReal, Online.Holds (score (qi i) x0 x1 x3 1 r) (value x2 1 d) ((i 2).val * 1024 + 1024) mx
      (kernelRun0_A.sl.v170 c i arg3 harg3 arg4 harg4 arg5 harg5 arg6 harg6 arg7 harg7 arg8 harg8 arg9 harg9 arg10 harg10 x0 x1 x2 x3 (ix3 0 r d)) (kernelRun0_A.sl.v168 c i arg3 harg3 arg4 harg4 arg5 harg5 arg6 harg6 arg7 harg7 arg8 harg8 arg9 harg9 arg10 harg10 x0 x1 x2 x3 (ix3 0 r d)) := by
  have hi : (i 2).val < 4 := (i 2).isLt
  have hqi : (qi i).val = (i 2).val := rfl
  have ht : (k0_t1_loop i).trips = (i 2).val := trips1 i
  have hq : ∀ d : Fin 128, Q1 arg3 harg3 x0 (ix2 r d) = x0 (ix2 r ⟨1 * 128 + d.val, by omega⟩) := fun d => by
    refine (read2 arg3 harg3 x0 ![0, 128] _ 0 128 rfl r d (by omega) (by omega)).trans (congrArg x0 ?_)
    congr 1
    exact Fin.ext (Nat.zero_add _)
  have hg : G1 i arg6 harg6 x3 (ix4 0 0 0 r) = x3 (ix4 1 (qi i) 0 r) :=
    read4 arg6 harg6 x3 _ _ 1 (i 2).val (off2_at i) r (by omega) hi
  have hdv : ∀ j : Fin 1024, (dval1 i arg5 harg5 x2 (ix2 j d) : EReal) = value x2 1 d ((i 2).val * 1024 + j.val) := fun j => by
    rw [value, dif_pos (by omega)]
    exact read2 arg5 harg5 x2 _ _ ((i 2).val * 1024) 128 (off12_at i) j d (by omega) (by omega)
  have hds : ∀ j : Fin 1024, (diag1 i arg3 harg3 arg4 harg4 arg6 harg6 x0 x1 x3 (ix2 r j) : EReal) = score (qi i) x0 x1 x3 1 r ((i 2).val * 1024 + j.val) := fun j => by
    refine (masked_at _ r j).trans ?_
    split_ifs with hjr
    · exact pay2_score (qi i) x0 x1 x3 1 _ _ _ _ (i 2).val r j hi hq
        (fun d => read2 arg4 harg4 x1 _ _ ((i 2).val * 1024) 128 (off12_at i) j d (by omega) (by omega)) hg
        (read4 arg6 harg6 x3 _ _ 1 (i 2).val (off2_at i) j (by omega) hi) (Nat.add_le_add_left hjr _)
    · rw [score, dif_neg]
      rintro ⟨_, h2⟩
      exact hjr (Fin.le_def.mpr (by omega))
  have hS : ∀ k (hk : k < (k0_t1_loop i).trips) (j : Fin 1024),
      (score1 i arg4 arg6 (Q1 arg3 harg3 x0) k0_pay46 (G1 i arg6 harg6 x3) (harg4.unread x1) (harg6.unread x3) ⟨k, hk⟩ (ix2 r j) : EReal)
        = score (qi i) x0 x1 x3 1 r (k * 1024 + j.val) := fun k hk j => by
    have hk4 : k < 4 := by omega
    exact pay2_score (qi i) x0 x1 x3 1 _ _ _ _ k r j hk4 hq
      (fun d => read2 arg4 harg4 x1 _ _ (k * 1024) 128 (off5_at i ⟨k, hk⟩) j d (by omega) (by omega)) hg
      (read4 arg6 harg6 x3 _ _ 1 k (off6_at i ⟨k, hk⟩) j (by omega) hk4) (by omega)
  have hV : ∀ k (hk : k < (k0_t1_loop i).trips) (j : Fin 1024), (val1 i arg5 (harg5.unread x2) ⟨k, hk⟩ (ix2 j d) : EReal) = value x2 1 d (k * 1024 + j.val) := fun k hk j => by
    rw [value, dif_pos (by omega)]
    exact read2 arg5 harg5 x2 _ _ (k * 1024) 128 (off5_at i ⟨k, hk⟩) j d (by omega) (by omega)
  obtain ⟨mx, h1, h2⟩ := loop_holds (score (qi i) x0 x1 x3 1 r) (value x2 1 d) (hno 1 r) r d
    (fun k => part arg8 head1 (W8 c i arg3 harg3 arg4 harg4 arg5 harg5 arg6 harg6 arg7 harg7 arg8 harg8 arg9 harg9 arg10 harg10 x0 x1 x2 x3 k)) (fun k => part arg9 head1 (W9 c i arg3 harg3 arg4 harg4 arg5 harg5 arg6 harg6 arg7 harg7 arg8 harg8 arg9 harg9 arg10 harg10 x0 x1 x2 x3 k)) (fun k => part arg10 head1 (W10 c i arg3 harg3 arg4 harg4 arg5 harg5 arg6 harg6 arg7 harg7 arg8 harg8 arg9 harg9 arg10 harg10 x0 x1 x2 x3 k))
    (fun k => if hk : k < (k0_t1_loop i).trips then score1 i arg4 arg6 (Q1 arg3 harg3 x0) k0_pay46 (G1 i arg6 harg6 x3) (harg4.unread x1) (harg6.unread x3) ⟨k, hk⟩ else fun _ => (0 : EReal))
    (fun k => if hk : k < (k0_t1_loop i).trips then val1 i arg5 (harg5.unread x2) ⟨k, hk⟩ else fun _ => (0 : EReal))
    (fun d' => start_part arg8 _ _ _ pay42_val head1 _) (start_part arg9 _ _ _ pay43_val head1 _) (start_part arg10 _ _ _ pay44_val head1 _)
    (k0_t1_loop i).trips
    (fun k hk => by rw [dif_pos hk]; exact (trip_step c i arg3 harg3 arg4 harg4 arg5 harg5 arg6 harg6 arg7 harg7 arg8 harg8 arg9 harg9 arg10 harg10 x0 x1 x2 x3 ⟨k, hk⟩).2.1)
    (fun k hk => by rw [dif_pos hk]; exact (trip_step c i arg3 harg3 arg4 harg4 arg5 harg5 arg6 harg6 arg7 harg7 arg8 harg8 arg9 harg9 arg10 harg10 x0 x1 x2 x3 ⟨k, hk⟩).2.2.1)
    (fun k hk => by rw [dif_pos hk, dif_pos hk]; exact (trip_step c i arg3 harg3 arg4 harg4 arg5 harg5 arg6 harg6 arg7 harg7 arg8 harg8 arg9 harg9 arg10 harg10 x0 x1 x2 x3 ⟨k, hk⟩).2.2.2)
    (fun k hk j => by rw [dif_pos hk]; exact hS k hk j)
    (fun k hk j => by rw [dif_pos hk]; exact hV k hk j)
  rw [last_l1, last_a1, newL_at _ _ _ mx r h1, newA_at _ _ _ _ mx r h1]
  rw [ht] at h2 ⊢
  exact ⟨_, h2.step _ (fun j => dval1 i arg5 harg5 x2 (ix2 j d)) hds hdv (hno 1 r)⟩

end

end Cert.KernelIdeal.Trip

end
-- ==== Proof.Attention.lean ====
/- The forgetting attention of one head, position by position, as a function of the projected rows `z` (queries, keys and values side by side)
   and the cumulative log forget gates `g`. -/
module

public import Idealize.ShloMosaic.PureOps.Ideal
public import Idealize.ShloMosaic.Lib.Pointwise

@[expose] public section

noncomputable section

namespace Cert.Fox

open Idealize.ShloMosaic Idealize.ShloMosaic.Tactic

/-- The softmax average of values `v` with scores `x` over all key positions. -/
def average (x v : ℕ → EReal) : EReal :=
  ∑ p : Fin 4096, v p.val * Ideal.div (Ideal.exp (x p.val - Finset.univ.sup fun p : Fin 4096 => x p.val))
    (∑ p : Fin 4096, Ideal.exp (x p.val - Finset.univ.sup fun p : Fin 4096 => x p.val))

/-- The product of query row `s` and key row `p` of head `h`, batch `b`. -/
def dot (z : (⟨2, ![16384, 3072]⟩ : Shape).Idx → EReal) (b : Fin 4) (h : Fin 8) (s p : Fin 4096) : EReal :=
  ∑ d : Fin 128, z (ix2 ⟨b.val * 4096 + s.val, by omega⟩ ⟨h.val * 128 + d.val, by omega⟩)
    * z (ix2 ⟨b.val * 4096 + p.val, by omega⟩ ⟨1024 + h.val * 128 + d.val, by omega⟩)

/-- A score: the scaled product plus the decay between the positions; minus infinity after the query. -/
def logit (z : (⟨2, ![16384, 3072]⟩ : Shape).Idx → EReal) (g : (⟨2, ![32, 4096]⟩ : Shape).Idx → EReal) (b : Fin 4) (h : Fin 8) (s : Fin 4096)
    (p : ℕ) : EReal :=
  if hp : p < 4096 ∧ p ≤ s.val then
    dot z b h s ⟨p, hp.1⟩ * (((Real.sqrt 128)⁻¹ : ℝ) : EReal)
      + (g (ix2 ⟨b.val * 8 + h.val, by omega⟩ s) - g (ix2 ⟨b.val * 8 + h.val, by omega⟩ ⟨p, hp.1⟩))
  else ⊥

/-- Column `d` of the value row at position `p`. -/
def val (z : (⟨2, ![16384, 3072]⟩ : Shape).Idx → EReal) (b : Fin 4) (h : Fin 8) (d : Fin 128) (p : ℕ) : EReal :=
  if hp : p < 4096 then z (ix2 ⟨b.val * 4096 + p, by omega⟩ ⟨2048 + h.val * 128 + d.val, by omega⟩) else 0

end Cert.Fox

end
-- ==== Proof.Point.lean ====
/- What the body leaves in the output block at one grid point: for each head, row and column the softmax average of the values,
   its weights taken from scores in base e. -/
module

public import proofs.«01_k».proof.Proof.Loop
public import proofs.«01_k».proof.Proof.Attention
public import Idealize.ShloMosaic.Lib.Pipeline.ValueKit.Tiles

@[expose] public section

set_option maxRecDepth 16384

noncomputable section

namespace Cert.KernelIdeal.Trip

open Cert.KernelIdeal Cert.KernelIdeal.Gen Idealize.ShloMosaic Idealize.ShloMosaic.TcCoe Idealize.ShloMosaic.Tactic

section
variable (c : Dev nD) (i : grid0.Coords)
  (arg3 : Memref sig .tc .vmem S1024x256 .bf16) (harg3 : arg3.IsWhole) (arg4 : Memref sig .tc .vmem S4096x256 .bf16) (harg4 : arg4.IsWhole)
  (arg5 : Memref sig .tc .vmem S4096x256 .bf16) (harg5 : arg5.IsWhole) (arg6 : Memref sig .tc .vmem S2x4x1x1024 .f32) (harg6 : arg6.IsWhole)
  (arg7 : Memref sig .tc .vmem S1024x256 .bf16) (harg7 : arg7.IsWhole) (arg8 : Memref sig .tc .vmem S2x1024x128 .f32) (harg8 : arg8.IsWhole)
  (arg9 : Memref sig .tc .vmem S2x1024x128 .f32) (harg9 : arg9.IsWhole) (arg10 : Memref sig .tc .vmem S2x1024x128 .f32) (harg10 : arg10.IsWhole)
  (x0 : Vec Ideal S1024x256 .bf16) (x1 x2 : Vec Ideal S4096x256 .bf16) (x3 : Vec Ideal S2x4x1x1024 .f32)

/-- Running sums over a row's own prefix divide to the softmax average, the scores in base two being those in base e divided by ln 2. -/
theorem average_of_holds (h : Fin 2) (r : Fin 1024) (d : Fin 128) (mx l a : EReal)
    (H : Online.Holds (score (qi i) x0 x1 x3 h r) (value x2 h d) ((i 2).val * 1024 + 1024) mx l a)
    (x : ℕ → EReal) (hx : ∀ p, x p ≠ ⊤) (htx : ∀ p, score (qi i) x0 x1 x3 h r p = x p * (((Real.log 2)⁻¹ : ℝ) : EReal))
    (hb : x ((i 2).val * 1024 + r.val) ≠ ⊥) : Ideal.div a l = Fox.average x (value x2 h d) := by
  have hi : (i 2).val < 4 := (i 2).isLt
  refine (H.extend 4096 (by omega) fun p hp => ?_).average x hx htx ((i 2).val * 1024 + r.val) (by omega) hb _ rfl
  rw [score, dif_neg]
  rintro ⟨_, h2⟩
  have : (qi i).val = (i 2).val := rfl
  have := r.isLt
  omega

/-- The output block at a head, row and column. -/
theorem out_at (hno : NoTop i x0 x1 x3) (h : Fin 2) (r : Fin 1024) (d : Fin 128)
    (x : ℕ → EReal) (hx : ∀ p, x p ≠ ⊤) (htx : ∀ p, score (qi i) x0 x1 x3 h r p = x p * (((Real.log 2)⁻¹ : ℝ) : EReal))
    (hb : x ((i 2).val * 1024 + r.val) ≠ ⊥) :
    (out0_A_4 c i arg3 harg3 arg4 harg4 arg5 harg5 arg6 harg6 arg7 harg7 arg8 harg8 arg9 harg9 arg10 harg10 x0 x1 x2 x3 (ix2 r ⟨h.val * 128 + d.val, by omega⟩) : EReal) = Fox.average x (value x2 h d) := by
  unfold out0_A_4
  rw [View.read_writes_eq_canon _ _ _ (cover0_A_4 c i arg3 harg3 arg4 harg4 arg5 harg5 arg6 harg6 arg7 harg7 arg8 harg8 arg9 harg9 arg10 harg10 x0 x1 x2 x3)]
  unfold kernelRun0_A
  dsimp only
  have e0 : ∀ (c0 : ℕ) (inb : _), (Rect.unit (s := S1024x256) ![0, c0] S1024x128.size inb).emb (ix2 r d)
      = (ix2 r ⟨c0 + d.val, lt_of_lt_of_le (Nat.add_lt_add_left d.isLt c0) (inb 1)⟩ : S1024x256.Idx) := fun c0 inb => by
    funext a
    match a with
    | ⟨0, _⟩ => exact Fin.ext (by show 0 + 1 * r.val = r.val; omega)
    | ⟨1, _⟩ => exact Fin.ext (by show c0 + 1 * d.val = c0 + d.val; omega)
  match h with
  | ⟨1, _⟩ =>
    obtain ⟨mx, H⟩ := head1_holds c i arg3 harg3 arg4 harg4 arg5 harg5 arg6 harg6 arg7 harg7 arg8 harg8 arg9 harg9 arg10 harg10 x0 x1 x2 x3 hno r d
    rw [show (ix2 r ⟨1 * 128 + d.val, _⟩ : S1024x256.Idx) = _ from (e0 128 inb_S1024x256_S1024x128_0_128).symm, View.canon_cons_emb]
    exact (pay1_at _ _ r d).trans (average_of_holds i x0 x1 x2 x3 1 r d mx _ _ H x hx htx hb)
  | ⟨0, _⟩ =>
    obtain ⟨mx, H⟩ := head0_holds c i arg3 harg3 arg4 harg4 arg5 harg5 arg6 harg6 arg7 harg7 arg8 harg8 arg9 harg9 arg10 harg10 x0 x1 x2 x3 hno r d
    rw [View.canon_cons_of_not_mem]
    · rw [show (ix2 r ⟨0 * 128 + d.val, _⟩ : S1024x256.Idx) = _ from (e0 0 inb_S1024x256_S1024x128_0_0).symm, View.canon_cons_emb]
      exact (pay70_at _ _ r d).trans (average_of_holds i x0 x1 x2 x3 0 r d mx _ _ H x hx htx hb)
    · refine Rect.not_mem_set_of_axis _ _ (1 : Fin 2) 128 128 rfl rfl rfl (Or.inl ?_)
      show 0 * 128 + d.val < 128
      omega

end

end Cert.KernelIdeal.Trip

end
-- ==== Proof.Blocks.lean ====
/- What the kernel reads and leaves, as arrays: each grid point's blocks of the arguments, and the result array's element at a batch, position,
   head and column. -/
module

public import proofs.«01_k».proof.Proof.Point
public import proofs.«01_k».proof.Proof.Gen.KernelIdeal.Value
public import Idealize.ShloMosaic.Lib.Claim

@[expose] public section

set_option maxRecDepth 16384

noncomputable section

namespace Cert.KernelIdeal.Trip

open Cert.KernelIdeal Cert.KernelIdeal.Gen Idealize.ShloMosaic Idealize.ShloMosaic.TcCoe Idealize.ShloMosaic.Tactic

/-- The grid is batch, head pair, query tile; where each window's block sits. -/
theorem index_at : ∀ t : Fin cfg0.N,
    (win0_0.index t (0 : Fin 2) = t.val / 16 * 4 + t.val % 4 ∧ win0_0.index t (1 : Fin 2) = t.val / 4 % 4)
    ∧ (win0_1.index t (0 : Fin 2) = t.val / 16 ∧ win0_1.index t (1 : Fin 2) = 4 + t.val / 4 % 4)
    ∧ (win0_2.index t (0 : Fin 2) = t.val / 16 ∧ win0_2.index t (1 : Fin 2) = 8 + t.val / 4 % 4)
    ∧ (win0_3.index t (0 : Fin 4) = t.val / 16 * 4 + t.val / 4 % 4 ∧ win0_3.index t (1 : Fin 4) = 0 ∧ win0_3.index t (2 : Fin 4) = 0 ∧ win0_3.index t (3 : Fin 4) = 0)
    ∧ (win0_4.index t (0 : Fin 2) = t.val / 16 * 4 + t.val % 4 ∧ win0_4.index t (1 : Fin 2) = t.val / 4 % 4)
    ∧ (grid0.coords t 2).val = t.val % 4 ∧ (cfg0.win 4).flush t = true :=
  (by decide +kernel : ∀ t : Fin grid0.N, _)

variable (m : (ℓ : Loc nD τ sig) → Buf (Elt Ideal) ℓ) (c : Dev nD)

/-- The projected queries, keys and values, and the cumulative log gates, as launched. -/
abbrev zArg : S16384x3072.Idx → EReal := m ((c : Thread nD τ).loc main_arg0)
abbrev cArg : S32x4096.Idx → EReal := m ((c : Thread nD τ).loc main_arg1)

theorem block_q (t : Fin cfg0.N) (r : Fin 1024) (e : Fin 256) (a : Fin 16384) (b : Fin 3072)
    (ha : a.val = (t.val / 16 * 4 + t.val % 4) * 1024 + r.val) (hb : b.val = t.val / 4 % 4 * 256 + e.val) :
    (iblk m c 0 t (ix2 r e : S1024x256.Idx) : EReal) = zArg m c (ix2 a b) := by
  obtain ⟨⟨h0, h1⟩, _⟩ := index_at t
  show V m c main_arg0 _ = _
  rw [V_main_arg0]
  refine congrArg _ (funext fun d => ?_)
  match d with
  | ⟨0, _⟩ => exact Fin.ext (by show win0_0.index t (0 : Fin 2) * 1024 + 1 * r.val = a.val; rw [h0]; omega)
  | ⟨1, _⟩ => exact Fin.ext (by show win0_0.index t (1 : Fin 2) * 256 + 1 * e.val = b.val; rw [h1]; omega)

theorem block_k (t : Fin cfg0.N) (r : Fin 4096) (e : Fin 256) (a : Fin 16384) (b : Fin 3072)
    (ha : a.val = t.val / 16 * 4096 + r.val) (hb : b.val = (4 + t.val / 4 % 4) * 256 + e.val) :
    (iblk m c 1 t (ix2 r e : S4096x256.Idx) : EReal) = zArg m c (ix2 a b) := by
  obtain ⟨_, ⟨h0, h1⟩, _⟩ := index_at t
  show V m c main_arg0 _ = _
  rw [V_main_arg0]
  refine congrArg _ (funext fun d => ?_)
  match d with
  | ⟨0, _⟩ => exact Fin.ext (by show win0_1.index t (0 : Fin 2) * 4096 + 1 * r.val = a.val; rw [h0]; omega)
  | ⟨1, _⟩ => exact Fin.ext (by show win0_1.index t (1 : Fin 2) * 256 + 1 * e.val = b.val; rw [h1]; omega)

theorem block_v (t : Fin cfg0.N) (r : Fin 4096) (e : Fin 256) (a : Fin 16384) (b : Fin 3072)
    (ha : a.val = t.val / 16 * 4096 + r.val) (hb : b.val = (8 + t.val / 4 % 4) * 256 + e.val) :
    (iblk m c 2 t (ix2 r e : S4096x256.Idx) : EReal) = zArg m c (ix2 a b) := by
  obtain ⟨_, _, ⟨h0, h1⟩, _⟩ := index_at t
  show V m c main_arg0 _ = _
  rw [V_main_arg0]
  refine congrArg _ (funext fun d => ?_)
  match d with
  | ⟨0, _⟩ => exact Fin.ext (by show win0_2.index t (0 : Fin 2) * 4096 + 1 * r.val = a.val; rw [h0]; omega)
  | ⟨1, _⟩ => exact Fin.ext (by show win0_2.index t (1 : Fin 2) * 256 + 1 * e.val = b.val; rw [h1]; omega)

theorem block_c (t : Fin cfg0.N) (h : Fin 2) (k : Fin 4) (j : Fin 1024) (a : Fin 32) (b : Fin 4096)
    (ha : a.val = (t.val / 16 * 4 + t.val / 4 % 4) * 2 + h.val) (hb : b.val = k.val * 1024 + j.val) :
    (iblk m c 3 t (ix4 h k 0 j : S2x4x1x1024.Idx) : EReal) = cArg m c (ix2 a b) := by
  obtain ⟨_, _, _, ⟨h0, h1, h2, h3⟩, _⟩ := index_at t
  show V m c main_v0 _ = _
  entry_read
  refine (shapeCast_apply _ _ _ (ix2 a b) ?_).trans rfl
  rw [show (((cfg0.win 3).blk t).view.emb (ix4 h k 0 j : S2x4x1x1024.Idx) : S32x4x1x1024.Idx) = ix4 a k 0 j from funext fun d => by
    match d with
    | ⟨0, _⟩ => exact Fin.ext (by show win0_3.index t (0 : Fin 4) * 2 + 1 * h.val = a.val; rw [h0]; omega)
    | ⟨1, _⟩ => exact Fin.ext (by show win0_3.index t (1 : Fin 4) * 4 + 1 * k.val = k.val; rw [h1]; omega)
    | ⟨2, _⟩ => exact Fin.ext (by show win0_3.index t (2 : Fin 4) * 1 + 1 * 0 = 0; rw [h2])
    | ⟨3, _⟩ => exact Fin.ext (by show win0_3.index t (3 : Fin 4) * 1024 + 1 * j.val = j.val; rw [h3]; omega)]
  refine (Shape.rowMajor_val_two (ix2 a b : S32x4096.Idx)).trans (Eq.symm ((Shape.rowMajor_val_four (ix4 a k 0 j : S32x4x1x1024.Idx)).trans ?_))
  show ((a.val * 4 + k.val) * 1 + 0) * 1024 + j.val = a.val * 4096 + b.val
  omega

/-- The result array at a grid point's block. -/
theorem result_block (t : Fin cfg0.N) (r : Fin 1024) (e : Fin 256) (a : Fin 16384) (b : Fin 1024)
    (ha : a.val = (t.val / 16 * 4 + t.val % 4) * 1024 + r.val) (hb : b.val = t.val / 4 % 4 * 256 + e.val) :
    ((dats m 0 c).arrAt 4 cfg0.N (ix2 a b : S16384x1024.Idx) : EReal) = outsAt0 m c t (ix2 r e) := by
  obtain ⟨_, _, _, _, ⟨h0, h1⟩, _, hf⟩ := index_at t
  have hb4 := congrFun (Cert.KernelIdeal.Value.blocks4 m c t hf) (ix2 r e : S1024x256.Idx)
  rw [Cert.KernelIdeal.Value.flushed4] at hb4
  refine Eq.trans (congrArg ((dats m 0 c).arrAt 4 cfg0.N) (funext fun d => ?_)) hb4
  match d with
  | ⟨0, _⟩ => exact Fin.ext (by show a.val = win0_4.index t (0 : Fin 2) * 1024 + 1 * r.val; rw [h0]; omega)
  | ⟨1, _⟩ => exact Fin.ext (by show b.val = win0_4.index t (1 : Fin 2) * 256 + 1 * e.val; rw [h1]; omega)

end Cert.KernelIdeal.Trip

end
-- ==== Proof.Kernel.lean ====
/- The kernel's result at an index: the softmax average of the values with the scores of `Fox.logit`, for finite queries, keys and gates. -/
module

public import proofs.«01_k».proof.Proof.Blocks

@[expose] public section

set_option maxRecDepth 16384

noncomputable section

namespace Cert.KernelIdeal.Trip

open Cert.KernelIdeal Cert.KernelIdeal.Gen Idealize.ShloMosaic Idealize.ShloMosaic.TcCoe Idealize.ShloMosaic.Tactic

/-- The queries, keys and gates are real numbers. -/
structure Finite (z : S16384x3072.Idx → EReal) (g : S32x4096.Idx → EReal) : Prop where
  z : ∀ (a : Fin 16384) (b : Fin 3072), b.val < 2048 → ∃ r : ℝ, z (ix2 a b) = (r : EReal)
  g : ∀ (a : Fin 32) (b : Fin 4096), ∃ r : ℝ, g (ix2 a b) = (r : EReal)

variable {z : S16384x3072.Idx → EReal} {g : S32x4096.Idx → EReal}

/-- A product of a query and a key is then a real number. -/
theorem Finite.dot (hf : Finite z g) (b : Fin 4) (h : Fin 8) (s p : Fin 4096) : ∃ r : ℝ, Fox.dot z b h s p = (r : EReal) := by
  have hq : ∀ d : Fin 128, ∃ r : ℝ, z (ix2 ⟨b.val * 4096 + s.val, by omega⟩ ⟨h.val * 128 + d.val, by omega⟩) = (r : EReal) := fun d => hf.z _ _ (by show h.val * 128 + d.val < 2048; omega)
  have hk : ∀ d : Fin 128, ∃ r : ℝ, z (ix2 ⟨b.val * 4096 + p.val, by omega⟩ ⟨1024 + h.val * 128 + d.val, by omega⟩) = (r : EReal) := fun d => hf.z _ _ (by show 1024 + h.val * 128 + d.val < 2048; omega)
  choose q hq using hq
  choose k hk using hk
  refine ⟨∑ d : Fin 128, q d * k d, ?_⟩
  unfold Fox.dot
  rw [Online.coe_sum]
  refine Finset.sum_congr rfl fun d _ => ?_
  rw [hq, hk, EReal.coe_mul]

/-- So a score is real up to the query's own position; -/
theorem Finite.logit (hf : Finite z g) (b : Fin 4) (h : Fin 8) (s : Fin 4096) (p : ℕ) (hp : p ≤ s.val) :
    ∃ r : ℝ, Fox.logit z g b h s p = (r : EReal) := by
  obtain ⟨S, hS⟩ := hf.dot b h s ⟨p, by omega⟩
  obtain ⟨u, hu⟩ := hf.g ⟨b.val * 8 + h.val, by omega⟩ s
  obtain ⟨w, hw⟩ := hf.g ⟨b.val * 8 + h.val, by omega⟩ ⟨p, by omega⟩
  refine ⟨S * (Real.sqrt 128)⁻¹ + (u - w), ?_⟩
  rw [Fox.logit, dif_pos ⟨by omega, hp⟩, hS, hu, hw, EReal.coe_add, EReal.coe_mul, EReal.coe_sub]

/-- and never plus infinity. -/
theorem Finite.logit_ne_top (hf : Finite z g) (b : Fin 4) (h : Fin 8) (s : Fin 4096) (p : ℕ) : Fox.logit z g b h s p ≠ ⊤ := by
  by_cases hp : p ≤ s.val
  · obtain ⟨r, hr⟩ := hf.logit b h s p hp
    rw [hr]
    exact EReal.coe_ne_top r
  · rw [Fox.logit, dif_neg fun h => hp h.2]
    exact bot_ne_top

/-- The kernel's score in base two is the score divided by ln 2. -/
theorem score_logit (hf : Finite z g) (qi : Fin 4) (x0 : Vec Ideal S1024x256 .bf16) (x1 : Vec Ideal S4096x256 .bf16) (x3 : Vec Ideal S2x4x1x1024 .f32)
    (hh : Fin 2) (r : Fin 1024) (b : Fin 4) (h : Fin 8) (s : Fin 4096) (hs : s.val = qi.val * 1024 + r.val)
    (hq : ∀ d : Fin 128, (x0 (ix2 r ⟨hh.val * 128 + d.val, by omega⟩) : EReal) = z (ix2 ⟨b.val * 4096 + s.val, by omega⟩ ⟨h.val * 128 + d.val, by omega⟩))
    (hk : ∀ (p : Fin 4096) (d : Fin 128), (x1 (ix2 p ⟨hh.val * 128 + d.val, by omega⟩) : EReal) = z (ix2 ⟨b.val * 4096 + p.val, by omega⟩ ⟨1024 + h.val * 128 + d.val, by omega⟩))
    (hc : ∀ (k : Fin 4) (j : Fin 1024), (x3 (ix4 hh k 0 j) : EReal) = g (ix2 ⟨b.val * 8 + h.val, by omega⟩ ⟨k.val * 1024 + j.val, by omega⟩))
    (p : ℕ) : score qi x0 x1 x3 hh r p = Fox.logit z g b h s p * (((Real.log 2)⁻¹ : ℝ) : EReal) := by
  have hl : 0 < Real.log 2 := Real.log_pos one_lt_two
  by_cases hp : p < 4096 ∧ p ≤ s.val
  · rw [score, dif_pos ⟨hp.1, hs ▸ hp.2⟩, Fox.logit, dif_pos hp]
    obtain ⟨S, hS⟩ := hf.dot b h s ⟨p, hp.1⟩
    obtain ⟨u, hu⟩ := hf.g ⟨b.val * 8 + h.val, by omega⟩ s
    obtain ⟨w, hw⟩ := hf.g ⟨b.val * 8 + h.val, by omega⟩ ⟨p, hp.1⟩
    have e1 : (x3 (ix4 hh qi 0 r) : EReal) = u := (hc qi r).trans ((congrArg (fun t => g (ix2 _ t)) (Fin.ext hs.symm)).trans hu)
    have e2 : (x3 (ix4 hh ⟨p / 1024, by omega⟩ 0 ⟨p % 1024, by omega⟩) : EReal) = w :=
      (hc _ _).trans ((congrArg (fun t => g (ix2 _ t)) (Fin.ext (by show p / 1024 * 1024 + p % 1024 = p; omega))).trans hw)
    have e3 : (∑ d : Fin 128, (x0 (ix2 r ⟨hh.val * 128 + d.val, by omega⟩) * x1 (ix2 ⟨p, hp.1⟩ ⟨hh.val * 128 + d.val, by omega⟩) : EReal)) = S :=
      (Finset.sum_congr rfl fun d _ => congrArg₂ (fun u v : EReal => u * v) (hq d) (hk ⟨p, hp.1⟩ d)).trans hS
    rw [e1, e2, e3, hS, hu, hw]
    simp only [← EReal.coe_mul, ← EReal.coe_sub, ← EReal.coe_add]
    exact congrArg _ (by rw [mul_inv]; ring)
  · rw [score, dif_neg (hs ▸ hp), Fox.logit, dif_neg hp]
    exact (EReal.bot_mul_coe_of_pos (inv_pos.mpr hl)).symm

variable (m : (ℓ : Loc nD τ sig) → Buf (Elt Ideal) ℓ) (c : Dev nD)

/-- THE KERNEL'S RESULT at a batch, position, head and column. -/
theorem result_at (hf : Finite (zArg m c) (cArg m c)) (b : Fin 4) (s : Fin 4096) (h : Fin 8) (d : Fin 128) :
    ((dats m 0 c).arrAt 4 cfg0.N (ix2 ⟨b.val * 4096 + s.val, by omega⟩ ⟨h.val * 128 + d.val, by omega⟩ : S16384x1024.Idx) : EReal)
      = Fox.average (Fox.logit (zArg m c) (cArg m c) b h s) (Fox.val (zArg m c) b h d) := by
  have hN : cfg0.N = 64 := by decide +kernel
  have ht : b.val * 16 + h.val / 2 * 4 + s.val / 1024 < cfg0.N := by rw [hN]; omega
  generalize hT : (⟨b.val * 16 + h.val / 2 * 4 + s.val / 1024, ht⟩ : Fin cfg0.N) = t
  have htv : t.val = b.val * 16 + h.val / 2 * 4 + s.val / 1024 := by rw [← hT]
  have t1 : t.val / 16 = b.val := by omega
  have t2 : t.val / 4 % 4 = h.val / 2 := by omega
  have t3 : t.val % 4 = s.val / 1024 := by omega
  obtain ⟨_, _, _, _, _, hi, _⟩ := index_at t
  let hh : Fin 2 := ⟨h.val % 2, by omega⟩
  let r : Fin 1024 := ⟨s.val % 1024, by omega⟩
  have hqi : (qi (grid0.coords t)).val = s.val / 1024 := hi.trans t3
  rw [result_block m c t r ⟨hh.val * 128 + d.val, by omega⟩ _ _ (by show b.val * 4096 + s.val = _ * 1024 + s.val % 1024; omega)
    (by show h.val * 128 + d.val = _ * 256 + (h.val % 2 * 128 + d.val); omega)]
  have hs : ∀ (h' : Fin 2) (r' : Fin 1024) (p : ℕ), score (qi (grid0.coords t)) (iblk m c 0 t) (iblk m c 1 t) (iblk m c 3 t) h' r' p
      = Fox.logit (zArg m c) (cArg m c) b ⟨h.val / 2 * 2 + h'.val, by omega⟩ ⟨s.val / 1024 * 1024 + r'.val, by omega⟩ p
        * (((Real.log 2)⁻¹ : ℝ) : EReal) := fun h' r' p => by
    refine score_logit hf _ _ _ _ h' r' b _ _ (by show s.val / 1024 * 1024 + r'.val = (qi (grid0.coords t)).val * 1024 + r'.val; rw [hqi]) (fun d => ?_) (fun p d => ?_) (fun k j => ?_) p
    · exact block_q m c t r' _ _ _ (by show b.val * 4096 + (s.val / 1024 * 1024 + r'.val) = _; omega) (by show (h.val / 2 * 2 + h'.val) * 128 + d.val = _ * 256 + (h'.val * 128 + d.val); omega)
    · exact block_k m c t p _ _ _ (by show b.val * 4096 + p.val = _; omega) (by show 1024 + (h.val / 2 * 2 + h'.val) * 128 + d.val = _ * 256 + (h'.val * 128 + d.val); omega)
    · exact block_c m c t h' k j _ _ (by show b.val * 8 + (h.val / 2 * 2 + h'.val) = _; omega) rfl
  have hv : value (iblk m c 2 t) hh d = Fox.val (zArg m c) b h d := funext fun p => by
    unfold value Fox.val
    split_ifs with hp
    · exact block_v m c t ⟨p, hp⟩ _ _ _ (by show b.val * 4096 + p = t.val / 16 * 4096 + p; omega) (by show 2048 + h.val * 128 + d.val = _ * 256 + (h.val % 2 * 128 + d.val); omega)
    · rfl
  have e1 : (⟨h.val / 2 * 2 + hh.val, by omega⟩ : Fin 8) = h := Fin.ext (by show h.val / 2 * 2 + h.val % 2 = h.val; omega)
  have e2 : (⟨s.val / 1024 * 1024 + r.val, by omega⟩ : Fin 4096) = s := Fin.ext (by show s.val / 1024 * 1024 + s.val % 1024 = s.val; omega)
  rw [← hv]
  unfold outsAt0
  refine out_at c (grid0.coords t) _ _ _ _ _ _ _ _ _ _ _ _ _ _ _ _ (iblk m c 0 t) (iblk m c 1 t) (iblk m c 2 t) (iblk m c 3 t) (fun h' r' p => ?_) hh r d _
    (hf.logit_ne_top b h s) (fun p => ?_) ?_
  · rw [hs]
    by_cases hp : p ≤ s.val / 1024 * 1024 + r'.val
    · obtain ⟨x, hx⟩ := hf.logit b ⟨h.val / 2 * 2 + h'.val, by omega⟩ ⟨s.val / 1024 * 1024 + r'.val, by omega⟩ p hp
      rw [hx, ← EReal.coe_mul]
      exact EReal.coe_ne_top _
    · rw [Fox.logit, dif_neg fun h => hp h.2, EReal.bot_mul_coe_of_pos (inv_pos.mpr (Real.log_pos one_lt_two))]
      exact bot_ne_top
  · rw [hs hh r p, e1, e2]
  · have e3 : (grid0.coords t 2).val * 1024 + r.val = s.val := by rw [hi, t3]; show s.val / 1024 * 1024 + s.val % 1024 = s.val; omega
    rw [e3]
    obtain ⟨x, hx⟩ := hf.logit b h s s.val le_rfl
    rw [hx]
    exact EReal.coe_ne_bot x

end Cert.KernelIdeal.Trip

end
-- ==== Proof.Reference.lean ====
/- The reference's result at an index: the softmax average of the values with the scores of `Fox.logit`. -/
module

public import proofs.«01_k».proof.Proof.Attention
public import proofs.«01_k».proof.Proof.Gen.ReferenceIdeal.Read

@[expose] public section

set_option maxRecDepth 16384

noncomputable section

namespace Cert.ReferenceIdeal.Fox

open Cert.ReferenceIdeal Cert.ReferenceIdeal.Read Idealize.ShloMosaic Idealize.ShloMosaic.TcCoe Idealize.ShloMosaic.Tactic Cert.Fox

variable (x0 : (⟨S16384x3072, .bf16⟩ : BufTy).Contents (Elt Ideal)) (x1 : (⟨S32x4096, .f32⟩ : BufTy).Contents (Elt Ideal))

/-- Queries, keys and values of a head, read from the argument's columns. -/
theorem q_at (b : Fin 4) (s : Fin 4096) (h : Fin 8) (d : Fin 128) :
    (val_main_v5 (F := Ideal) x0 (ix4 b s h d) : EReal) = x0 (ix2 ⟨b.val * 4096 + s.val, by omega⟩ ⟨h.val * 128 + d.val, by omega⟩) := by
  rw [val_main_v5_apply, val_main_v2_apply, val_main_v1_apply, val_main_v0_apply]
  refine congrArg x0 (funext fun a => ?_)
  match a with
  | ⟨0, _⟩ => exact Fin.ext (by simp [idx_main_v1, idx_main_v2, idx_main_v5]; omega)
  | ⟨1, _⟩ => exact Fin.ext (by simp [idx_main_v1, idx_main_v2, idx_main_v5]; omega)

theorem k_at (b : Fin 4) (s : Fin 4096) (h : Fin 8) (d : Fin 128) :
    (val_main_v6 (F := Ideal) x0 (ix4 b s h d) : EReal) = x0 (ix2 ⟨b.val * 4096 + s.val, by omega⟩ ⟨1024 + h.val * 128 + d.val, by omega⟩) := by
  rw [val_main_v6_apply, val_main_v3_apply, val_main_v1_apply, val_main_v0_apply]
  refine congrArg x0 (funext fun a => ?_)
  match a with
  | ⟨0, _⟩ => exact Fin.ext (by simp [idx_main_v1, idx_main_v3, idx_main_v6]; omega)
  | ⟨1, _⟩ => exact Fin.ext (by simp [idx_main_v1, idx_main_v3, idx_main_v6]; omega)

theorem v_at (b : Fin 4) (s : Fin 4096) (h : Fin 8) (d : Fin 128) :
    (val_main_v7 (F := Ideal) x0 (ix4 b s h d) : EReal) = x0 (ix2 ⟨b.val * 4096 + s.val, by omega⟩ ⟨2048 + h.val * 128 + d.val, by omega⟩) := by
  rw [val_main_v7_apply, val_main_v4_apply, val_main_v1_apply, val_main_v0_apply]
  refine congrArg x0 (funext fun a => ?_)
  match a with
  | ⟨0, _⟩ => exact Fin.ext (by simp [idx_main_v1, idx_main_v4, idx_main_v7]; omega)
  | ⟨1, _⟩ => exact Fin.ext (by simp [idx_main_v1, idx_main_v4, idx_main_v7]; omega)

/-- The gates, transposed. -/
theorem c_at (b : Fin 4) (s : Fin 4096) (h : Fin 8) :
    (val_main_v9 (F := Ideal) x1 (ix3 b s h) : EReal) = x1 (ix2 ⟨b.val * 8 + h.val, by omega⟩ s) := by
  rw [val_main_v9_apply, val_main_v8_apply]
  refine congrArg x1 (funext fun a => ?_)
  match a with
  | ⟨0, _⟩ => exact Fin.ext (by simp [idx_main_v8, idx_main_v9]; omega)
  | ⟨1, _⟩ => exact Fin.ext (by simp [idx_main_v8, idx_main_v9])

/-- The decay between two positions. -/
theorem decay_at (b : Fin 4) (h : Fin 8) (s p : Fin 4096) :
    (val_main_v21 (F := Ideal) x1 (ix4 b h s p) : EReal)
      = x1 (ix2 ⟨b.val * 8 + h.val, by omega⟩ s) - x1 (ix2 ⟨b.val * 8 + h.val, by omega⟩ p) := by
  rw [val_main_v21_apply, val_main_v19_apply, val_main_v16_apply, val_main_v15_apply, val_main_v20_apply, val_main_v18_apply, val_main_v17_apply]
  rw [← c_at x1 b s h, ← c_at x1 b p h]
  refine congrArg₂ (fun u v : EReal => u - v) (congrArg _ (funext fun a => ?_)) (congrArg _ (funext fun a => ?_)) <;>
  match a with
  | ⟨0, _⟩ => rfl
  | ⟨1, _⟩ => rfl
  | ⟨2, _⟩ => rfl

theorem ofBits_128 : (FloatOps.ofBits (F := Ideal) .f32 0x43000000#32 : EReal) = ((128 : ℝ) : EReal) := by
  show Ideal.ofBits .f32 0x43000000#32 = _
  simp [Ideal.ofBits, Ideal.ieee]
  rw [← EReal.coe_mul]
  norm_num

theorem ofBits_bot : (FloatOps.ofBits (F := Ideal) .f32 0xFF800000#32 : EReal) = ⊥ := by
  show Ideal.ofBits .f32 0xFF800000#32 = _
  simp [Ideal.ofBits, Ideal.ieee]

/-- The scaled product. -/
theorem scaled_at (b : Fin 4) (h : Fin 8) (s p : Fin 4096) :
    (val_main_v14 (F := Ideal) x0 (ix4 b h s p) : EReal) = dot x0 b h s p * (((Real.sqrt 128)⁻¹ : ℝ) : EReal) := by
  have e : (val_main_v11 (F := Ideal) x0 (ix4 b h s p) : EReal) = dot x0 b h s p := by
    rw [val_main_v11_apply]
    refine Finset.sum_congr rfl fun d _ => ?_
    rw [← q_at x0 b s h d, ← k_at x0 b p h d]
    refine congrArg₂ (fun u v : EReal => u * v) (congrArg _ (funext fun a => ?_)) (congrArg _ (funext fun a => ?_)) <;>
    match a with
    | ⟨0, _⟩ => rfl
    | ⟨1, _⟩ => rfl
    | ⟨2, _⟩ => rfl
    | ⟨3, _⟩ => rfl
  rw [val_main_v14_apply, val_main_v13_apply, val_main_v12_apply, val_main_cst_apply, ofBits_128, e]
  show Ideal.div _ (Ideal.sqrt ((128 : ℝ) : EReal)) = _
  rw [Ideal.sqrt_coe, if_neg (by norm_num), Ideal.div, if_neg]
  · rw [EReal.coe_inv]
  · have : Real.sqrt 128 ≠ 0 := by positivity
    exact_mod_cast this

/-- The causal mask. -/
theorem mask_at (s p : Fin 4096) :
    val_main_v26 (F := Ideal) (ix2 s p) = BitVec.ofBool (decide (p.val ≤ s.val)) := by
  rw [val_main_v26_apply, val_main_v24_apply, val_main_v22_apply, val_main_v25_apply, val_main_v23_apply, val_main_v10_apply, val_main_v10_apply]
  show BitVec.ofBool (BitVec.sle (BitVec.ofNat 32 p.val) (BitVec.ofNat 32 s.val)) = _
  have e : ∀ q : Fin 4096, (BitVec.ofNat 32 q.val).toInt = (q.val : ℤ) := fun q => by
    rw [BitVec.toInt_eq_toNat_of_lt (by rw [BitVec.toNat_ofNat, Nat.mod_eq_of_lt (by omega)]; omega), BitVec.toNat_ofNat, Nat.mod_eq_of_lt (by omega)]
  rw [BitVec.sle, e, e]
  exact congrArg BitVec.ofBool (decide_eq_decide.mpr (by omega))

/-- The masked scores. -/
theorem logit_at (b : Fin 4) (h : Fin 8) (s p : Fin 4096) :
    (val_main_v28 (F := Ideal) x0 x1 (ix4 b h s p) : EReal) = logit x0 x1 b h s p.val := by
  rw [val_main_v28_apply, val_main_call0_v1_apply, val_main_call0_v2_apply, val_main_call0_v0_apply, val_main_cst_0_apply, ofBits_bot]
  rw [show idx_main_call0_v1 (ix4 b h s p) = ix2 s p from funext fun a => by
    match a with
    | ⟨0, _⟩ => rfl
    | ⟨1, _⟩ => rfl]
  rw [mask_at, Scalar.select_decide, logit]
  by_cases hp : p.val ≤ s.val
  · rw [if_pos hp, dif_pos ⟨p.isLt, hp⟩, val_main_v27_apply]
    exact congrArg₂ (fun u v : EReal => u + v) (scaled_at x0 b h s p) (decay_at x1 b h s p)
  · rw [if_neg hp, dif_neg fun h => hp h.2]

/-- The row's greatest score. -/
theorem max_at (b : Fin 4) (h : Fin 8) (s : Fin 4096) :
    (val_main_v31 (F := Ideal) x0 x1 (ix3 b h s) : EReal) = Finset.univ.sup fun p : Fin 4096 => logit x0 x1 b h s p.val := by
  rw [val_main_v31_apply, val_main_v30_apply, val_main_cst_2_apply, ofBits_bot]
  refine (max_eq_right bot_le).trans ?_
  unfold val_main_v29
  rw [Host.reduce_eq_fold_single FloatOps.maximumf _ _ Gen.reducesTo_S4x8x4096x4096_S4x8x4096_d3 (by decide) Gen.h_S_, val_main_cst_1_apply, ofBits_bot]
  refine Finset.sup_congr rfl fun p _ => (congrArg _ (funext fun a => ?_)).trans (logit_at x0 x1 b h s p)
  match a with
  | ⟨0, _⟩ => rfl
  | ⟨1, _⟩ => rfl
  | ⟨2, _⟩ => rfl
  | ⟨3, _⟩ => rfl

/-- An unnormalised weight. -/
theorem exp_at (b : Fin 4) (h : Fin 8) (s p : Fin 4096) :
    (val_main_v35 (F := Ideal) x0 x1 (ix4 b h s p) : EReal)
      = Ideal.exp (logit x0 x1 b h s p.val - Finset.univ.sup fun p : Fin 4096 => logit x0 x1 b h s p.val) := by
  rw [val_main_v35_apply, val_main_v34_apply, val_main_v33_apply, val_main_v32_apply, ← max_at x0 x1 b h s, ← logit_at x0 x1 b h s p]
  refine congrArg (fun u : EReal => Ideal.exp (val_main_v28 (F := Ideal) x0 x1 (ix4 b h s p) - u)) (congrArg _ (funext fun a => ?_))
  match a with
  | ⟨0, _⟩ => rfl
  | ⟨1, _⟩ => rfl
  | ⟨2, _⟩ => rfl

/-- A weight. -/
theorem weight_at (b : Fin 4) (h : Fin 8) (s p : Fin 4096) :
    (val_main_v39 (F := Ideal) x0 x1 (ix4 b h s p) : EReal)
      = Ideal.div (Ideal.exp (logit x0 x1 b h s p.val - Finset.univ.sup fun p : Fin 4096 => logit x0 x1 b h s p.val))
        (∑ p : Fin 4096, Ideal.exp (logit x0 x1 b h s p.val - Finset.univ.sup fun p : Fin 4096 => logit x0 x1 b h s p.val)) := by
  rw [val_main_v39_apply, val_main_v38_apply, val_main_v37_apply, val_main_v36_apply, val_main_cst_3_apply, exp_at]
  refine congrArg (fun u : EReal => Ideal.div _ u) ?_
  refine (congrArg (fun u : EReal => u + _) (Ideal.ofBits_zero_f32)).trans ((zero_add _).trans ?_)
  refine Finset.sum_congr rfl fun q _ => ?_
  rw [← exp_at x0 x1 b h s q]
  refine congrArg _ (funext fun a => ?_)
  match a with
  | ⟨0, _⟩ => rfl
  | ⟨1, _⟩ => rfl
  | ⟨2, _⟩ => rfl
  | ⟨3, _⟩ => rfl

/-- THE REFERENCE'S RESULT at a batch, position, head and column. -/
theorem result_at (b : Fin 4) (s : Fin 4096) (h : Fin 8) (d : Fin 128) :
    (val_main_v43 (F := Ideal) x0 x1 (ix2 ⟨b.val * 4096 + s.val, by omega⟩ ⟨h.val * 128 + d.val, by omega⟩) : EReal)
      = average (logit x0 x1 b h s) (val x0 b h d) := by
  rw [val_main_v43_apply, val_main_v42_apply, val_main_v41_apply]
  show (val_main_v40 (F := Ideal) x0 x1 _ : EReal) = _
  rw [show idx_main_v41 (idx_main_v42 _) = (ix4 b h d s : S4x8x128x4096.Idx) from funext fun a => by
    match a with
    | ⟨0, _⟩ => exact Fin.ext (by simp [idx_main_v41, idx_main_v42]; omega)
    | ⟨1, _⟩ => exact Fin.ext (by simp [idx_main_v41, idx_main_v42]; omega)
    | ⟨2, _⟩ => exact Fin.ext (by simp [idx_main_v41, idx_main_v42]; omega)
    | ⟨3, _⟩ => exact Fin.ext (by simp [idx_main_v41, idx_main_v42]; omega)]
  rw [val_main_v40_apply]
  refine Finset.sum_congr rfl fun p _ => ?_
  rw [← weight_at x0 x1 b h s p, val, dif_pos p.isLt]
  refine congrArg₂ (fun u v : EReal => u * v) ((congrArg _ (funext fun a => ?_)).trans (v_at x0 b p h d)) (congrArg _ (funext fun a => ?_)) <;>
  match a with
  | ⟨0, _⟩ => rfl
  | ⟨1, _⟩ => rfl
  | ⟨2, _⟩ => rfl
  | ⟨3, _⟩ => rfl

end Cert.ReferenceIdeal.Fox

end
-- ==== Proof.Claims.lean ====
/- The claims: the frames, the named constants, and the equality of the kernel's and the reference's results. -/
module

public import proofs.«01_k».proof.Defs
public import proofs.«01_k».proof.Proof.Kernel
public import proofs.«01_k».proof.Proof.Reference
public import proofs.«01_k».proof.Proof.Gen.Kernel
public import proofs.«01_k».proof.Proof.Gen.Kernel.Frame
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.SL.Sem Idealize.ShloMosaic.Tactic

/-- The precondition's own side conditions. -/
instance pre_facts : Cert.Pre_scores_finite.Facts where
  slices_S16384x3072_S16384x2048_0_0 := by decide
  bitsLt_bf16_f32 := by decide
  bcast_S_S16384x2048 := by decide
  bcast_S_S32x4096 := by decide

/-- A number whose absolute value is below plus infinity is real. -/
theorem real_of_abs (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have ht : Ideal.ofBits .f32 0x7F800000#32 = ⊤ := by simp [Ideal.ofBits, Ideal.ieee]
  have hlt : max x (-x) < Ideal.ofBits .f32 0x7F800000#32 := by
    have h' : BitVec.ofBool (decide (max x (-x) < Ideal.ofBits .f32 0x7F800000#32)) = 1#1 := h
    by_contra hn
    rw [decide_eq_false hn] at h'
    exact absurd h' (by decide)
  rw [ht] at hlt
  induction x with
  | bot => simp at hlt
  | top => simp at hlt
  | coe r => exact ⟨r, rfl⟩

/-- The precondition says that queries, keys and gates are real. -/
theorem finite_of_pre (m : (ℓ : Loc Cert.KernelIdeal.nD Cert.KernelIdeal.τ Cert.KernelIdeal.sig) → Buf (Elt Ideal) ℓ)
    (h : Cert.Pre_KernelIdeal_scores_finite m) (c : Dev Cert.KernelIdeal.nD) :
    Cert.KernelIdeal.Trip.Finite (Cert.KernelIdeal.Trip.zArg m c) (Cert.KernelIdeal.Trip.cArg m c) where
  z a b hb := by
    have e := congrFun (h c).1 (ix2 a ⟨b.val, hb⟩)
    refine real_of_abs _ (Eq.trans ?_ e)
    refine congrArg (fun x : EReal => FloatOps.cmpf (F := Ideal) (φ := .f32) .olt (FloatOps.hostAbsf (F := Ideal) (φ := .f32) x) (FloatOps.ofBits (F := Ideal) .f32 0x7F800000#32)) ?_
    refine congrArg (Cert.KernelIdeal.Trip.zArg m c) (funext fun d => ?_)
    match d with
    | ⟨0, _⟩ => exact Fin.ext (by show a.val = 0 + a.val; omega)
    | ⟨1, _⟩ => exact Fin.ext (by show b.val = 0 + b.val; omega)
  g a b := real_of_abs _ (congrFun (h c).2 (ix2 a b))

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_scores_finite := fun m ρ _ => Cert.KernelIdeal.Gen.frame m ρ

theorem run_ri (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)
theorem frame_ri : Cert.quiescent_ReferenceIdeal := fun m g _ => run_ri m g
theorem frame_ri_pre : Cert.quiescent_ReferenceIdeal_pre_scores_finite := fun m g _ => run_ri m g

theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "scale2" .f32 0x3E0293EE#32 ((((Real.sqrt 128) * (Real.log 2))⁻¹ : ℝ) : EReal) rfl⟩

/-- The two results agree at every index: the kernel's running sums divide to the reference's softmax average. -/
theorem algebraic : Cert.algebraic_KernelIdeal_ReferenceIdeal_pre_scores_finite := by
  intro m g m' g' hpre hagree
  refine ⟨fun c => (Cert.KernelIdeal.Gen.dats m 0 c).arrAt 4 Cert.KernelIdeal.cfg0.N, Cert.KernelIdeal.Value.run_blocks (F := Ideal) m g, ?_⟩
  refine (θ_run Cert.ReferenceIdeal.defs _ _).mono (fun r h c => ⟨(h c).1.trans ?_, (h c).2⟩) (Cert.ReferenceIdeal.Value.run (F := Ideal) m' g')
  rw [Cert.ReferenceIdeal.Read.val_main_v43_eq m' c, (hagree c).1, (hagree c).2]
  funext i
  have hi0 : (i 0).val < 16384 := (i 0).isLt
  have hi1 : (i 1).val < 1024 := (i 1).isLt
  have e : i = ix2 (n0 := 16384) (n1 := 1024)
      ⟨(⟨(i 0).val / 4096, by omega⟩ : Fin 4).val * 4096 + (⟨(i 0).val % 4096, by omega⟩ : Fin 4096).val, by show (i 0).val / 4096 * 4096 + (i 0).val % 4096 < 16384; omega⟩
      ⟨(⟨(i 1).val / 128, by omega⟩ : Fin 8).val * 128 + (⟨(i 1).val % 128, by omega⟩ : Fin 128).val, by show (i 1).val / 128 * 128 + (i 1).val % 128 < 1024; omega⟩ :=
    funext fun d => by
      match d with
      | ⟨0, _⟩ => exact Fin.ext (by show (i 0).val = (i 0).val / 4096 * 4096 + (i 0).val % 4096; omega)
      | ⟨1, _⟩ => exact Fin.ext (by show (i 1).val = (i 1).val / 128 * 128 + (i 1).val % 128; omega)
  rw [e]
  exact (Cert.ReferenceIdeal.Fox.result_at _ _ _ _ _ _).trans (Cert.KernelIdeal.Trip.result_at m c (finite_of_pre m hpre c) _ _ _ _).symm

end Cert.Proof

end
-- ==== Proof.FfnSetup.lean ====
/- The launch of the feed-forward call: its arrays, its windows' blocks, its branch conditions and its buffers. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A device's buffer as launched. -/
abbrev V (c : Dev nD) (b : Ref sig .tc) : Buf (Elt F) ((c : Thread nD τ).loc b) := m ((c : Thread nD τ).loc b)

set_option maxHeartbeats 800000 in
/-- The program is the kernel's one launch. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- No operation before the launch writes an argument. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-- The block of its array that a window holds at a grid step. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Before a grid step each read window holds its block of its argument. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- A launch that keeps its read arrays leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c)))⟩) h

abbrev cond0_0 (i : grid0.Coords) : Prop := (Scalar.cmpi .ne (Scalar.extui (Scalar.cmpi .eq (BitVec.ofNat 32 (i 1).val) 0#32)) 0#32) = 1#1
/-- Every step is the first of its row of the grid. -/
theorem hcond0_0 : ∀ t : Fin cfg0.N, cond0_0 (grid0.coords t) :=
  (fun t => by
    have ht : t.val < 32 := Nat.lt_of_lt_of_eq t.isLt N_0
    have e0 : (grid0.coords t 0).val = t.val / 1 % 32 := Pipeline.Grid.coords_val t 0 (by decide) rfl
    have e1 : (grid0.coords t 1).val = t.val / 1 % 1 := Pipeline.Grid.coords_val t 1 (by decide) rfl
    simp only [cond0_0, e0, e1]
    word_cmp
   : ∀ t : Fin grid0.N, cond0_0 (grid0.coords t))

abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1
/-- Every eighth step starts a sequence. -/
theorem hcond0_1 : ∀ t : Fin cfg0.N, cond0_1 (grid0.coords t) ↔ t.val % 8 = 0 :=
  (by decide +kernel : ∀ t : Fin grid0.N, cond0_1 (grid0.coords t) ↔ t.val % 8 = 0)

abbrev cond0_2 (i : grid0.Coords) : Prop := (Scalar.cmpi .ne (Scalar.extui (Scalar.xori (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32) 1#1)) 0#32) = 1#1
/-- The other steps continue one. -/
theorem hcond0_2 : ∀ t : Fin cfg0.N, cond0_2 (grid0.coords t) ↔ ¬(t.val % 8 = 0) :=
  (by decide +kernel : ∀ t : Fin grid0.N, cond0_2 (grid0.coords t) ↔ ¬(t.val % 8 = 0))

abbrev cond0_3 (i : grid0.Coords) : Prop := k0_cond4 i = 1#1
/-- Every step is the last of its row of the grid. -/
theorem hcond0_3 : ∀ t : Fin cfg0.N, cond0_3 (grid0.coords t) :=
  (fun t => by
    have ht : t.val < 32 := Nat.lt_of_lt_of_eq t.isLt N_0
    have e0 : (grid0.coords t 0).val = t.val / 1 % 32 := Pipeline.Grid.coords_val t 0 (by decide) rfl
    have e1 : (grid0.coords t 1).val = t.val / 1 % 1 := Pipeline.Grid.coords_val t 1 (by decide) rfl
    simp only [cond0_3, k0_cond4, e0, e1]
    word_cmp
   : ∀ t : Fin grid0.N, cond0_3 (grid0.coords t))

/-- No window rests at any step. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_9 : ∀ t : Fin cfg0.N, cfg0.idle 9 (grid0.coords t) = false := fun _ => rfl

abbrev conds0_A (i : grid0.Coords) : Prop := cond0_0 i ∧ cond0_1 i ∧ ¬cond0_2 i ∧ cond0_3 i
instance conds0_A.dec (i : grid0.Coords) : Decidable (conds0_A i) :=
  @instDecidableAnd _ _ inferInstance (@instDecidableAnd _ _ inferInstance (@instDecidableAnd _ _ inferInstance inferInstance))
abbrev conds0_B (i : grid0.Coords) : Prop := cond0_0 i ∧ ¬cond0_1 i ∧ cond0_2 i ∧ cond0_3 i
instance conds0_B.dec (i : grid0.Coords) : Decidable (conds0_B i) :=
  @instDecidableAnd _ _ inferInstance (@instDecidableAnd _ _ inferInstance (@instDecidableAnd _ _ inferInstance inferInstance))
theorem liveAt0_8_A : ∀ t : Fin cfg0.N, cond0_0 (grid0.coords t) → cond0_1 (grid0.coords t) → ¬cond0_2 (grid0.coords t) → cond0_3 (grid0.coords t) → cfg0.idle 8 (grid0.coords t) = false :=
  fun t h0 h1 h2 h3 => (by decide +kernel : ∀ t : Fin cfg0.N, conds0_A (grid0.coords t) → cfg0.idle 8 (grid0.coords t) = false) t ⟨h0, h1, h2, h3⟩
theorem liveAt0_8_B : ∀ t : Fin cfg0.N, cond0_0 (grid0.coords t) → ¬cond0_1 (grid0.coords t) → cond0_2 (grid0.coords t) → cond0_3 (grid0.coords t) → cfg0.idle 8 (grid0.coords t) = false :=
  fun t h0 h1 h2 h3 => (by decide +kernel : ∀ t : Fin cfg0.N, conds0_B (grid0.coords t) → cfg0.idle 8 (grid0.coords t) = false) t ⟨h0, h1, h2, h3⟩

abbrev VO0_8 : View sig .tc .vmem S512x1024 .f32 := (Memref.whole cc0_stg8_0 : Memref sig .tc .vmem S512x1024 .f32).view
abbrev VO0_9 : View sig .tc .vmem S1x2x2816 .f32 := (Memref.whole cc0_stg9_0 : Memref sig .tc .vmem S1x2x2816 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2816 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x2816 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x2816 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2816x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x2816 .f32 := win0_9.stage (cfg0.slots t 9)
abbrev hs0_9 (t : Fin cfg0.N) : (ms0_9 t).IsWhole := hstage0_9 ((cfg0.slots t 9).cast nbuf0_9)
abbrev scM0_0 : Memref sig .tc .vmem S512x1024 .bf16 := Memref.whole cc0_scratch0
abbrev scM0_1 : Memref sig .tc .vmem S512x1024 .f32 := Memref.whole cc0_scratch1
abbrev scM0_2 : Memref sig .tc .vmem S520x2816 .f32 := Memref.whole cc0_scratch2
abbrev scM0_3 : Memref sig .tc .vmem S1x2x2816 .f32 := Memref.whole cc0_scratch3
abbrev VS0_3 : View sig .tc .vmem S1x2x2816 .f32 := scM0_3.view

/-- What the launch keeps beside its windows: the scratch arrays and the random register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel2Ideal.Ffn

end
-- ==== Proof.FfnFirst.lean ====
/- The body of the feed-forward call at the first block of a sequence. -/
module

public import proofs.«01_k».proof.Proof.FfnSetup

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
noncomputable def kernelRun0_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x2x2816 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S520x2816 .f32) (harg14 : arg14.IsWhole) (arg15 : Memref sig .tc .vmem S1x2x2816 .f32) (harg15 : arg15.IsWhole) (hc0 : cond0_0 i) (hc1 : cond0_1 i) (hc2 : ¬cond0_2 i) (hc3 : cond0_3 i)
    (x0 : Vec F S512x1024 .f32) (x1 : Vec F S1x1024 .f32) (x2 : Vec F S1024x2816 .bf16) (x3 : Vec F S1024x2816 .bf16) (x4 : Vec F S3x2816 .f32) (x5 : Vec F S1x2x2816 .f32) (x6 : Vec F S2816x1024 .bf16) (x7 : Vec F S1x1024 .f32) :
    Σ' (L8 : List (View.Piece (Elt F) S512x1024 .f32)), Σ' (L9 : List (View.Piece (Elt F) S1x2x2816 .f32)), Σ' (LS3 : List (View.Piece (Elt F) S1x2x2816 .f32)), Σ' (LT0 : List (View.Piece (Elt F) S512x1024 .bf16)), Σ' (LT1 : List (View.Piece (Elt F) S512x1024 .f32)), { LT2 : List (View.Piece (Elt F) S520x2816 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LS3)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_ffn_eq_skeleton]; unfold cc0_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.Kernel2Ideal.Ffn

end
-- ==== Proof.FfnNext.lean ====
/- The body of the feed-forward call at a later block of a sequence. -/
module

public import proofs.«01_k».proof.Proof.FfnFirst

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
noncomputable def kernelRun0_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x2x2816 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S520x2816 .f32) (harg14 : arg14.IsWhole) (arg15 : Memref sig .tc .vmem S1x2x2816 .f32) (harg15 : arg15.IsWhole) (hc0 : cond0_0 i) (hc1 : ¬cond0_1 i) (hc2 : cond0_2 i) (hc3 : cond0_3 i)
    (x0 : Vec F S512x1024 .f32) (x1 : Vec F S1x1024 .f32) (x2 : Vec F S1024x2816 .bf16) (x3 : Vec F S1024x2816 .bf16) (x4 : Vec F S3x2816 .f32) (x5 : Vec F S1x2x2816 .f32) (x6 : Vec F S2816x1024 .bf16) (x7 : Vec F S1x1024 .f32) (xs3 : Vec F S1x2x2816 .f32) :
    Σ' (L8 : List (View.Piece (Elt F) S512x1024 .f32)), Σ' (L9 : List (View.Piece (Elt F) S1x2x2816 .f32)), Σ' (LS3 : List (View.Piece (Elt F) S1x2x2816 .f32)), Σ' (LT0 : List (View.Piece (Elt F) S512x1024 .bf16)), Σ' (LT1 : List (View.Piece (Elt F) S512x1024 .f32)), { LT2 : List (View.Piece (Elt F) S520x2816 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LS3)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_ffn_eq_skeleton]; unfold cc0_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.Kernel2Ideal.Ffn

end
-- ==== Proof.FfnFrame.lean ====
/- The frame of the feed-forward call: what each point leaves, the carried rows between points, and the whole run. -/
module

public import proofs.«01_k».proof.Proof.FfnNext
public import Idealize.ShloMosaic.Lib.Claim

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The first block's run at point `t`, on the point's own buffers and blocks. -/
def runFirst (c : Dev nD) (t : Fin cfg0.N) (h : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) ((hcond0_1 t).mpr h) (fun h' => (hcond0_2 t).mp h' h) (hcond0_3 t) (iblk m c 0 t) (iblk m c 1 t) (iblk m c 2 t) (iblk m c 3 t) (iblk m c 4 t) (iblk m c 5 t) (iblk m c 6 t) (iblk m c 7 t)

/-- A later block's run at point `t`, on the point's own buffers and blocks and the rows `xs` that the block before left. -/
def runNext (c : Dev nD) (t : Fin cfg0.N) (h : ¬t.val % 8 = 0) (xs : Vec F S1x2x2816 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) (fun h' => h ((hcond0_1 t).mp h')) ((hcond0_2 t).mpr h) (hcond0_3 t) (iblk m c 0 t) (iblk m c 1 t) (iblk m c 2 t) (iblk m c 3 t) (iblk m c 4 t) (iblk m c 5 t) (iblk m c 6 t) (iblk m c 7 t) xs

/-- The second grid coordinate takes one value, so the carried rows lie at the start of their buffer. -/
theorem off2_eq (i : grid0.Coords) : k0_off2 i = ![0, 0, 0] := by
  rw [k0_off2_eq, show (i 1).val = 0 from Nat.lt_one_iff.mp (i 1).isLt]

/-- The store of the carried rows covers their buffer. -/
theorem mem_carried (i : grid0.Coords) (hb : ∀ d : Fin 3, k0_off2 i d + S1x2x2816.size d ≤ S1x2x2816.size d) (y : S1x2x2816.Idx) :
    y ∈ (Rect.unit (s := S1x2x2816) (k0_off2 i) S1x2x2816.size hb).set := by
  have e : ∀ (o : Fin 3 → ℕ) (ho : ∀ d : Fin 3, o d + S1x2x2816.size d ≤ S1x2x2816.size d), o = ![0, 0, 0] →
      y ∈ (Rect.unit (s := S1x2x2816) o S1x2x2816.size ho).set := by
    rintro o ho rfl
    exact Rect.mem_set_unit.mpr fun d => ⟨by match d with | ⟨0, _⟩ => exact Nat.zero_le _ | ⟨1, _⟩ => exact Nat.zero_le _ | ⟨2, _⟩ => exact Nat.zero_le _,
      by match d with | ⟨0, _⟩ => exact lt_of_lt_of_eq (y 0).isLt (Nat.zero_add _).symm | ⟨1, _⟩ => exact lt_of_lt_of_eq (y 1).isLt (Nat.zero_add _).symm | ⟨2, _⟩ => exact lt_of_lt_of_eq (y 2).isLt (Nat.zero_add _).symm⟩
  exact e _ hb (off2_eq i)

theorem cover8First (c : Dev nD) (t : Fin cfg0.N) (h : t.val % 8 = 0) (y : S512x1024.Idx) : ∃ pc ∈ (runFirst m c t h).1, y ∈ pc.1.set :=
  View.cover_of_tiledL (runFirst m c t h).1 S512x1024.size (by sl_kernel_rfl) y
theorem cover9First (c : Dev nD) (t : Fin cfg0.N) (h : t.val % 8 = 0) (y : S1x2x2816.Idx) : ∃ pc ∈ (runFirst m c t h).2.1, y ∈ pc.1.set :=
  View.cover_of_tiledL (runFirst m c t h).2.1 S1x2x2816.size (by sl_kernel_rfl) y
theorem coverTailFirst (c : Dev nD) (t : Fin cfg0.N) (h : t.val % 8 = 0) (y : S1x2x2816.Idx) : ∃ pc ∈ (runFirst m c t h).2.2.1, y ∈ pc.1.set :=
  ⟨_, List.mem_singleton.mpr rfl, mem_carried (grid0.coords t) (fun d => by rw [off2_eq]; match d with | ⟨0, _⟩ => exact le_rfl | ⟨1, _⟩ => exact le_rfl | ⟨2, _⟩ => exact le_rfl) y⟩
/-- What the block leaves in the result's, the state's and the carried rows' buffer. -/
def out8First (c : Dev nD) (t : Fin cfg0.N) (h : t.val % 8 = 0) : Vec F S512x1024 .f32 := VO0_8.read (Elt F) (VO0_8.writes (Elt F) VO0_8.junk (runFirst m c t h).1)
def out9First (c : Dev nD) (t : Fin cfg0.N) (h : t.val % 8 = 0) : Vec F S1x2x2816 .f32 := VO0_9.read (Elt F) (VO0_9.writes (Elt F) VO0_9.junk (runFirst m c t h).2.1)
def tailFirst (c : Dev nD) (t : Fin cfg0.N) (h : t.val % 8 = 0) : Vec F S1x2x2816 .f32 := VS0_3.read (Elt F) (VS0_3.writes (Elt F) VS0_3.junk (runFirst m c t h).2.2.1)

theorem cover8Next (c : Dev nD) (t : Fin cfg0.N) (h : ¬t.val % 8 = 0) (xs : Vec F S1x2x2816 .f32) (y : S512x1024.Idx) : ∃ pc ∈ (runNext m c t h xs).1, y ∈ pc.1.set :=
  View.cover_of_tiledL (runNext m c t h xs).1 S512x1024.size (by sl_kernel_rfl) y
theorem cover9Next (c : Dev nD) (t : Fin cfg0.N) (h : ¬t.val % 8 = 0) (xs : Vec F S1x2x2816 .f32) (y : S1x2x2816.Idx) : ∃ pc ∈ (runNext m c t h xs).2.1, y ∈ pc.1.set :=
  View.cover_of_tiledL (runNext m c t h xs).2.1 S1x2x2816.size (by sl_kernel_rfl) y
theorem coverTailNext (c : Dev nD) (t : Fin cfg0.N) (h : ¬t.val % 8 = 0) (xs : Vec F S1x2x2816 .f32) (y : S1x2x2816.Idx) : ∃ pc ∈ (runNext m c t h xs).2.2.1, y ∈ pc.1.set :=
  ⟨_, List.mem_singleton.mpr rfl, mem_carried (grid0.coords t) (fun d => by rw [off2_eq]; match d with | ⟨0, _⟩ => exact le_rfl | ⟨1, _⟩ => exact le_rfl | ⟨2, _⟩ => exact le_rfl) y⟩
/-- What the block leaves in the result's, the state's and the carried rows' buffer. -/
def out8Next (c : Dev nD) (t : Fin cfg0.N) (h : ¬t.val % 8 = 0) (xs : Vec F S1x2x2816 .f32) : Vec F S512x1024 .f32 := VO0_8.read (Elt F) (VO0_8.writes (Elt F) VO0_8.junk (runNext m c t h xs).1)
def out9Next (c : Dev nD) (t : Fin cfg0.N) (h : ¬t.val % 8 = 0) (xs : Vec F S1x2x2816 .f32) : Vec F S1x2x2816 .f32 := VO0_9.read (Elt F) (VO0_9.writes (Elt F) VO0_9.junk (runNext m c t h xs).2.1)
def tailNext (c : Dev nD) (t : Fin cfg0.N) (h : ¬t.val % 8 = 0) (xs : Vec F S1x2x2816 .f32) : Vec F S1x2x2816 .f32 := VS0_3.read (Elt F) (VS0_3.writes (Elt F) VS0_3.junk (runNext m c t h xs).2.2.1)

/-- What the body leaves at point `t` when the carried rows were `xs`: result, state, carried rows. -/
def left (c : Dev nD) (t : Fin cfg0.N) (xs : Vec F S1x2x2816 .f32) : Vec F S512x1024 .f32 × Vec F S1x2x2816 .f32 × Vec F S1x2x2816 .f32 :=
  if h : t.val % 8 = 0 then (out8First m c t h, out9First m c t h, tailFirst m c t h)
  else (out8Next m c t h xs, out9Next m c t h xs, tailNext m c t h xs)

/-- A sequence's first block does not look at the carried rows. -/
theorem left_first (c : Dev nD) (t : Fin cfg0.N) (h : t.val % 8 = 0) (xs ys : Vec F S1x2x2816 .f32) : left m c t xs = left m c t ys :=
  by
  unfold left; rw [dif_pos h, dif_pos h]

set_option maxHeartbeats 4000000 in
/-- The body at point `t`, from the carried rows `xs`. -/
theorem run_at (c : Dev nD) (t : Fin cfg0.N) (xs : Vec F S1x2x2816 .f32) (E : Set ℕ) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, owns (c : Thread nD τ) (ms0_8 t) fullShare d) ∗ (∃ d, owns (c : Thread nD τ) (ms0_9 t) fullShare d) ∗ (∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare xs
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (left m c t xs).1 ∗ owns (c : Thread nD τ) (ms0_9 t) fullShare (left m c t xs).2.1 ∗ (∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare (left m c t xs).2.2) -∗ K ⟨⟩))
      ⊢ wp frame (wpE (defs₀ (F := F)) Variants.none c none) E (bodyAt0 t) K := by
  unfold bodyAt0
  by_cases h : t.val % 8 = 0
  · skip
    rw [show left m c t xs = (out8First m c t h, out9First m c t h, tailFirst m c t h) from dif_pos h]
    unfold out8First out9First tailFirst; dsimp only
    iintro ⟨H0, H1, H2, H3, H4, H5, H6, H7, H8, H9, HS0, HS1, HS2, HS3, Hk⟩
    iapply ((runFirst m c t h).2.2.2.2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexists _; iexact HS3
    iintro ⟨H0, H1, H2, H3, H4, H5, H6, H7, ⟨%e8, H8⟩, ⟨%e9, H9⟩, ⟨%f0, HS0⟩, ⟨%f1, HS1⟩, ⟨%f2, HS2⟩, ⟨%e3, HS3⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover8First m c t h)
    isplitl [H9]
    · unfold owns; iexists _; isplitr
      swap; · iexact H9
      ipureintro; exact View.read_writes_of_cover _ _ _ _ _ (cover9First m c t h)
    isplitl [HS0]; · iexists _; unfold owns; iexists _; isplitr; swap; · iexact HS0
                     ipureintro; rfl
    isplitl [HS1]; · iexists _; unfold owns; iexists _; isplitr; swap; · iexact HS1
                     ipureintro; rfl
    isplitl [HS2]; · iexists _; unfold owns; iexists _; isplitr; swap; · iexact HS2
                     ipureintro; rfl
    unfold owns; iexists _; isplitr
    swap; · iexact HS3
    ipureintro; exact View.read_writes_of_cover _ _ _ _ _ (coverTailFirst m c t h)
  · skip
    rw [show left m c t xs = (out8Next m c t h xs, out9Next m c t h xs, tailNext m c t h xs) from dif_neg h]
    unfold out8Next out9Next tailNext; dsimp only
    iintro ⟨H0, H1, H2, H3, H4, H5, H6, H7, H8, H9, HS0, HS1, HS2, HS3, Hk⟩
    iapply ((runNext m c t h xs).2.2.2.2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, ⟨%e8, H8⟩, ⟨%e9, H9⟩, ⟨%f0, HS0⟩, ⟨%f1, HS1⟩, ⟨%f2, HS2⟩, ⟨%e3, HS3⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover8Next m c t h xs)
    isplitl [H9]
    · unfold owns; iexists _; isplitr
      swap; · iexact H9
      ipureintro; exact View.read_writes_of_cover _ _ _ _ _ (cover9Next m c t h xs)
    isplitl [HS0]; · iexists _; unfold owns; iexists _; isplitr; swap; · iexact HS0
                     ipureintro; rfl
    isplitl [HS1]; · iexists _; unfold owns; iexists _; isplitr; swap; · iexact HS1
                     ipureintro; rfl
    isplitl [HS2]; · iexists _; unfold owns; iexists _; isplitr; swap; · iexact HS2
                     ipureintro; rfl
    unfold owns; iexists _; isplitr
    swap; · iexact HS3
    ipureintro; exact View.read_writes_of_cover _ _ _ _ _ (coverTailNext m c t h xs)

/-- What the buffers hold after the body at position `n`. -/
def outs (c : Dev nD) : (n : ℕ) → n < cfg0.N → Vec F S512x1024 .f32 × Vec F S1x2x2816 .f32 × Vec F S1x2x2816 .f32
  | 0, hn => left m c ⟨0, hn⟩ (iblk m c 5 ⟨0, hn⟩)
  | n + 1, hn => left m c ⟨n + 1, hn⟩ (outs c n (Nat.lt_of_succ_lt hn)).2.2

/-- The scratch before position `n`: anything at first, then the carried rows as the point before left them. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outs m c n hn).2.2)) ∗ (∃ r, prngReg c r))

/-- The pipeline's arrays and what the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outs m c t.val t.isLt).1 := by dsimp only [dats]
theorem after0_9 (c : Dev nD) (t : Fin cfg0.N) : (dats m 0 c).after 9 t = (outs m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- No point leaves the result's window alone. -/
theorem live8 (t : Fin cfg0.N) : cfg0.idle 8 (grid0.coords t) = false :=
  (by decide +kernel : ∀ t : Fin grid0.N, cfg0.idle 8 (grid0.coords t) = false) t

/-- The carried rows before point `t`, or anything at the first. -/
theorem Phi_open (c : Dev nD) (t : Fin cfg0.N) : (dats m 0 c).Φ t.castSucc
    ⊢ iprop(∃ xs, ⌜left m c t xs = outs m c t.val t.isLt⌝ ∗ iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare xs) ∗ (∃ r, prngReg c r)) := by
  rw [PhiS_castSucc]
  obtain ⟨n, hn⟩ := t
  cases n with
  | zero =>
    rw [show PhiS m c (⟨0, hn⟩ : Fin cfg0.N).val (Nat.le_of_lt hn) = Pipeline.ΦA spec0 c from rfl, PhiA0_eq]
    iintro ⟨⟨HS0, HS1, HS2, ⟨%xs, HS3⟩⟩, Hg⟩
    iexists xs
    isplitr
    · ipureintro; exact left_first m c _ (Nat.zero_mod _) _ _
    isplitl [HS0 HS1 HS2 HS3]
    · isplitl [HS0]; · iexact HS0
      isplitl [HS1]; · iexact HS1
      isplitl [HS2]; · iexact HS2
      iexact HS3
    iexact Hg
  | succ n =>
    show iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outs m c n (Nat.lt_of_succ_lt hn)).2.2)) ∗ (∃ r, prngReg c r)) ⊢ _
    iintro ⟨HS, Hg⟩
    iexists _
    isplitr
    swap
    · isplitl [HS]; · iexact HS
      iexact Hg
    ipureintro; rfl

/-- What the body is called with at point `t`, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point takes the windows and the carried rows to what the proof data state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7]
  rw [show (dats m 0 c).owesAt () t.succ = (dats m 0 c).owesAt () t.castSucc from rfl]
  rw [show (dats m 0 c).Φ t.succ = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outs m c t.val t.isLt).2.2)) ∗ (∃ r, prngReg c r)) from rfl]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [live8 t], after0_8]
  rw [show (dats m 0 c).leavesExact 9 t = owns (c : Thread nD τ) (ms0_9 t) fullShare ((dats m 0 c).after 9 t) from by unfold Dat.leavesExact; rw [liveAt0_9 t], after0_9]
  refine (sep_mono (Phi_open m c t) .rfl).trans ?_
  iintro ⟨⟨%xs, %hxs, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← hxs]
  iapply (run_at m c t xs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem phi_in (c : Dev nD) : Pipeline.ΦA spec0 c ⊢ (dats m 0 c).Φ 0 := by
  rw [show (dats m 0 c).Φ 0 = Pipeline.ΦA spec0 c from rfl]

theorem phi_out (c : Dev nD) : (dats m 0 c).Φ (Fin.last cfg0.N) ⊢ Pipeline.ΦA spec0 c := by
  rw [show (dats m 0 c).Φ (Fin.last cfg0.N) = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outs m c 31 (by rw [show cfg0.N = 32 from N_0]; omega)).2.2)) ∗ (∃ r, prngReg c r)) from rfl, PhiA0_eq]
  iintro ⟨⟨HS0, HS1, HS2, HS3⟩, Hg⟩
  isplitl [HS0 HS1 HS2 HS3]
  · isplitl [HS0]; · iexact HS0
    isplitl [HS1]; · iexact HS1
    isplitl [HS2]; · iexact HS2
    iexists _; iexact HS3
  iexact Hg

set_option backward.isDefEq.respectTransparency.types false in
/-- Every run ends with the windows' arrays as the proof data compute them, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The frame: every run ends, the arguments are as they were, every counter is zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel2Ideal.Ffn

end
-- ==== Proof.FfnSame.lean ====
/- The feed-forward program as executed and the program read over the extended reals are one program: no operation was rewritten. -/
module

public import proofs.«01_k».proof.Defs
public import proofs.«01_k».proof.Proof.Gen.Kernel2
public import proofs.«01_k».proof.Proof.FfnFrame

@[expose] public section

set_option maxRecDepth 16384

noncomputable section

namespace Cert.Proof

open Idealize.ShloMosaic Idealize.SL.Sem Idealize.ShloMosaic.Tactic

/-- The two kernels' body tables are equal. -/
theorem bodies_eq : @Cert.Kernel2.defs₀ Bits _ _ = @Cert.Kernel2Ideal.defs₀ Bits _ _ := by
  unfold Cert.Kernel2.defs₀ Cert.Kernel2Ideal.defs₀
  refine congrArg Defs.onTc (funext fun l => funext fun a => ?_)
  match l, a with
  | ⟨0, _⟩, (t, s) => exact rfl

/-- So are the tables with the pipeline's own labels. -/
theorem tables_eq : Cert.Kernel2.defs (F := Bits) = Cert.Kernel2Ideal.defs (F := Bits) :=
  congrArg (Pipeline.defs Cert.Kernel2.pcfgs) bodies_eq

/-- The frame of the feed-forward call as executed. -/
theorem frame_p2 : Cert.quiescent_Kernel2 := fun m ρ _ => by
  rw [tables_eq]
  exact Cert.Kernel2Ideal.Ffn.frame_run (F := Bits) m ρ

end Cert.Proof

end
-- ==== Proof.FfnBody.lean ====
/- The feed-forward kernel's body at one grid point, read back: the result block, and the two gate rows it leaves for the next block and as
   the state, as one function of the blocks and of the two gate rows before the block. -/
module

public import proofs.«01_k».proof.Proof.FfnFrame
public import Idealize.ShloMosaic.Lib.Pipeline.Value
public import Idealize.ShloMosaic.Lib.WholeRead

@[expose] public section

set_option maxRecDepth 16384

noncomputable section

namespace Cert.Kernel2Ideal.Ffn

open Cert.Kernel2Ideal Cert.Kernel2Ideal.Gen Idealize.ShloMosaic Idealize.ShloMosaic.TcCoe Idealize.ShloMosaic.Tactic

variable {F : FTy → Type} [FloatOps F]

/-- A load of a whole buffer reads its contents. -/
theorem read_all {κ : Kind} {sp : Space} {s : Shape} {e : EltTy} {M : Memref sig κ sp s e} (h : M.IsWhole) (X : Vec F s e)
    {off : Fin s.rank → ℕ} (ho : off = fun _ => 0) (inb : ∀ a, off a + s.size a ≤ s.size a) :
    View.readAt (Elt F) M.view (Rect.unit off s.size inb).toLoadRect (h.unread X) = X := by
  subst ho
  exact funext fun y => (Memref.IsWhole.readAt_unread h X _ y).trans (congrArg X (funext fun a => Fin.ext (by show 0 + 1 * (y a).val = (y a).val; omega)))

theorem zero2 : (![0, 0] : Fin 2 → ℕ) = fun _ => 0 := by funext d; match d with | ⟨0, _⟩ => rfl | ⟨1, _⟩ => rfl
theorem zero3 : (![0, 0, 0] : Fin 3 → ℕ) = fun _ => 0 := by funext d; match d with | ⟨0, _⟩ => rfl | ⟨1, _⟩ => rfl | ⟨2, _⟩ => rfl

/-- The gates' buffer: the block's gate rows from row 8, the two rows before them in rows 6 and 7. -/
abbrev gates (halo : FVec F S2x2816 .f32) (x0 : Vec F S512x1024 .f32) (x1 : Vec F S1x1024 .f32) (x2 : Vec F S1024x2816 .bf16) :
    List (View.Piece (Elt F) S520x2816 .f32) :=
  [⟨Rect.unit ![8, 0] S512x2816.size inb_S520x2816_S512x2816_8_0, k0_pay9 (k0_pay3 x0 x1) x2⟩,
    ⟨Rect.unit ![6, 0] S2x2816.size inb_S520x2816_S2x2816_6_0, halo⟩]

/-- The last two gate rows. -/
def tailRows (halo : FVec F S2x2816 .f32) (x0 : Vec F S512x1024 .f32) (x1 : Vec F S1x1024 .f32) (x2 : Vec F S1024x2816 .bf16) : Vec F S2x2816 .f32 :=
  fun y => View.canon (gates halo x0 x1 x2) ((Rect.unit (s := S520x2816) ![518, 0] S2x2816.size inb_S520x2816_S2x2816_518_0).toLoadRect.idx y)

/-- The gates two tokens back. -/
def back2 (halo : FVec F S2x2816 .f32) (x0 : Vec F S512x1024 .f32) (x1 : Vec F S1x1024 .f32) (x2 : Vec F S1024x2816 .bf16) : Vec F S512x2816 .f32 :=
  fun y => View.canon (gates halo x0 x1 x2) ((Rect.unit (s := S520x2816) ![6, 0] S512x2816.size inb_S520x2816_S512x2816_6_0).toLoadRect.idx y)

/-- The gates one token back. -/
def back1 (halo : FVec F S2x2816 .f32) (x0 : Vec F S512x1024 .f32) (x1 : Vec F S1x1024 .f32) (x2 : Vec F S1024x2816 .bf16) : Vec F S512x2816 .f32 :=
  fun y => View.canon (gates halo x0 x1 x2) ((Rect.unit (s := S520x2816) ![7, 0] S512x2816.size inb_S520x2816_S512x2816_7_0).toLoadRect.idx y)

/-- A row of the convolution's weights. -/
def taps (o : ℕ) (inb : ∀ a : Fin 2, (![o, 0] : Fin 2 → ℕ) a + S1x2816.size a ≤ S3x2816.size a) (x4 : Vec F S3x2816 .f32) : Vec F S1x2816 .f32 :=
  fun y => x4 ((Rect.unit (s := S3x2816) ![o, 0] S1x2816.size inb).toLoadRect.idx y)

/-- The result block. -/
def block (halo : FVec F S2x2816 .f32) (x0 : Vec F S512x1024 .f32) (x1 : Vec F S1x1024 .f32) (x2 x3 : Vec F S1024x2816 .bf16)
    (x4 : Vec F S3x2816 .f32) (x6 : Vec F S2816x1024 .bf16) (x7 : Vec F S1x1024 .f32) : FVec F S512x1024 .f32 :=
  k0_pay2 x0 (k0_pay1 (k0_pay12 (k0_pay7 (k0_pay3 x0 x1) x2) (k0_pay8 (k0_pay3 x0 x1) x3) (back2 halo x0 x1 x2) (taps 0 inb_S3x2816_S1x2816_0_0 x4)
    (back1 halo x0 x1 x2) (taps 1 inb_S3x2816_S1x2816_1_0 x4) (taps 2 inb_S3x2816_S1x2816_2_0 x4) k0_pay4 x6)) x7

/-- A load of what one store through the same rectangle left. -/
theorem read_last {κ : Kind} {sp : Space} {s : Shape} {e : EltTy} (v : View sig κ sp s e) {off : Fin s.rank → ℕ} (ho : off = fun _ => 0)
    (inb : ∀ a, off a + s.size a ≤ s.size a) (w : s.Idx → Elt F e) (L : List (View.Piece (Elt F) s e)) :
    v.readCov ((⟨Rect.unit off s.size inb, w⟩ : View.Piece (Elt F) s e) :: L) (Rect.unit off s.size inb).toLoadRect = w :=
  View.readCov_cons_toLoadRect v (Rect.unit off s.size inb) w L

variable (m : (ℓ : Loc nD τ sig) → Buf (Elt F) ℓ) (c : Dev nD) (t : Fin cfg0.N)

/-- The normed rows, stored and loaded again. -/
theorem normed_read : scM0_0.view.readCov [(⟨Rect.unit ![0, 0] S512x1024.size inb_S512x1024_S512x1024_0_0,
      k0_pay3 (View.readAt (Elt F) (ms0_0 t).view (Rect.unit ![0, 0] S512x1024.size inb_S512x1024_S512x1024_0_0).toLoadRect ((hs0_0 t).unread (iblk m c 0 t)))
        (View.readAt (Elt F) (ms0_1 t).view (Rect.unit ![0, 0] S1x1024.size inb_S1x1024_S1x1024_0_0).toLoadRect ((hs0_1 t).unread (iblk m c 1 t)))⟩ : View.Piece (Elt F) S512x1024 .bf16)]
      (Rect.unit ![0, 0] S512x1024.size inb_S512x1024_S512x1024_0_0).toLoadRect = k0_pay3 (iblk m c 0 t) (iblk m c 1 t) :=
  (read_last scM0_0.view zero2 _ _ _).trans (congrArg₂ k0_pay3 (read_all (hs0_0 t) _ zero2 _) (read_all (hs0_1 t) _ zero2 _))

theorem zero_read : scM0_1.view.readCov [(⟨Rect.unit ![0, 0] S512x1024.size inb_S512x1024_S512x1024_0_0, k0_pay4⟩ : View.Piece (Elt F) S512x1024 .f32)]
      (Rect.unit ![0, 0] S512x1024.size inb_S512x1024_S512x1024_0_0).toLoadRect = k0_pay4 (F := F) :=
  read_last scM0_1.view zero2 _ _ _

theorem back2_read (halo : FVec F S2x2816 .f32) (x0 : Vec F S512x1024 .f32) (x1 : Vec F S1x1024 .f32) (x2 : Vec F S1024x2816 .bf16) :
    scM0_2.view.readCov (gates halo x0 x1 x2) (Rect.unit (s := S520x2816) ![6, 0] S512x2816.size inb_S520x2816_S512x2816_6_0).toLoadRect = back2 halo x0 x1 x2 :=
  View.readCov_eq_canon' _ _ _

theorem back1_read (halo : FVec F S2x2816 .f32) (x0 : Vec F S512x1024 .f32) (x1 : Vec F S1x1024 .f32) (x2 : Vec F S1024x2816 .bf16) :
    scM0_2.view.readCov (gates halo x0 x1 x2) (Rect.unit (s := S520x2816) ![7, 0] S512x2816.size inb_S520x2816_S512x2816_7_0).toLoadRect = back1 halo x0 x1 x2 :=
  View.readCov_eq_canon' _ _ _

theorem tail_read (halo : FVec F S2x2816 .f32) (x0 : Vec F S512x1024 .f32) (x1 : Vec F S1x1024 .f32) (x2 : Vec F S1024x2816 .bf16) :
    scM0_2.view.readCov (gates halo x0 x1 x2) (Rect.unit (s := S520x2816) ![518, 0] S2x2816.size inb_S520x2816_S2x2816_518_0).toLoadRect = tailRows halo x0 x1 x2 :=
  View.readCov_eq_canon' _ _ _

theorem taps_read (o : ℕ) (inb : ∀ a : Fin 2, (![o, 0] : Fin 2 → ℕ) a + S1x2816.size a ≤ S3x2816.size a) :
    View.readAt (Elt F) (ms0_4 t).view (Rect.unit (s := S3x2816) ![o, 0] S1x2816.size inb).toLoadRect ((hs0_4 t).unread (iblk m c 4 t)) = taps o inb (iblk m c 4 t) :=
  funext fun y => Memref.IsWhole.readAt_unread (hs0_4 t) _ _ y

/-- The carried rows lie at the start of their buffer. -/
theorem off1_eq (i : grid0.Coords) : k0_off1 i = ![0, 0, 0] := by
  rw [k0_off1_eq, show (i 1).val = 0 from Nat.lt_one_iff.mp (i 1).isLt]

theorem carried_read (xs : Vec F S1x2x2816 .f32) {off : Fin 3 → ℕ} (ho : off = ![0, 0, 0]) (inb : ∀ a : Fin 3, off a + S1x2x2816.size a ≤ S1x2x2816.size a) :
    View.readAt (Elt F) scM0_3.view (Rect.unit (s := S1x2x2816) off S1x2x2816.size inb).toLoadRect
      ((Memref.isWhole_whole _ : (scM0_3).IsWhole).unread xs) = xs :=
  read_all _ xs (ho.trans zero3) inb

/-- A sequence's first block takes the two rows before it from the argument. -/
theorem out8First_eq (h : t.val % 8 = 0) :
    out8First m c t h = block (k0_pay5 (iblk m c 5 t)) (iblk m c 0 t) (iblk m c 1 t) (iblk m c 2 t) (iblk m c 3 t) (iblk m c 4 t) (iblk m c 6 t) (iblk m c 7 t) := by
  unfold out8First
  rw [View.read_writes_junk_eq_canon]
  unfold runFirst kernelRun0_A
  dsimp only
  rw [View.canon_unit_zero zero2]
  sl_unfold_run_names
  refine congr (congrArg₂ k0_pay2 (read_all (hs0_0 t) _ zero2 _) ((read_last scM0_1.view zero2 _ _ _).trans (congrArg k0_pay1 ?_))) (read_all (hs0_7 t) _ zero2 _)
  rw [normed_read, read_all (hs0_5 t) _ zero3, read_all (hs0_2 t) _ zero2, read_all (hs0_3 t) _ zero2, read_all (hs0_6 t) _ zero2, zero_read,
    back2_read, back1_read, taps_read, taps_read, taps_read]

/-- A later block takes them from what the block before left. -/
theorem out8Next_eq (h : ¬t.val % 8 = 0) (xs : Vec F S1x2x2816 .f32) :
    out8Next m c t h xs = block (k0_pay6 xs) (iblk m c 0 t) (iblk m c 1 t) (iblk m c 2 t) (iblk m c 3 t) (iblk m c 4 t) (iblk m c 6 t) (iblk m c 7 t) := by
  unfold out8Next
  rw [View.read_writes_junk_eq_canon]
  unfold runNext kernelRun0_B
  dsimp only
  rw [View.canon_unit_zero zero2]
  sl_unfold_run_names
  refine congr (congrArg₂ k0_pay2 (read_all (hs0_0 t) _ zero2 _) ((read_last scM0_1.view zero2 _ _ _).trans (congrArg k0_pay1 ?_))) (read_all (hs0_7 t) _ zero2 _)
  rw [normed_read, carried_read xs (off1_eq _), read_all (hs0_2 t) _ zero2, read_all (hs0_3 t) _ zero2, read_all (hs0_6 t) _ zero2, zero_read,
    back2_read, back1_read, taps_read, taps_read, taps_read]

/-- The two rows a first block leaves as the state and for the next block. -/
theorem out9First_eq (h : t.val % 8 = 0) : out9First m c t h = k0_pay11 (tailRows (k0_pay5 (iblk m c 5 t)) (iblk m c 0 t) (iblk m c 1 t) (iblk m c 2 t)) := by
  unfold out9First
  rw [View.read_writes_junk_eq_canon]
  unfold runFirst kernelRun0_A
  dsimp only
  rw [View.canon_unit_zero zero3]
  sl_unfold_run_names
  rw [normed_read, read_all (hs0_5 t) _ zero3, read_all (hs0_2 t) _ zero2, tail_read]

theorem tailFirst_eq (h : t.val % 8 = 0) : tailFirst m c t h = k0_pay10 (tailRows (k0_pay5 (iblk m c 5 t)) (iblk m c 0 t) (iblk m c 1 t) (iblk m c 2 t)) := by
  unfold tailFirst
  rw [View.read_writes_junk_eq_canon]
  unfold runFirst kernelRun0_A
  dsimp only
  rw [View.canon_unit_zero ((off2_eq _).trans zero3)]
  sl_unfold_run_names
  rw [normed_read, read_all (hs0_5 t) _ zero3, read_all (hs0_2 t) _ zero2, tail_read]

/-- The two rows a later block leaves as the state and for the next block. -/
theorem out9Next_eq (h : ¬t.val % 8 = 0) (xs : Vec F S1x2x2816 .f32) :
    out9Next m c t h xs = k0_pay11 (tailRows (k0_pay6 xs) (iblk m c 0 t) (iblk m c 1 t) (iblk m c 2 t)) := by
  unfold out9Next
  rw [View.read_writes_junk_eq_canon]
  unfold runNext kernelRun0_B
  dsimp only
  rw [View.canon_unit_zero zero3]
  sl_unfold_run_names
  rw [normed_read, carried_read xs (off1_eq _), read_all (hs0_2 t) _ zero2, tail_read]

theorem tailNext_eq (h : ¬t.val % 8 = 0) (xs : Vec F S1x2x2816 .f32) :
    tailNext m c t h xs = k0_pay10 (tailRows (k0_pay6 xs) (iblk m c 0 t) (iblk m c 1 t) (iblk m c 2 t)) := by
  unfold tailNext
  rw [View.read_writes_junk_eq_canon]
  unfold runNext kernelRun0_B
  dsimp only
  rw [View.canon_unit_zero ((off2_eq _).trans zero3)]
  sl_unfold_run_names
  rw [normed_read, carried_read xs (off1_eq _), read_all (hs0_2 t) _ zero2, tail_read]

end Cert.Kernel2Ideal.Ffn

end
-- ==== Proof.Ffn.lean ====
/- The gated feed-forward layer with a short causal convolution, token by token, as a function of the layer's weights. -/
module

public import Idealize.ShloMosaic.PureOps.Ideal
public import Idealize.ShloMosaic.Lib.Pointwise

@[expose] public section

noncomputable section

namespace Cert.Ffn

open Idealize.ShloMosaic Idealize.ShloMosaic.Tactic

/-- The layer's weights: the first norm's scale, the gate's, the value's and the convolution's, the output's, the last norm's scale. -/
structure Weights where
  g : Fin 1024 → EReal
  wg : Fin 1024 → Fin 2816 → EReal
  wu : Fin 1024 → Fin 2816 → EReal
  cw : Fin 3 → Fin 2816 → EReal
  wd : Fin 2816 → Fin 1024 → EReal
  gf : Fin 1024 → EReal

/-- A row over the root of its mean square, times a scale. -/
def norm (row g : Fin 1024 → EReal) (j : Fin 1024) : EReal :=
  row j * Ideal.rsqrt (Ideal.div (∑ k : Fin 1024, row k * row k) (Ideal.ofBits .f32 0x44800000#32) + Ideal.ofBits .f32 0x358637BD#32) * g j

variable (W : Weights)

/-- A token's gate before the convolution. -/
def gate (row : Fin 1024 → EReal) (j : Fin 2816) : EReal := ∑ k : Fin 1024, norm row W.g k * W.wg k j

/-- A token's value. -/
def value (row : Fin 1024 → EReal) (j : Fin 2816) : EReal := ∑ k : Fin 1024, norm row W.g k * W.wu k j

/-- The convolved gate, from the gates two tokens back, one token back and at the token. -/
def conv (a b d : Fin 2816 → EReal) (j : Fin 2816) : EReal := a j * W.cw 0 j + b j * W.cw 1 j + d j * W.cw 2 j

/-- The activation `x · σ(x)`. -/
def silu (x : EReal) : EReal := x * Ideal.div 1 (1 + Ideal.exp (-x))

/-- The residual row after the layer, from the token's row and the two gates before it. -/
def mixed (row : Fin 1024 → EReal) (a b : Fin 2816 → EReal) (j : Fin 1024) : EReal :=
  row j + ∑ k : Fin 2816, silu (conv W a b (gate W row) k) * value W row k * W.wd k j

/-- The layer's result for a token. -/
def token (row : Fin 1024 → EReal) (a b : Fin 2816 → EReal) : Fin 1024 → EReal := norm (mixed W row a b) W.gf

/-- The gate at position `p` of a sequence, two rows of earlier gates before it. -/
def history (x : ℕ → Fin 1024 → EReal) (prev : ℕ → Fin 2816 → EReal) (p : ℕ) : Fin 2816 → EReal :=
  if p < 2 then prev p else gate W (x (p - 2))

/-- The logistic function by the hyperbolic tangent. -/
theorem half_tanh (r : ℝ) : 2⁻¹ * Real.tanh (2⁻¹ * r) + 2⁻¹ = (1 + Real.exp (-r))⁻¹ := by
  have h : Real.exp (-r) = Real.exp (-(2⁻¹ * r)) * Real.exp (-(2⁻¹ * r)) := by rw [← Real.exp_add]; congr 1; ring
  have e : Real.exp (2⁻¹ * r) * Real.exp (-(2⁻¹ * r)) = 1 := by rw [← Real.exp_add, add_neg_cancel, Real.exp_zero]
  have ha := Real.exp_pos (2⁻¹ * r)
  have hb := Real.exp_pos (-(2⁻¹ * r))
  rw [Real.tanh_eq_sinh_div_cosh, Real.sinh_eq, Real.cosh_eq, h]
  generalize Real.exp (2⁻¹ * r) = a at *
  generalize Real.exp (-(2⁻¹ * r)) = b at *
  have h1 : a + b ≠ 0 := by positivity
  have h2 : 1 + b * b ≠ 0 := by positivity
  field_simp
  linear_combination (2 * b) * e

/-- The activation as the kernel computes it. -/
theorem silu_eq (x : EReal) :
    x * (((2⁻¹ : ℝ) : EReal) * Ideal.tanh (((2⁻¹ : ℝ) : EReal) * x) + ((2⁻¹ : ℝ) : EReal)) = silu x := by
  unfold silu
  induction x with
  | bot =>
    rw [EReal.coe_mul_bot_of_pos (by norm_num), show Ideal.tanh ⊥ = -1 from rfl, EReal.neg_bot, show Ideal.exp ⊤ = ⊤ from rfl]
    have e : ((2⁻¹ : ℝ) : EReal) * -1 + ((2⁻¹ : ℝ) : EReal) = 0 := by
      rw [show (-1 : EReal) = ((-1 : ℝ) : EReal) from by simp, ← EReal.coe_mul, ← EReal.coe_add]; norm_num
    rw [e, show (1 : EReal) + ⊤ = ⊤ from rfl]
    simp [Ideal.div]
  | top =>
    rw [EReal.coe_mul_top_of_pos (by norm_num), show Ideal.tanh ⊤ = 1 from rfl, EReal.neg_top, show Ideal.exp ⊥ = 0 from rfl]
    have e : ((2⁻¹ : ℝ) : EReal) * 1 + ((2⁻¹ : ℝ) : EReal) = 1 := by
      rw [mul_one, ← EReal.coe_add]; norm_num
    rw [e]
    simp [Ideal.div]
  | coe r =>
    have hp : 0 < 1 + Real.exp (-r) := by positivity
    rw [← EReal.coe_mul, show Ideal.tanh ((2⁻¹ * r : ℝ) : EReal) = ((Real.tanh (2⁻¹ * r) : ℝ) : EReal) from rfl, ← EReal.coe_mul, ← EReal.coe_add, half_tanh,
      ← EReal.coe_neg, show Ideal.exp ((-r : ℝ) : EReal) = ((Real.exp (-r) : ℝ) : EReal) from rfl, show (1 : EReal) = ((1 : ℝ) : EReal) from rfl, ← EReal.coe_add,
      Ideal.div, if_neg (by exact_mod_cast hp.ne'), ← EReal.coe_inv, ← EReal.coe_mul, EReal.coe_one, one_mul]
    exact EReal.coe_mul _ _

end Cert.Ffn

end
-- ==== Proof.FfnValue.lean ====
/- The feed-forward kernel's block over the extended reals, row by row. -/
module

public import proofs.«01_k».proof.Proof.FfnBody
public import proofs.«01_k».proof.Proof.Ffn
public import Idealize.ShloMosaic.Lib.Pointwise

@[expose] public section

set_option maxRecDepth 16384

noncomputable section

namespace Cert.Kernel2Ideal.Ffn

open Cert Cert.Kernel2Ideal Cert.Kernel2Ideal.Gen Idealize.ShloMosaic Idealize.ShloMosaic.TcCoe Idealize.ShloMosaic.Tactic

theorem ofBits_half : Ideal.ofBits .f32 0x3F000000#32 = ((2⁻¹ : ℝ) : EReal) := by
  simp [Ideal.ofBits, Ideal.ieee]
  rw [← EReal.coe_mul]; norm_num

/-- The weights a point's blocks hold. -/
def wts (x1 : Vec Ideal S1x1024 .f32) (x2 x3 : Vec Ideal S1024x2816 .bf16) (x4 : Vec Ideal S3x2816 .f32) (x6 : Vec Ideal S2816x1024 .bf16)
    (x7 : Vec Ideal S1x1024 .f32) : Ffn.Weights :=
  ⟨fun k => x1 (ix2 0 k), fun k j => x2 (ix2 k j), fun k j => x3 (ix2 k j), fun i j => x4 (ix2 i j), fun k j => x6 (ix2 k j), fun k => x7 (ix2 0 k)⟩

/-- A block's rows by their number. -/
def rows (x0 : Vec Ideal S512x1024 .f32) (n : ℕ) (k : Fin 1024) : EReal := x0 (ix2 (Fin.ofNat 512 n) k)

/-- The two earlier gate rows by their number. -/
def prevs (halo : FVec Ideal S2x2816 .f32) (n : ℕ) (j : Fin 2816) : EReal := halo (ix2 (Fin.ofNat 2 n) j)

theorem rows_val (x0 : Vec Ideal S512x1024 .f32) (r : Fin 512) : rows x0 r.val = fun k => x0 (ix2 r k) := by
  unfold rows; rw [Fin.ofNat_val_eq_self]

variable (halo : FVec Ideal S2x2816 .f32) (x0 : Vec Ideal S512x1024 .f32) (x1 : Vec Ideal S1x1024 .f32) (x2 x3 : Vec Ideal S1024x2816 .bf16)
  (x4 : Vec Ideal S3x2816 .f32) (x6 : Vec Ideal S2816x1024 .bf16) (x7 : Vec Ideal S1x1024 .f32)

/-- The normed rows. -/
theorem pay3_at (r : Fin 512) (k : Fin 1024) : k0_pay3 x0 x1 (ix2 r k) = Ffn.norm (fun k => x0 (ix2 r k)) (fun k => x1 (ix2 0 k)) k := by
  pointwise [k0_pay3]
  rfl

/-- The gates of the block's rows. -/
theorem pay7_at (r : Fin 512) (j : Fin 2816) :
    k0_pay7 (k0_pay3 x0 x1) x2 (ix2 r j) = Ffn.gate (wts x1 x2 x3 x4 x6 x7) (fun k => x0 (ix2 r k)) j := by
  unfold Ffn.gate wts
  simp only [← pay3_at x0 x1]
  pointwise [k0_pay7]

theorem pay9_at (r : Fin 512) (j : Fin 2816) :
    k0_pay9 (k0_pay3 x0 x1) x2 (ix2 r j) = Ffn.gate (wts x1 x2 x3 x4 x6 x7) (fun k => x0 (ix2 r k)) j := by
  rw [← pay7_at]
  pointwise [k0_pay9]

/-- The values of the block's rows. -/
theorem pay8_at (r : Fin 512) (j : Fin 2816) :
    k0_pay8 (k0_pay3 x0 x1) x3 (ix2 r j) = Ffn.value (wts x1 x2 x3 x4 x6 x7) (fun k => x0 (ix2 r k)) j := by
  unfold Ffn.value wts
  simp only [← pay3_at x0 x1]
  pointwise [k0_pay8]

/-- The sum of the output's products onto what was there. -/
theorem pay12_at (v21 v23 : FVec Ideal S512x2816 .f32) (v35 : Vec Ideal S512x2816 .f32) (v36 : Vec Ideal S1x2816 .f32) (v39 : Vec Ideal S512x2816 .f32)
    (v40 v44 : Vec Ideal S1x2816 .f32) (v57 : Vec Ideal S512x1024 .f32) (r : Fin 512) (j : Fin 1024) :
    k0_pay12 v21 v23 v35 v36 v39 v40 v44 v57 x6 (ix2 r j) = v57 (ix2 r j) + ∑ k : Fin 2816,
      Ffn.silu (v35 (ix2 r k) * v36 (ix2 0 k) + v39 (ix2 r k) * v40 (ix2 0 k) + v21 (ix2 r k) * v44 (ix2 0 k)) * v23 (ix2 r k) * x6 (ix2 k j) := by
  simp only [← Ffn.silu_eq]
  pointwise [k0_pay12, ofBits_half]

/-- The last norm of the residual sum. -/
theorem pay2_at (a b : Vec Ideal S512x1024 .f32) (r : Fin 512) (j : Fin 1024) :
    k0_pay2 a b x7 (ix2 r j) = Ffn.norm (fun k => (a (ix2 r k) + b (ix2 r k) : EReal)) (fun k => x7 (ix2 0 k)) j := by
  pointwise [k0_pay2]
  rfl

theorem pay1_at (a : FVec Ideal S512x1024 .f32) (r : Fin 512) (j : Fin 1024) : k0_pay1 a (ix2 r j) = a (ix2 r j) := by
  pointwise [k0_pay1]

theorem pay4_at (r : Fin 512) (j : Fin 1024) : k0_pay4 (F := Ideal) (ix2 r j) = (0 : EReal) := by
  pointwise [k0_pay4]

theorem pay5_at (v : Vec Ideal S1x2x2816 .f32) (r : Fin 2) (j : Fin 2816) : k0_pay5 v (ix2 r j) = v (ix3 0 r j) := by
  pointwise [k0_pay5]

theorem pay6_at (v : Vec Ideal S1x2x2816 .f32) (r : Fin 2) (j : Fin 2816) : k0_pay6 v (ix2 r j) = v (ix3 0 r j) := by
  pointwise [k0_pay6]

theorem pay10_at (v : Vec Ideal S2x2816 .f32) (r : Fin 2) (j : Fin 2816) : k0_pay10 v (ix3 0 r j) = v (ix2 r j) := by
  pointwise [k0_pay10]

theorem pay11_at (v : Vec Ideal S2x2816 .f32) (r : Fin 2) (j : Fin 2816) : k0_pay11 v (ix3 0 r j) = v (ix2 r j) := by
  pointwise [k0_pay11]

/-- The gates' buffer holds, from row 6, the two earlier gate rows and then the gates of the block's rows. -/
theorem gates_at (p : ℕ) (hp : p < 514) (j : Fin 2816) :
    View.canon (gates halo x0 x1 x2) (ix2 (⟨6 + p, by omega⟩ : Fin 520) j) = Ffn.history (wts x1 x2 x3 x4 x6 x7) (rows x0) (prevs halo) p j := by
  unfold Ffn.history
  split_ifs with h
  · have e : (ix2 (⟨6 + p, by omega⟩ : Fin 520) j : S520x2816.Idx) = (Rect.unit (s := S520x2816) ![6, 0] S2x2816.size inb_S520x2816_S2x2816_6_0).emb (ix2 (⟨p, h⟩ : Fin 2) j) := by
      funext d
      match d with
      | ⟨0, _⟩ => exact Fin.ext (by show 6 + p = 6 + 1 * p; omega)
      | ⟨1, _⟩ => exact Fin.ext (by show j.val = 0 + 1 * j.val; omega)
    unfold gates
    rw [View.canon_cons_of_not_mem, e, View.canon_cons_emb]
    · unfold prevs
      refine congrArg halo (congrArg (fun a => ix2 a j) (Fin.ext ?_))
      exact (Nat.mod_eq_of_lt h).symm
    · intro hm
      have : 8 ≤ 6 + p := ((Rect.mem_set_unit (inb := inb_S520x2816_S512x2816_8_0)).mp hm (0 : Fin 2)).1
      omega
  · have e : (ix2 (⟨6 + p, by omega⟩ : Fin 520) j : S520x2816.Idx) = (Rect.unit (s := S520x2816) ![8, 0] S512x2816.size inb_S520x2816_S512x2816_8_0).emb (ix2 (⟨p - 2, by omega⟩ : Fin 512) j) := by
      funext d
      match d with
      | ⟨0, _⟩ => exact Fin.ext (by show 6 + p = 8 + 1 * (p - 2); omega)
      | ⟨1, _⟩ => exact Fin.ext (by show j.val = 0 + 1 * j.val; omega)
    unfold gates
    rw [e, View.canon_cons_emb, pay9_at x0 x1 x2 x3 x4 x6 x7]
    exact congrArg (fun a => Ffn.gate _ a j) (rows_val x0 ⟨p - 2, by omega⟩).symm

theorem back2_at (r : Fin 512) (j : Fin 2816) :
    back2 halo x0 x1 x2 (ix2 r j) = Ffn.history (wts x1 x2 x3 x4 x6 x7) (rows x0) (prevs halo) r.val j := by
  rw [← gates_at halo x0 x1 x2 x3 x4 x6 x7 r.val (by omega)]
  refine congrArg (View.canon (gates halo x0 x1 x2)) (funext fun d => ?_)
  match d with
  | ⟨0, _⟩ => exact Fin.ext (by show 6 + 1 * r.val = 6 + r.val; omega)
  | ⟨1, _⟩ => exact Fin.ext (by show 0 + 1 * j.val = j.val; omega)

theorem back1_at (r : Fin 512) (j : Fin 2816) :
    back1 halo x0 x1 x2 (ix2 r j) = Ffn.history (wts x1 x2 x3 x4 x6 x7) (rows x0) (prevs halo) (r.val + 1) j := by
  rw [← gates_at halo x0 x1 x2 x3 x4 x6 x7 (r.val + 1) (by omega)]
  refine congrArg (View.canon (gates halo x0 x1 x2)) (funext fun d => ?_)
  match d with
  | ⟨0, _⟩ => exact Fin.ext (by show 7 + 1 * r.val = 6 + (r.val + 1); omega)
  | ⟨1, _⟩ => exact Fin.ext (by show 0 + 1 * j.val = j.val; omega)

/-- The last two gate rows of a block. -/
theorem tailRows_at (i : Fin 2) (j : Fin 2816) :
    tailRows halo x0 x1 x2 (ix2 i j) = Ffn.history (wts x1 x2 x3 x4 x6 x7) (rows x0) (prevs halo) (512 + i.val) j := by
  rw [← gates_at halo x0 x1 x2 x3 x4 x6 x7 (512 + i.val) (by omega)]
  refine congrArg (View.canon (gates halo x0 x1 x2)) (funext fun d => ?_)
  match d with
  | ⟨0, _⟩ => exact Fin.ext (by show 518 + 1 * i.val = 6 + (512 + i.val); omega)
  | ⟨1, _⟩ => exact Fin.ext (by show 0 + 1 * j.val = j.val; omega)

theorem taps_at (o : ℕ) (ho : o < 3) (inb : ∀ a : Fin 2, (![o, 0] : Fin 2 → ℕ) a + S1x2816.size a ≤ S3x2816.size a) (j : Fin 2816) :
    taps o inb x4 (ix2 0 j) = x4 (ix2 ⟨o, ho⟩ j) := by
  refine congrArg x4 (funext fun d => ?_)
  match d with
  | ⟨0, _⟩ => exact Fin.ext (by show o + 1 * 0 = o; omega)
  | ⟨1, _⟩ => exact Fin.ext (by show 0 + 1 * j.val = j.val; omega)

/-- A row of the result block is the layer's result for the row, given the two gates before it. -/
theorem block_at (r : Fin 512) (j : Fin 1024) :
    block halo x0 x1 x2 x3 x4 x6 x7 (ix2 r j) = Ffn.token (wts x1 x2 x3 x4 x6 x7) (fun k => x0 (ix2 r k))
      (Ffn.history (wts x1 x2 x3 x4 x6 x7) (rows x0) (prevs halo) r.val) (Ffn.history (wts x1 x2 x3 x4 x6 x7) (rows x0) (prevs halo) (r.val + 1)) j := by
  unfold block
  rw [pay2_at]
  unfold Ffn.token
  refine congrArg (fun a => Ffn.norm a _ j) (funext fun k => ?_)
  rw [pay1_at, pay12_at, pay4_at, zero_add]
  unfold Ffn.mixed
  refine congrArg (fun a => (x0 (ix2 r k) : EReal) + a) (Finset.sum_congr rfl fun l _ => ?_)
  rw [back2_at halo x0 x1 x2 x3 x4 x6 x7, back1_at halo x0 x1 x2 x3 x4 x6 x7, pay7_at x0 x1 x2 x3 x4 x6 x7, pay8_at x0 x1 x2 x3 x4 x6 x7,
    taps_at x4 0 (by omega), taps_at x4 1 (by omega), taps_at x4 2 (by omega)]
  rfl

end Cert.Kernel2Ideal.Ffn

end
-- ==== Proof.FfnResult.lean ====
/- The feed-forward call's two result arrays, element by element. -/
module

public import proofs.«01_k».proof.Proof.FfnValue

@[expose] public section

set_option maxRecDepth 16384

noncomputable section

namespace Cert.Kernel2Ideal.Ffn

open Cert Cert.Kernel2Ideal Cert.Kernel2Ideal.Gen Idealize.ShloMosaic Idealize.ShloMosaic.TcCoe Idealize.ShloMosaic.Tactic Idealize.SL.Sem

/-- The grid is 32 blocks of 512 tokens, eight to a sequence; where each window's block sits. -/
theorem index_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 8 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 3) = t.val ∧ win0_9.index t (1 : Fin 3) = 0 ∧ win0_9.index t (2 : Fin 3) = 0) :=
  (by decide +kernel : ∀ t : Fin grid0.N, _)

section Run

variable {F : FTy → Type} [FloatOps F] (m : (ℓ : Loc nD τ sig) → Buf (Elt F) ℓ) (ρ : Dev nD → PrngReg) (c : Dev nD)

/-- Distinct points write distinct blocks of the result. -/
theorem apart8 (t t' : Fin cfg0.N) (hne : t ≠ t') : Disjoint ((cfg0.win 8).blk t).view.set ((cfg0.win 8).blk t').view.set :=
  (cfg0.win 8).disjoint_blk fun h => hne (Fin.ext (by
    have := congrFun h (0 : Fin 2)
    have e : win0_8.index t (0 : Fin 2) = win0_8.index t' (0 : Fin 2) := this
    rwa [(index_at t).2.2.2.2.2.2.2.2.1.1, (index_at t').2.2.2.2.2.2.2.2.1.1] at e))

/-- Distinct points write distinct blocks of the state. -/
theorem apart9 (t t' : Fin cfg0.N) (hne : t ≠ t') : Disjoint ((cfg0.win 9).blk t).view.set ((cfg0.win 9).blk t').view.set :=
  (cfg0.win 9).disjoint_blk fun h => hne (Fin.ext (by
    have := congrFun h (0 : Fin 3)
    have e : win0_9.index t (0 : Fin 3) = win0_9.index t' (0 : Fin 3) := this
    rwa [(index_at t).2.2.2.2.2.2.2.2.2.1, (index_at t').2.2.2.2.2.2.2.2.2.1] at e))

/-- The result's block at a point is what the point's body left. -/
theorem result_block (t : Fin cfg0.N) (r : Fin 512) (k : Fin 1024) (a : Fin 16384) (ha : a.val = t.val * 512 + r.val) :
    (dats m 0 c).arrAt 8 cfg0.N (ix2 a k : S16384x1024.Idx) = (outs m c t.val t.isLt).1 (ix2 r k) := by
  obtain ⟨h0, h1⟩ := (index_at t).2.2.2.2.2.2.2.2.1
  have hb := congrFun ((dats m 0 c).read_blk_arrAt_eq_flushed 8 (fun t t' _ _ h => apart8 t t' h) cfg0.N t t.isLt (flush0_8 t)) (ix2 r k : S512x1024.Idx)
  rw [show (dats m 0 c).flushed 8 t = (cfg0.win 8).cut (grid0.coords t) ((outs m c t.val t.isLt).1) from by
    show (cfg0.win 8).cut (grid0.coords t) ((dats m 0 c).after 8 t) = _
    rw [after0_8]] at hb
  refine Eq.trans (congrArg ((dats m 0 c).arrAt 8 cfg0.N) (funext fun d => ?_)) hb
  match d with
  | ⟨0, _⟩ => exact Fin.ext (by show a.val = win0_8.index t (0 : Fin 2) * 512 + 1 * r.val; rw [h0]; omega)
  | ⟨1, _⟩ => exact Fin.ext (by show k.val = win0_8.index t (1 : Fin 2) * 1024 + 1 * k.val; rw [h1]; omega)

/-- The state's block at a point is what the point's body left. -/
theorem state_block (t : Fin cfg0.N) (i : Fin 2) (k : Fin 2816) (a : Fin 32) (ha : a.val = t.val) :
    (dats m 0 c).arrAt 9 cfg0.N (ix3 a i k : S32x2x2816.Idx) = (outs m c t.val t.isLt).2.1 (ix3 0 i k) := by
  obtain ⟨h0, h1, h2⟩ := (index_at t).2.2.2.2.2.2.2.2.2
  have hb := congrFun ((dats m 0 c).read_blk_arrAt_eq_flushed 9 (fun t t' _ _ h => apart9 t t' h) cfg0.N t t.isLt (flush0_9 t)) (ix3 0 i k : S1x2x2816.Idx)
  rw [show (dats m 0 c).flushed 9 t = (cfg0.win 9).cut (grid0.coords t) ((outs m c t.val t.isLt).2.1) from by
    show (cfg0.win 9).cut (grid0.coords t) ((dats m 0 c).after 9 t) = _
    rw [after0_9]] at hb
  refine Eq.trans (congrArg ((dats m 0 c).arrAt 9 cfg0.N) (funext fun d => ?_)) hb
  match d with
  | ⟨0, _⟩ => exact Fin.ext (by show a.val = win0_9.index t (0 : Fin 3) * 1 + 1 * 0; rw [h0]; omega)
  | ⟨1, _⟩ => exact Fin.ext (by show i.val = win0_9.index t (1 : Fin 3) * 2 + 1 * i.val; rw [h1]; omega)
  | ⟨2, _⟩ => exact Fin.ext (by show k.val = win0_9.index t (2 : Fin 3) * 2816 + 1 * k.val; rw [h2]; omega)

/-- Every run ends with the two results at these arrays and the arguments as they were. -/
theorem run_arrays : θ_run defs (onTc (τ := τ) (main (F := F))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h.1.1 c).1 8, (h.1.1 c).1 9, h.2.1 c⟩)
    (θ_run_and (run_quiescent m ρ) (frame_run m ρ))

end Run

variable (m : (ℓ : Loc nD τ sig) → Buf (Elt Ideal) ℓ) (c : Dev nD)

/-- The layer's weights as launched. -/
def W : Ffn.Weights where
  g k := m ((c : Thread nD τ).loc main_arg1) (ix2 0 k : S1x1024.Idx)
  wg k j := m ((c : Thread nD τ).loc main_arg2) (ix2 k j : S1024x2816.Idx)
  wu k j := m ((c : Thread nD τ).loc main_arg3) (ix2 k j : S1024x2816.Idx)
  cw i j := m ((c : Thread nD τ).loc main_arg4) (ix2 i j : S3x2816.Idx)
  wd k j := m ((c : Thread nD τ).loc main_arg6) (ix2 k j : S2816x1024.Idx)
  gf k := m ((c : Thread nD τ).loc main_arg7) (ix2 0 k : S1x1024.Idx)

/-- A sequence's rows by their position. -/
def seq (b : ℕ) (n : ℕ) (k : Fin 1024) : EReal := m ((c : Thread nD τ).loc main_arg0) (ix2 (Fin.ofNat 16384 (b * 4096 + n)) k : S16384x1024.Idx)

/-- A sequence's two earlier gate rows. -/
def before (b : ℕ) (n : ℕ) (j : Fin 2816) : EReal := m ((c : Thread nD τ).loc main_arg5) (ix3 (Fin.ofNat 4 b) (Fin.ofNat 2 n) j : S4x2x2816.Idx)

/-- The gate rows of a sequence, the two earlier ones first. -/
abbrev hist (b : ℕ) (p : ℕ) : Fin 2816 → EReal := Ffn.history (W m c) (seq m c b) (before m c b) p

theorem block_rows (t : Fin cfg0.N) (n : ℕ) (hn : n < 512) : rows (iblk m c 0 t) n = seq m c (t.val / 8) (t.val % 8 * 512 + n) := funext fun k => by
  obtain ⟨h0, h1⟩ := (index_at t).1
  have ht : t.val < 32 := t.isLt
  unfold rows
  show V m c main_arg0 _ = _
  rw [V_main_arg0]
  refine congrArg _ (funext fun d => ?_)
  match d with
  | ⟨0, _⟩ => exact Fin.ext (by
      show win0_0.index t (0 : Fin 2) * 512 + 1 * (n % 512) = (t.val / 8 * 4096 + (t.val % 8 * 512 + n)) % 16384
      rw [h0]; omega)
  | ⟨1, _⟩ => exact Fin.ext (by show win0_0.index t (1 : Fin 2) * 1024 + 1 * k.val = k.val; rw [h1]; omega)

theorem block_prev (t : Fin cfg0.N) (i : Fin 2) (j : Fin 2816) : (iblk m c 5 t (ix3 0 i j : S1x2x2816.Idx) : EReal) = before m c (t.val / 8) i.val j := by
  obtain ⟨h0, h1, h2⟩ := (index_at t).2.2.2.2.2.1
  have ht : t.val < 32 := t.isLt
  show V m c main_arg5 _ = _
  rw [V_main_arg5]
  refine congrArg _ (funext fun d => ?_)
  match d with
  | ⟨0, _⟩ => exact Fin.ext (by show win0_5.index t (0 : Fin 3) * 1 + 1 * 0 = t.val / 8 % 4; rw [h0]; omega)
  | ⟨1, _⟩ => exact Fin.ext (by show win0_5.index t (1 : Fin 3) * 2 + 1 * i.val = i.val % 2; rw [h1]; omega)
  | ⟨2, _⟩ => exact Fin.ext (by show win0_5.index t (2 : Fin 3) * 2816 + 1 * j.val = j.val; rw [h2]; omega)

/-- Every point reads the same weights. -/
theorem block_wts (t : Fin cfg0.N) : wts (iblk m c 1 t) (iblk m c 2 t) (iblk m c 3 t) (iblk m c 4 t) (iblk m c 6 t) (iblk m c 7 t) = W m c := by
  obtain ⟨_, ⟨a0, a1⟩, ⟨b0, b1⟩, ⟨c0, c1⟩, ⟨d0, d1⟩, _, ⟨e0, e1⟩, ⟨f0, f1⟩, _⟩ := index_at t
  unfold wts W
  congr 1
  · funext k
    show V m c main_arg1 _ = _
    rw [V_main_arg1]
    refine congrArg _ (funext fun d => ?_)
    match d with
    | ⟨0, _⟩ => exact Fin.ext (by show win0_1.index t (0 : Fin 2) * 1 + 1 * 0 = 0; rw [a0])
    | ⟨1, _⟩ => exact Fin.ext (by show win0_1.index t (1 : Fin 2) * 1024 + 1 * k.val = k.val; rw [a1]; omega)
  · funext k j
    show V m c main_arg2 _ = _
    rw [V_main_arg2]
    refine congrArg _ (funext fun d => ?_)
    match d with
    | ⟨0, _⟩ => exact Fin.ext (by show win0_2.index t (0 : Fin 2) * 1024 + 1 * k.val = k.val; rw [b0]; omega)
    | ⟨1, _⟩ => exact Fin.ext (by show win0_2.index t (1 : Fin 2) * 2816 + 1 * j.val = j.val; rw [b1]; omega)
  · funext k j
    show V m c main_arg3 _ = _
    rw [V_main_arg3]
    refine congrArg _ (funext fun d => ?_)
    match d with
    | ⟨0, _⟩ => exact Fin.ext (by show win0_3.index t (0 : Fin 2) * 1024 + 1 * k.val = k.val; rw [c0]; omega)
    | ⟨1, _⟩ => exact Fin.ext (by show win0_3.index t (1 : Fin 2) * 2816 + 1 * j.val = j.val; rw [c1]; omega)
  · funext k j
    show V m c main_arg4 _ = _
    rw [V_main_arg4]
    refine congrArg _ (funext fun d => ?_)
    match d with
    | ⟨0, _⟩ => exact Fin.ext (by show win0_4.index t (0 : Fin 2) * 3 + 1 * k.val = k.val; rw [d0]; omega)
    | ⟨1, _⟩ => exact Fin.ext (by show win0_4.index t (1 : Fin 2) * 2816 + 1 * j.val = j.val; rw [d1]; omega)
  · funext k j
    show V m c main_arg6 _ = _
    rw [V_main_arg6]
    refine congrArg _ (funext fun d => ?_)
    match d with
    | ⟨0, _⟩ => exact Fin.ext (by show win0_6.index t (0 : Fin 2) * 2816 + 1 * k.val = k.val; rw [e0]; omega)
    | ⟨1, _⟩ => exact Fin.ext (by show win0_6.index t (1 : Fin 2) * 1024 + 1 * j.val = j.val; rw [e1]; omega)
  · funext k
    show V m c main_arg7 _ = _
    rw [V_main_arg7]
    refine congrArg _ (funext fun d => ?_)
    match d with
    | ⟨0, _⟩ => exact Fin.ext (by show win0_7.index t (0 : Fin 2) * 1 + 1 * 0 = 0; rw [f0])
    | ⟨1, _⟩ => exact Fin.ext (by show win0_7.index t (1 : Fin 2) * 1024 + 1 * k.val = k.val; rw [f1]; omega)

/-- A block's gate rows are the sequence's, when the two rows before it are. -/
theorem hist_block (t : Fin cfg0.N) (halo : FVec Ideal S2x2816 .f32)
    (hh : ∀ (i : Fin 2) (j : Fin 2816), (halo (ix2 i j) : EReal) = hist m c (t.val / 8) (t.val % 8 * 512 + i.val) j) (p : ℕ) (hp : p < 514) :
    Ffn.history (W m c) (rows (iblk m c 0 t)) (prevs halo) p = hist m c (t.val / 8) (t.val % 8 * 512 + p) := by
  by_cases h : p < 2
  · rw [Ffn.history, if_pos h]
    funext j
    refine (hh (Fin.ofNat 2 p) j).trans ?_
    show hist m c (t.val / 8) (t.val % 8 * 512 + p % 2) j = _
    rw [Nat.mod_eq_of_lt h]
  · rw [Ffn.history, if_neg h, hist, Ffn.history, if_neg (by omega), block_rows m c t (p - 2) (by omega),
      show t.val % 8 * 512 + p - 2 = t.val % 8 * 512 + (p - 2) from by omega]

/-- A point whose carried rows are the sequence's last two gate rows leaves the layer's results for its tokens, and the next two rows. -/
theorem point_at (t : Fin cfg0.N) (halo : FVec Ideal S2x2816 .f32)
    (hh : ∀ (i : Fin 2) (j : Fin 2816), (halo (ix2 i j) : EReal) = hist m c (t.val / 8) (t.val % 8 * 512 + i.val) j) :
    (∀ (r : Fin 512) (j : Fin 1024), block halo (iblk m c 0 t) (iblk m c 1 t) (iblk m c 2 t) (iblk m c 3 t) (iblk m c 4 t) (iblk m c 6 t) (iblk m c 7 t) (ix2 r j)
      = Ffn.token (W m c) (seq m c (t.val / 8) (t.val % 8 * 512 + r.val)) (hist m c (t.val / 8) (t.val % 8 * 512 + r.val)) (hist m c (t.val / 8) (t.val % 8 * 512 + r.val + 1)) j)
    ∧ (∀ (i : Fin 2) (j : Fin 2816), tailRows halo (iblk m c 0 t) (iblk m c 1 t) (iblk m c 2 t) (ix2 i j)
      = hist m c (t.val / 8) (t.val % 8 * 512 + 512 + i.val) j) := by
  constructor
  · intro r j
    rw [block_at, block_wts, hist_block m c t halo hh r.val (by omega), hist_block m c t halo hh (r.val + 1) (by omega), ← rows_val, block_rows m c t r.val r.isLt]
    rfl
  · intro i j
    rw [tailRows_at _ _ _ _ (iblk m c 3 t) (iblk m c 4 t) (iblk m c 6 t) (iblk m c 7 t), block_wts, hist_block m c t halo hh (512 + i.val) (by omega)]
    rw [← Nat.add_assoc]

/-- What a point leaves, its tokens' results and the last two gate rows twice. -/
structure Leaves (t : Fin cfg0.N) (o : Vec Ideal S512x1024 .f32 × Vec Ideal S1x2x2816 .f32 × Vec Ideal S1x2x2816 .f32) : Prop where
  out : ∀ (r : Fin 512) (j : Fin 1024), (o.1 (ix2 r j) : EReal) = Ffn.token (W m c) (seq m c (t.val / 8) (t.val % 8 * 512 + r.val)) (hist m c (t.val / 8) (t.val % 8 * 512 + r.val)) (hist m c (t.val / 8) (t.val % 8 * 512 + r.val + 1)) j
  state : ∀ (i : Fin 2) (j : Fin 2816), (o.2.1 (ix3 0 i j) : EReal) = hist m c (t.val / 8) (t.val % 8 * 512 + 512 + i.val) j
  tail : ∀ (i : Fin 2) (j : Fin 2816), (o.2.2 (ix3 0 i j) : EReal) = hist m c (t.val / 8) (t.val % 8 * 512 + 512 + i.val) j

theorem left_leaves (t : Fin cfg0.N) (xs : Vec Ideal S1x2x2816 .f32)
    (hx : ¬t.val % 8 = 0 → ∀ (i : Fin 2) (j : Fin 2816), (xs (ix3 0 i j) : EReal) = hist m c (t.val / 8) (t.val % 8 * 512 + i.val) j) :
    Leaves m c t (left m c t xs) := by
  unfold left
  by_cases h : t.val % 8 = 0
  · rw [dif_pos h, out8First_eq, out9First_eq, tailFirst_eq]
    obtain ⟨p1, p2⟩ := point_at m c t (k0_pay5 (iblk m c 5 t)) (fun i j => by
      rw [pay5_at, block_prev, h, hist, Ffn.history, if_pos (by omega), Nat.zero_mul, Nat.zero_add])
    refine ⟨fun r j => ?_, fun i j => ?_, fun i j => ?_⟩ <;> dsimp only
    · exact p1 r j
    · rw [pay11_at]; exact p2 i j
    · rw [pay10_at]; exact p2 i j
  · rw [dif_neg h, out8Next_eq, out9Next_eq, tailNext_eq]
    obtain ⟨p1, p2⟩ := point_at m c t (k0_pay6 xs) (fun i j => by rw [pay6_at, hx h])
    refine ⟨fun r j => ?_, fun i j => ?_, fun i j => ?_⟩ <;> dsimp only
    · exact p1 r j
    · rw [pay11_at]; exact p2 i j
    · rw [pay10_at]; exact p2 i j

/-- Every point leaves the layer's results for its tokens. -/
theorem outs_leaves : ∀ (n : ℕ) (hn : n < cfg0.N), Leaves m c ⟨n, hn⟩ (outs m c n hn)
  | 0, hn => left_leaves m c ⟨0, hn⟩ _ fun h => absurd rfl h
  | n + 1, hn => left_leaves m c ⟨n + 1, hn⟩ _ fun h i j => by
      have h' : ¬(n + 1) % 8 = 0 := h
      refine ((outs_leaves n (Nat.lt_of_succ_lt hn)).tail i j).trans ?_
      show hist m c (n / 8) (n % 8 * 512 + 512 + i.val) j = hist m c ((n + 1) / 8) ((n + 1) % 8 * 512 + i.val) j
      rw [show (n + 1) / 8 = n / 8 from by omega, show (n + 1) % 8 * 512 = n % 8 * 512 + 512 from by omega]

/-- THE KERNEL'S RESULT at a sequence's position. -/
theorem result_at (b : Fin 4) (s : Fin 4096) (j : Fin 1024) :
    ((dats m 0 c).arrAt 8 cfg0.N (ix2 ⟨b.val * 4096 + s.val, by omega⟩ j : S16384x1024.Idx) : EReal)
      = Ffn.token (W m c) (seq m c b.val s.val) (hist m c b.val s.val) (hist m c b.val (s.val + 1)) j := by
  have hN : cfg0.N = 32 := by decide +kernel
  have ht : b.val * 8 + s.val / 512 < cfg0.N := by rw [hN]; omega
  rw [result_block m c ⟨b.val * 8 + s.val / 512, ht⟩ ⟨s.val % 512, by omega⟩ j _ (by show b.val * 4096 + s.val = (b.val * 8 + s.val / 512) * 512 + s.val % 512; omega),
    (outs_leaves m c _ ht).out]
  show Ffn.token (W m c) (seq m c ((b.val * 8 + s.val / 512) / 8) ((b.val * 8 + s.val / 512) % 8 * 512 + s.val % 512)) _ _ j = _
  rw [show (b.val * 8 + s.val / 512) / 8 = b.val from by omega, show (b.val * 8 + s.val / 512) % 8 * 512 + s.val % 512 = s.val from by omega]

/-- THE KERNEL'S STATE: a block's last two gates. -/
theorem state_at (t : Fin 32) (i : Fin 2) (j : Fin 2816) :
    ((dats m 0 c).arrAt 9 cfg0.N (ix3 t i j : S32x2x2816.Idx) : EReal) = Ffn.gate (W m c) (seq m c (t.val / 8) (t.val % 8 * 512 + 510 + i.val)) j := by
  have hN : cfg0.N = 32 := by decide +kernel
  have ht : t.val < cfg0.N := by rw [hN]; exact t.isLt
  rw [state_block m c ⟨t.val, ht⟩ i j t rfl, (outs_leaves m c _ ht).state, hist, Ffn.history, if_neg (by omega)]
  show Ffn.gate (W m c) (seq m c (t.val / 8) (t.val % 8 * 512 + 512 + i.val - 2)) j = _
  rw [show t.val % 8 * 512 + 512 + i.val - 2 = t.val % 8 * 512 + 510 + i.val from by omega]

end Cert.Kernel2Ideal.Ffn

end
-- ==== Proof.FfnReference.lean ====
/- The feed-forward reference's results at an index, as the layer's per-token functions. -/
module

public import proofs.«01_k».proof.Proof.Ffn
public import proofs.«01_k».proof.Proof.Gen.Reference2Ideal.Read

@[expose] public section

set_option maxRecDepth 16384

noncomputable section

namespace Cert.Reference2Ideal.Ffn

open Cert.Reference2Ideal Cert.Reference2Ideal.Read Idealize.ShloMosaic Idealize.ShloMosaic.TcCoe Idealize.ShloMosaic.Tactic Cert

variable (x0 : (⟨S16384x1024, .f32⟩ : BufTy).Contents (Elt Ideal)) (x1 : (⟨S1x1024, .f32⟩ : BufTy).Contents (Elt Ideal))
  (x2 x3 : (⟨S1024x2816, .bf16⟩ : BufTy).Contents (Elt Ideal)) (x4 : (⟨S3x2816, .f32⟩ : BufTy).Contents (Elt Ideal))
  (x5 : (⟨S4x2x2816, .f32⟩ : BufTy).Contents (Elt Ideal)) (x6 : (⟨S2816x1024, .bf16⟩ : BufTy).Contents (Elt Ideal))
  (x7 : (⟨S1x1024, .f32⟩ : BufTy).Contents (Elt Ideal))

/-- The layer's weights read from the arguments. -/
def W : Ffn.Weights where
  g k := x1 (ix2 0 k)
  wg k j := x2 (ix2 k j)
  wu k j := x3 (ix2 k j)
  cw i j := x4 (ix2 i j)
  wd k j := x6 (ix2 k j)
  gf k := x7 (ix2 0 k)

/-- A sequence's rows by their position. -/
def seq (b : ℕ) (n : ℕ) (k : Fin 1024) : EReal := x0 (ix2 (Fin.ofNat 16384 (b * 4096 + n)) k)

/-- A sequence's two earlier gate rows. -/
def before (b : ℕ) (n : ℕ) (j : Fin 2816) : EReal := x5 (ix3 (Fin.ofNat 4 b) (Fin.ofNat 2 n) j)

/-- A sum that starts at the zero constant is the sum. -/
theorem from_zero {a b : EReal} (h : a = b) : Ideal.ofBits .f32 0x00000000#32 + a = b := by
  rw [Ideal.ofBits_zero_f32, zero_add, h]

theorem ofBits_one : Ideal.ofBits .f32 0x3F800000#32 = 1 := by
  simp [Ideal.ofBits, Ideal.ieee]
  rw [← EReal.coe_mul]
  norm_num

/-- The argument's rows, split by sequence. -/
theorem row_at (b : Fin 4) (s : Fin 4096) (k : Fin 1024) : (val_main_v0 (F := Ideal) x0 (ix3 b s k) : EReal) = seq x0 b.val s.val k := by
  rw [val_main_v0_apply]
  refine congrArg x0 (funext fun a => ?_)
  match a with
  | ⟨0, _⟩ => exact Fin.ext (by show ((b.val * 4096 + s.val) * 1024 + k.val) / 1024 = (b.val * 4096 + s.val) % 16384; omega)
  | ⟨1, _⟩ => exact Fin.ext (by show ((b.val * 4096 + s.val) * 1024 + k.val) % 1024 = k.val; omega)

/-- The first norm. -/
theorem norm_at (b : Fin 4) (s : Fin 4096) (k : Fin 1024) :
    (val_main_v13 (F := Ideal) x0 x1 (ix3 b s k) : EReal) = Ffn.norm (seq x0 b.val s.val) (fun k => x1 (ix2 0 k)) k := by
  have hx : (val_main_v12 (F := Ideal) x1 (ix3 b s k) : EReal) = x1 (ix2 0 k) := by
    rw [val_main_v12_apply, val_main_v11_apply]
    refine congrArg x1 (funext fun a => ?_)
    match a with
    | ⟨0, _⟩ => rfl
    | ⟨1, _⟩ => rfl
  have hr : (val_main_v9 (F := Ideal) x0 (ix3 b s k) : EReal)
      = Ideal.rsqrt (Ideal.div (∑ k : Fin 1024, seq x0 b.val s.val k * seq x0 b.val s.val k) (Ideal.ofBits .f32 0x44800000#32) + Ideal.ofBits .f32 0x358637BD#32) := by
    rw [val_main_v9_apply, val_main_v8_apply, val_main_v7_apply, val_main_v5_apply, val_main_v3_apply, val_main_v2_apply, val_main_v4_apply, val_main_v6_apply]
    refine congrArg (fun u : EReal => Ideal.rsqrt (Ideal.div u (Ideal.ofBits .f32 0x44800000#32) + Ideal.ofBits .f32 0x358637BD#32)) (from_zero ?_)
    refine Finset.sum_congr rfl fun q _ => ?_
    have e : idx_main_v2 (idx_main_v3 (idx_main_v9 (ix3 b s k))) q = ix3 b s q := funext fun a => by
      match a with
      | ⟨0, _⟩ => rfl
      | ⟨1, _⟩ => rfl
      | ⟨2, _⟩ => rfl
    rw [e, val_main_v1_apply, row_at]
    rfl
  rw [val_main_v13_apply, val_main_v10_apply, row_at, hx, hr]
  rfl

/-- The gate before the convolution. -/
theorem gate_at (b : Fin 4) (s : Fin 4096) (j : Fin 2816) :
    (val_main_v15 (F := Ideal) x0 x1 x2 (ix3 b s j) : EReal) = Ffn.gate (W x1 x2 x3 x4 x6 x7) (seq x0 b.val s.val) j := by
  rw [val_main_v15_apply]
  refine Finset.sum_congr rfl fun k _ => ?_
  have el : lidx_main_v15 (ix3 b s j) k = ix3 b s k := funext fun a => by
    match a with
    | ⟨0, _⟩ => rfl
    | ⟨1, _⟩ => rfl
    | ⟨2, _⟩ => rfl
  have er : ridx_main_v15 (ix3 b s j) k = ix2 k j := funext fun a => by
    match a with
    | ⟨0, _⟩ => rfl
    | ⟨1, _⟩ => rfl
  rw [el, er, norm_at]
  rfl

/-- The value. -/
theorem value_at (b : Fin 4) (s : Fin 4096) (j : Fin 2816) :
    (val_main_v39 (F := Ideal) x0 x1 x3 (ix3 b s j) : EReal) = Ffn.value (W x1 x2 x3 x4 x6 x7) (seq x0 b.val s.val) j := by
  rw [val_main_v39_apply]
  refine Finset.sum_congr rfl fun k _ => ?_
  have el : lidx_main_v39 (ix3 b s j) k = ix3 b s k := funext fun a => by
    match a with
    | ⟨0, _⟩ => rfl
    | ⟨1, _⟩ => rfl
    | ⟨2, _⟩ => rfl
  have er : ridx_main_v39 (ix3 b s j) k = ix2 k j := funext fun a => by
    match a with
    | ⟨0, _⟩ => rfl
    | ⟨1, _⟩ => rfl
  rw [el, er, norm_at]
  rfl

/-- The gates of a sequence after the two earlier rows. -/
theorem history_at (b : Fin 4) (p : Fin 4098) (j : Fin 2816) :
    (val_main_v16 (F := Ideal) x0 x1 x2 x5 (ix3 b p j) : EReal)
      = Ffn.history (W x1 x2 x3 x4 x6 x7) (seq x0 b.val) (before x5 b.val) p.val j := by
  unfold val_main_v16 Ffn.history
  by_cases hp : p.val < 2
  · rw [if_pos hp]
    refine (concatenate_pair_apply_left (1 : Fin S4x4098x2816.rank) x5 (val_main_v15 (F := Ideal) x0 x1 x2) _ (ix3 b p j) rfl (ix3 b ⟨p.val, hp⟩ j) (fun a => ?_)).trans ?_
    · match a with
      | ⟨0, _⟩ => rfl
      | ⟨1, _⟩ => rfl
      | ⟨2, _⟩ => rfl
    · unfold before
      refine congrArg x5 (funext fun a => ?_)
      match a with
      | ⟨0, _⟩ => exact Fin.ext (Nat.mod_eq_of_lt b.isLt).symm
      | ⟨1, _⟩ => exact Fin.ext (Nat.mod_eq_of_lt hp).symm
      | ⟨2, _⟩ => rfl
  · rw [if_neg hp]
    have hb : p.val - 2 < 4096 := by omega
    refine (concatenate_pair_apply_right (1 : Fin S4x4098x2816.rank) x5 (val_main_v15 (F := Ideal) x0 x1 x2) _ (ix3 b p j) rfl rfl (ix3 b ⟨p.val - 2, hb⟩ j) (fun a ha => ?_) ?_).trans
      (gate_at x0 x1 x2 x3 x4 x6 x7 b ⟨p.val - 2, hb⟩ j)
    · match a with
      | ⟨0, _⟩ => rfl
      | ⟨1, _⟩ => exact absurd rfl ha
      | ⟨2, _⟩ => rfl
    · show p.val - 2 + 2 = p.val
      omega

/-- The convolved gate. -/
theorem conv_at (b : Fin 4) (s : Fin 4096) (j : Fin 2816) :
    (val_main_v36 (F := Ideal) x0 x1 x2 x4 x5 (ix3 b s j) : EReal)
      = Ffn.conv (W x1 x2 x3 x4 x6 x7) (Ffn.history (W x1 x2 x3 x4 x6 x7) (seq x0 b.val) (before x5 b.val) s.val)
          (Ffn.history (W x1 x2 x3 x4 x6 x7) (seq x0 b.val) (before x5 b.val) (s.val + 1)) (Ffn.gate (W x1 x2 x3 x4 x6 x7) (seq x0 b.val s.val)) j := by
  have h0 : (val_main_v21 (F := Ideal) x4 (ix3 b s j) : EReal) = x4 (ix2 0 j) := by
    rw [val_main_v21_apply, val_main_v20_apply, val_main_v19_apply, val_main_v18_apply]
    refine congrArg x4 (funext fun a => ?_)
    match a with
    | ⟨0, _⟩ => rfl
    | ⟨1, _⟩ => exact Fin.ext (Nat.mod_eq_of_lt j.isLt)
  have h1 : (val_main_v27 (F := Ideal) x4 (ix3 b s j) : EReal) = x4 (ix2 1 j) := by
    rw [val_main_v27_apply, val_main_v26_apply, val_main_v25_apply, val_main_v24_apply]
    refine congrArg x4 (funext fun a => ?_)
    match a with
    | ⟨0, _⟩ => rfl
    | ⟨1, _⟩ => exact Fin.ext (Nat.mod_eq_of_lt j.isLt)
  have h2 : (val_main_v34 (F := Ideal) x4 (ix3 b s j) : EReal) = x4 (ix2 2 j) := by
    rw [val_main_v34_apply, val_main_v33_apply, val_main_v32_apply, val_main_v31_apply]
    refine congrArg x4 (funext fun a => ?_)
    match a with
    | ⟨0, _⟩ => rfl
    | ⟨1, _⟩ => exact Fin.ext (Nat.mod_eq_of_lt j.isLt)
  have e0 : idx_main_v17 (ix3 b s j) = ix3 b ⟨s.val, by omega⟩ j := funext fun a => by
    match a with
    | ⟨0, _⟩ => rfl
    | ⟨1, _⟩ => rfl
    | ⟨2, _⟩ => rfl
  have e1 : idx_main_v23 (ix3 b s j) = ix3 b ⟨s.val + 1, by omega⟩ j := funext fun a => by
    match a with
    | ⟨0, _⟩ => rfl
    | ⟨1, _⟩ => exact Fin.ext (Nat.add_comm 1 s.val)
    | ⟨2, _⟩ => rfl
  have e2 : idx_main_v30 (ix3 b s j) = ix3 b ⟨s.val + 2, by omega⟩ j := funext fun a => by
    match a with
    | ⟨0, _⟩ => rfl
    | ⟨1, _⟩ => exact Fin.ext (Nat.add_comm 2 s.val)
    | ⟨2, _⟩ => rfl
  have eg : Ffn.history (W x1 x2 x3 x4 x6 x7) (seq x0 b.val) (before x5 b.val) (s.val + 2) = Ffn.gate (W x1 x2 x3 x4 x6 x7) (seq x0 b.val s.val) := by
    unfold Ffn.history
    rw [if_neg (by omega), Nat.add_sub_cancel]
  rw [val_main_v36_apply, val_main_v29_apply, val_main_v22_apply, val_main_v28_apply, val_main_v35_apply, val_main_v17_apply, val_main_v23_apply, val_main_v30_apply,
    h0, h1, h2, e0, e1, e2, history_at x0 x1 x2 x3 x4 x5 x6 x7, history_at x0 x1 x2 x3 x4 x5 x6 x7, history_at x0 x1 x2 x3 x4 x5 x6 x7, eg]
  rfl

/-- The activation of the convolved gate. -/
theorem silu_at (i : S4x4096x2816.Idx) :
    (val_main_v37 (F := Ideal) x0 x1 x2 x4 x5 i : EReal) = Ffn.silu (val_main_v36 (F := Ideal) x0 x1 x2 x4 x5 i) := by
  rw [val_main_v37_apply, val_main_call0_v5_apply, val_main_call0_v4_apply, val_main_call0_v3_apply, val_main_call0_v2_apply, val_main_call0_v1_apply, val_main_call0_v0_apply]
  generalize val_main_v36 (F := Ideal) x0 x1 x2 x4 x5 i = x
  show x * Ideal.div (Ideal.ofBits .f32 0x3F800000#32) (Ideal.ofBits .f32 0x3F800000#32 + Ideal.exp (-x)) = Ffn.silu x
  rw [ofBits_one]
  rfl

/-- The residual rows after the layer. -/
theorem mixed_at (b : Fin 4) (s : Fin 4096) (j : Fin 1024) :
    (val_main_v43 (F := Ideal) x0 x1 x2 x3 x4 x5 x6 (ix3 b s j) : EReal)
      = Ffn.mixed (W x1 x2 x3 x4 x6 x7) (seq x0 b.val s.val) (Ffn.history (W x1 x2 x3 x4 x6 x7) (seq x0 b.val) (before x5 b.val) s.val)
          (Ffn.history (W x1 x2 x3 x4 x6 x7) (seq x0 b.val) (before x5 b.val) (s.val + 1)) j := by
  rw [val_main_v43_apply, val_main_v42_apply, row_at]
  refine congrArg (fun u : EReal => seq x0 b.val s.val j + u) (Finset.sum_congr rfl fun k _ => ?_)
  have el : lidx_main_v42 (ix3 b s j) k = ix3 b s k := funext fun a => by
    match a with
    | ⟨0, _⟩ => rfl
    | ⟨1, _⟩ => rfl
    | ⟨2, _⟩ => rfl
  have er : ridx_main_v42 (ix3 b s j) k = ix2 k j := funext fun a => by
    match a with
    | ⟨0, _⟩ => rfl
    | ⟨1, _⟩ => rfl
  rw [el, er, val_main_v40_apply, silu_at, conv_at x0 x1 x2 x3 x4 x5 x6 x7, value_at x0 x1 x2 x3 x4 x6 x7]
  rfl

/-- The last norm. -/
theorem token_at (b : Fin 4) (s : Fin 4096) (j : Fin 1024) :
    (val_main_v56 (F := Ideal) x0 x1 x2 x3 x4 x5 x6 x7 (ix3 b s j) : EReal)
      = Ffn.token (W x1 x2 x3 x4 x6 x7) (seq x0 b.val s.val) (Ffn.history (W x1 x2 x3 x4 x6 x7) (seq x0 b.val) (before x5 b.val) s.val)
          (Ffn.history (W x1 x2 x3 x4 x6 x7) (seq x0 b.val) (before x5 b.val) (s.val + 1)) j := by
  have hm := mixed_at x0 x1 x2 x3 x4 x5 x6 x7 b s
  have hx : (val_main_v55 (F := Ideal) x7 (ix3 b s j) : EReal) = x7 (ix2 0 j) := by
    rw [val_main_v55_apply, val_main_v54_apply]
    refine congrArg x7 (funext fun a => ?_)
    match a with
    | ⟨0, _⟩ => rfl
    | ⟨1, _⟩ => rfl
  unfold Ffn.token
  generalize Ffn.mixed (W x1 x2 x3 x4 x6 x7) (seq x0 b.val s.val) (Ffn.history (W x1 x2 x3 x4 x6 x7) (seq x0 b.val) (before x5 b.val) s.val)
    (Ffn.history (W x1 x2 x3 x4 x6 x7) (seq x0 b.val) (before x5 b.val) (s.val + 1)) = row at hm ⊢
  have hr : (val_main_v52 (F := Ideal) x0 x1 x2 x3 x4 x5 x6 (ix3 b s j) : EReal)
      = Ideal.rsqrt (Ideal.div (∑ k : Fin 1024, row k * row k) (Ideal.ofBits .f32 0x44800000#32) + Ideal.ofBits .f32 0x358637BD#32) := by
    rw [val_main_v52_apply, val_main_v51_apply, val_main_v50_apply, val_main_v48_apply, val_main_v46_apply, val_main_v45_apply, val_main_v47_apply, val_main_v49_apply]
    refine congrArg (fun u : EReal => Ideal.rsqrt (Ideal.div u (Ideal.ofBits .f32 0x44800000#32) + Ideal.ofBits .f32 0x358637BD#32)) (from_zero ?_)
    refine Finset.sum_congr rfl fun q _ => ?_
    have e : idx_main_v45 (idx_main_v46 (idx_main_v52 (ix3 b s j))) q = ix3 b s q := funext fun a => by
      match a with
      | ⟨0, _⟩ => rfl
      | ⟨1, _⟩ => rfl
      | ⟨2, _⟩ => rfl
    rw [e, val_main_v44_apply, hm]
    rfl
  rw [val_main_v56_apply, val_main_v53_apply, hm, hx, hr]
  rfl

/-- The reference's first result, token by token. -/
theorem result_at (b : Fin 4) (s : Fin 4096) (j : Fin 1024) :
    (val_main_v59 (F := Ideal) x0 x1 x2 x3 x4 x5 x6 x7 (ix2 ⟨b.val * 4096 + s.val, by omega⟩ j) : EReal)
      = Ffn.token (W x1 x2 x3 x4 x6 x7) (seq x0 b.val s.val) (Ffn.history (W x1 x2 x3 x4 x6 x7) (seq x0 b.val) (before x5 b.val) s.val)
          (Ffn.history (W x1 x2 x3 x4 x6 x7) (seq x0 b.val) (before x5 b.val) (s.val + 1)) j := by
  rw [val_main_v59_apply]
  refine Eq.trans (congrArg (val_main_v56 (F := Ideal) x0 x1 x2 x3 x4 x5 x6 x7) (funext fun a => ?_)) (token_at x0 x1 x2 x3 x4 x5 x6 x7 b s j)
  have hb := b.isLt
  have hs := s.isLt
  have hj := j.isLt
  match a with
  | ⟨0, _⟩ => exact Fin.ext (by show ((b.val * 4096 + s.val) * 1024 + j.val) / 4194304 = b.val; omega)
  | ⟨1, _⟩ => exact Fin.ext (by show ((b.val * 4096 + s.val) * 1024 + j.val) / 1024 % 4096 = s.val; omega)
  | ⟨2, _⟩ => exact Fin.ext (by show ((b.val * 4096 + s.val) * 1024 + j.val) % 1024 = j.val; omega)

/-- The reference's second result: the gates of the last two tokens of every 512. -/
theorem state_at (t : Fin 32) (i : Fin 2) (j : Fin 2816) :
    (val_main_v58 (F := Ideal) x0 x1 x2 (ix3 t i j) : EReal)
      = Ffn.gate (W x1 x2 x3 x4 x6 x7) (seq x0 (t.val / 8) (t.val % 8 * 512 + 510 + i.val)) j := by
  have ht := t.isLt
  have hi := i.isLt
  have hj := j.isLt
  rw [val_main_v58_apply, val_main_v57_apply]
  refine Eq.trans (congrArg (val_main_v15 (F := Ideal) x0 x1 x2) (funext fun a => ?_))
    (gate_at x0 x1 x2 x3 x4 x6 x7 ⟨t.val / 8, by omega⟩ ⟨t.val % 8 * 512 + 510 + i.val, by omega⟩ j)
  match a with
  | ⟨0, _⟩ => exact Fin.ext (by show ((t.val * 512 + (510 + i.val)) * 2816 + j.val) / 11534336 = t.val / 8; omega)
  | ⟨1, _⟩ => exact Fin.ext (by show ((t.val * 512 + (510 + i.val)) * 2816 + j.val) / 2816 % 4096 = t.val % 8 * 512 + 510 + i.val; omega)
  | ⟨2, _⟩ => exact Fin.ext (by show ((t.val * 512 + (510 + i.val)) * 2816 + j.val) % 2816 = j.val; omega)

end Cert.Reference2Ideal.Ffn

end
-- ==== Proof.FfnClaims.lean ====
/- The claims about the feed-forward layer: the frames, and the equality of the kernel's and the reference's results. -/
module

public import proofs.«01_k».proof.Defs
public import proofs.«01_k».proof.Proof.FfnSame
public import proofs.«01_k».proof.Proof.FfnResult
public import proofs.«01_k».proof.Proof.FfnReference
public import Idealize.ShloMosaic.Adequacy
public import Idealize.ShloMosaic.Init

@[expose] public section

set_option maxRecDepth 16384

noncomputable section

namespace Cert.Proof

open Idealize.ShloMosaic Idealize.SL.Sem Idealize.ShloMosaic.Tactic

theorem frame_pi2 : Cert.quiescent_Kernel2Ideal := fun m ρ _ => Cert.Kernel2Ideal.Ffn.frame_run (F := Ideal) m ρ

/-- The feed-forward reference runs and leaves its arguments unchanged. -/
theorem frame_ri2 : Cert.quiescent_Reference2Ideal := fun m g _ =>
  (θ_run Cert.Reference2Ideal.defs _ _).mono (fun r h => ⟨fun c => (h c).2.2, Idealize.ShloMosaic.sem_eq_zero_of_no_sems (by decide) r.2⟩)
    (Cert.Reference2Ideal.Value.run (F := Ideal) m g)

theorem preserves2 : Cert.preserves_Kernel2_Kernel2Ideal := trivial

/-- Both results of the feed-forward kernel agree with the reference's at every index. -/
theorem algebraic2 : Cert.algebraic_Kernel2Ideal_Reference2Ideal := by
  intro m g m' g' _ hagree
  refine ⟨fun c => (Cert.Kernel2Ideal.Ffn.dats m 0 c).arrAt 8 Cert.Kernel2Ideal.cfg0.N, fun c => (Cert.Kernel2Ideal.Ffn.dats m 0 c).arrAt 9 Cert.Kernel2Ideal.cfg0.N,
    Cert.Kernel2Ideal.Ffn.run_arrays (F := Ideal) m g, ?_⟩
  refine (θ_run Cert.Reference2Ideal.defs _ _).mono (fun r h c => ⟨(h c).1.trans ?_, (h c).2.1.trans ?_, (h c).2.2⟩) (Cert.Reference2Ideal.Value.run (F := Ideal) m' g')
  · obtain ⟨h0, h1, h2, h3, h4, h5, h6, h7⟩ := hagree c
    rw [Cert.Reference2Ideal.Read.val_main_v59_eq m' c, h0, h1, h2, h3, h4, h5, h6, h7]
    funext i
    have hi0 : (i 0).val < 16384 := (i 0).isLt
    have e : i = ix2 (n0 := 16384) (n1 := 1024)
        ⟨(⟨(i 0).val / 4096, by omega⟩ : Fin 4).val * 4096 + (⟨(i 0).val % 4096, by omega⟩ : Fin 4096).val, by show (i 0).val / 4096 * 4096 + (i 0).val % 4096 < 16384; omega⟩
        ⟨(i 1).val, (i 1).isLt⟩ :=
      funext fun d => by
        match d with
        | ⟨0, _⟩ => exact Fin.ext (by show (i 0).val = (i 0).val / 4096 * 4096 + (i 0).val % 4096; omega)
        | ⟨1, _⟩ => rfl
    rw [e]
    exact (Cert.Reference2Ideal.Ffn.result_at _ _ _ _ _ _ _ _ _ _ _).trans (Cert.Kernel2Ideal.Ffn.result_at m c _ _ _).symm
  · obtain ⟨h0, h1, h2, h3, h4, h5, h6, h7⟩ := hagree c
    rw [h0, h1, h2]
    refine (Cert.Reference2Ideal.Read.val_main_v58_eq _ _ _).trans ?_
    funext i
    have e : i = ix3 (n0 := 32) (n1 := 2) (n2 := 2816) ⟨(i 0).val, (i 0).isLt⟩ ⟨(i 1).val, (i 1).isLt⟩ ⟨(i 2).val, (i 2).isLt⟩ :=
      funext fun d => by
        match d with
        | ⟨0, _⟩ => rfl
        | ⟨1, _⟩ => rfl
        | ⟨2, _⟩ => rfl
    rw [e]
    exact (Cert.Reference2Ideal.Ffn.state_at _ _ _ (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7)) _ _ _).trans (Cert.Kernel2Ideal.Ffn.state_at m c _ _ _).symm

end Cert.Proof

end
-- ==== Proof.MixOdd.lean ====
/- The output projection of the odd layers: its claims, and the equality of the kernel's and the reference's results. -/
module

public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Claim
public import Idealize.ShloMosaic.Lib.Pointwise
public import Idealize.ShloMosaic.Adequacy
public import Idealize.ShloMosaic.Init

@[expose] public section

set_option maxRecDepth 16384

noncomputable section

namespace Cert.MixOdd

open Idealize.ShloMosaic Idealize.ShloMosaic.Tactic

/-- A residual row plus the attention's row through the output weights. -/
def mix {n : ℕ} (x o : Fin n → Fin 1024 → EReal) (w : Fin 1024 → Fin 1024 → EReal) (r : Fin n) (j : Fin 1024) : EReal :=
  x r j + ∑ k : Fin 1024, o r k * w k j

end Cert.MixOdd

namespace Cert.Kernel3Ideal.MixOdd

open Cert Cert.Kernel3Ideal Cert.Kernel3Ideal.Gen Idealize.ShloMosaic Idealize.ShloMosaic.TcCoe Idealize.ShloMosaic.Tactic

/-- The grid is 16 blocks of 1024 rows; where each window's block sits. -/
theorem index_at : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) ∧ (cfg0.win 3).flush t = true :=
  (by decide +kernel : ∀ t : Fin grid0.N, _)

theorem zero2 : (![0, 0] : Fin 2 → ℕ) = fun _ => 0 := by funext d; match d with | ⟨0, _⟩ => rfl | ⟨1, _⟩ => rfl

/-- A block's result, place by place. -/
theorem out_at (x0 : Vec Ideal S1024x1024 .f32) (x1 x2 : Vec Ideal S1024x1024 .bf16) (r j : Fin 1024) :
    (out0_3 x0 x1 x2 (ix2 r j : S1024x1024.Idx) : EReal) = Cert.MixOdd.mix (fun r k => x0 (ix2 r k)) (fun r k => x1 (ix2 r k)) (fun k j => x2 (ix2 k j)) r j := by
  unfold out0_3
  rw [View.canon_unit_zero zero2, View.ld_unit_zero zero2, View.ld_unit_zero zero2, View.ld_unit_zero zero2]
  unfold Cert.MixOdd.mix
  pointwise [k0_pay1]

variable (m : (ℓ : Loc nD τ sig) → Buf (Elt Ideal) ℓ) (c : Dev nD)

/-- The residual rows, the attention's rows and the output weights as launched. -/
abbrev xArg : S16384x1024.Idx → EReal := m ((c : Thread nD τ).loc main_arg0)
abbrev oArg : S16384x1024.Idx → EReal := m ((c : Thread nD τ).loc main_arg1)
abbrev wArg : S1024x1024.Idx → EReal := m ((c : Thread nD τ).loc main_arg2)

theorem block_x (t : Fin cfg0.N) (r k : Fin 1024) (a : Fin 16384) (ha : a.val = t.val * 1024 + r.val) :
    (iblk m c 0 t (ix2 r k : S1024x1024.Idx) : EReal) = xArg m c (ix2 a k) := by
  obtain ⟨⟨h0, h1⟩, _⟩ := index_at t
  show V m c main_arg0 _ = _
  rw [V_main_arg0]
  refine congrArg _ (funext fun d => ?_)
  match d with
  | ⟨0, _⟩ => exact Fin.ext (by show win0_0.index t (0 : Fin 2) * 1024 + 1 * r.val = a.val; rw [h0]; omega)
  | ⟨1, _⟩ => exact Fin.ext (by show win0_0.index t (1 : Fin 2) * 1024 + 1 * k.val = k.val; rw [h1]; omega)

theorem block_o (t : Fin cfg0.N) (r k : Fin 1024) (a : Fin 16384) (ha : a.val = t.val * 1024 + r.val) :
    (iblk m c 1 t (ix2 r k : S1024x1024.Idx) : EReal) = oArg m c (ix2 a k) := by
  obtain ⟨_, ⟨h0, h1⟩, _⟩ := index_at t
  show V m c main_arg1 _ = _
  rw [V_main_arg1]
  refine congrArg _ (funext fun d => ?_)
  match d with
  | ⟨0, _⟩ => exact Fin.ext (by show win0_1.index t (0 : Fin 2) * 1024 + 1 * r.val = a.val; rw [h0]; omega)
  | ⟨1, _⟩ => exact Fin.ext (by show win0_1.index t (1 : Fin 2) * 1024 + 1 * k.val = k.val; rw [h1]; omega)

theorem block_w (t : Fin cfg0.N) (k j : Fin 1024) : (iblk m c 2 t (ix2 k j : S1024x1024.Idx) : EReal) = wArg m c (ix2 k j) := by
  obtain ⟨_, _, ⟨h0, h1⟩, _⟩ := index_at t
  show V m c main_arg2 _ = _
  rw [V_main_arg2]
  refine congrArg _ (funext fun d => ?_)
  match d with
  | ⟨0, _⟩ => exact Fin.ext (by show win0_2.index t (0 : Fin 2) * 1024 + 1 * k.val = k.val; rw [h0]; omega)
  | ⟨1, _⟩ => exact Fin.ext (by show win0_2.index t (1 : Fin 2) * 1024 + 1 * j.val = j.val; rw [h1]; omega)

/-- The kernel's result at a row and column. -/
theorem result_at (a : Fin 16384) (j : Fin 1024) :
    ((dats m 0 c).arrAt 3 cfg0.N (ix2 a j : S16384x1024.Idx) : EReal)
      = Cert.MixOdd.mix (fun a k => xArg m c (ix2 a k)) (fun a k => oArg m c (ix2 a k)) (fun k j => wArg m c (ix2 k j)) a j := by
  have hN : a.val / 1024 < cfg0.N := by show a.val / 1024 < 16; omega
  obtain ⟨_, _, _, ⟨h0, h1⟩, hf⟩ := index_at ⟨a.val / 1024, hN⟩
  have hr : a.val % 1024 < 1024 := Nat.mod_lt _ (by omega)
  have ha : a.val = (⟨a.val / 1024, hN⟩ : Fin cfg0.N).val * 1024 + (⟨a.val % 1024, hr⟩ : Fin 1024).val := by show a.val = a.val / 1024 * 1024 + a.val % 1024; omega
  generalize (⟨a.val / 1024, hN⟩ : Fin cfg0.N) = t at h0 h1 hf ha
  generalize (⟨a.val % 1024, hr⟩ : Fin 1024) = r at ha
  have hb := congrFun (Cert.Kernel3Ideal.Value.blocks3 m c t hf) (ix2 r j : S1024x1024.Idx)
  rw [Cert.Kernel3Ideal.Value.flushed3] at hb
  refine Eq.trans (congrArg ((dats m 0 c).arrAt 3 cfg0.N) (funext fun d => ?_)) (hb.trans ((out_at _ _ _ r j).trans ?_))
  · match d with
    | ⟨0, _⟩ => exact Fin.ext (by show a.val = win0_3.index t (0 : Fin 2) * 1024 + 1 * r.val; rw [h0]; omega)
    | ⟨1, _⟩ => exact Fin.ext (by show j.val = win0_3.index t (1 : Fin 2) * 1024 + 1 * j.val; rw [h1]; omega)
  · unfold Cert.MixOdd.mix
    refine congrArg₂ (· + ·) (block_x m c t r j a ha) (Finset.sum_congr rfl fun k _ => ?_)
    exact congrArg₂ (· * ·) (block_o m c t r k a ha) (block_w m c t k j)

end Cert.Kernel3Ideal.MixOdd

namespace Cert.Proof

open Idealize.ShloMosaic Idealize.SL.Sem Idealize.ShloMosaic.Tactic

theorem frame_p3 : Cert.quiescent_Kernel3 := fun m ρ _ => Cert.Kernel3.Gen.frame m ρ
theorem frame_pi3 : Cert.quiescent_Kernel3Ideal := fun m ρ _ => Cert.Kernel3Ideal.Gen.frame m ρ

/-- The projection's reference runs and leaves its arguments unchanged. -/
theorem frame_ri3 : Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

theorem preserves3 : Cert.preserves_Kernel3_Kernel3Ideal := trivial

/-- The reference's result at a row and column. -/
theorem reference3_at (x0 : Cert.Reference3Ideal.S16384x1024.Idx → EReal) (x1 : Cert.Reference3Ideal.S16384x1024.Idx → EReal) (x2 : Cert.Reference3Ideal.S1024x1024.Idx → EReal)
    (a : Fin 16384) (j : Fin 1024) :
    (Cert.Reference3Ideal.Read.val_main_v3 (F := Ideal) x0 x1 x2 (ix2 a j) : EReal)
      = Cert.MixOdd.mix (fun a k => x0 (ix2 a k)) (fun a k => x1 (ix2 a k)) (fun k j => x2 (ix2 k j)) a j := by
  rw [Cert.Reference3Ideal.Read.val_main_v3_apply, Cert.Reference3Ideal.Read.val_main_v2_apply]
  refine congrArg (fun u : EReal => (x0 (ix2 a j) : EReal) + u) (Finset.sum_congr rfl fun k _ => ?_)
  have el : Cert.Reference3Ideal.Read.lidx_main_v2 (ix2 a j) k = ix2 a k := funext fun d => by
    match d with
    | ⟨0, _⟩ => rfl
    | ⟨1, _⟩ => rfl
  have er : Cert.Reference3Ideal.Read.ridx_main_v2 (ix2 a j) k = ix2 k j := funext fun d => by
    match d with
    | ⟨0, _⟩ => rfl
    | ⟨1, _⟩ => rfl
  rw [el, er]
  rfl

/-- The kernel's and the reference's residual rows agree at every place. -/
theorem algebraic3 : Cert.algebraic_Kernel3Ideal_Reference3Ideal := by
  intro m g m' g' _ hagree
  refine ⟨fun c => (Cert.Kernel3Ideal.Gen.dats m 0 c).arrAt 3 Cert.Kernel3Ideal.cfg0.N, Cert.Kernel3Ideal.Value.run_blocks (F := Ideal) m g, ?_⟩
  refine (θ_run Cert.Reference3Ideal.defs _ _).mono (fun r h c => ⟨(h c).1.trans ?_, (h c).2⟩) (Cert.Reference3Ideal.Value.run (F := Ideal) m' g')
  rw [(hagree c).1, (hagree c).2.1, (hagree c).2.2]
  refine (Cert.Reference3Ideal.Read.val_main_v3_eq _ _ _).trans (funext fun i => ?_)
  have e : i = ix2 (n0 := 16384) (n1 := 1024) ⟨(i 0).val, (i 0).isLt⟩ ⟨(i 1).val, (i 1).isLt⟩ := funext fun d => by
    match d with
    | ⟨0, _⟩ => rfl
    | ⟨1, _⟩ => rfl
  rw [e]
  exact (reference3_at _ _ _ _ _).trans (Cert.Kernel3Ideal.MixOdd.result_at m c _ _).symm

end Cert.Proof

end
-- ==== Proof.InnerSetup.lean ====
/- The launch of the inner feed-forward call: its arrays, its windows' blocks, its branch conditions and its buffers. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Ffn

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A device's buffer as launched. -/
abbrev V (c : Dev nD) (b : Ref sig .tc) : Buf (Elt F) ((c : Thread nD τ).loc b) := m ((c : Thread nD τ).loc b)

set_option maxHeartbeats 800000 in
/-- The program is the kernel's one launch. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- No operation before the launch writes an argument. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-- The block of its array that a window holds at a grid step. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Before a grid step each read window holds its block of its argument. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- A launch that keeps its read arrays leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c)))⟩) h

abbrev cond0_0 (i : grid0.Coords) : Prop := (Scalar.cmpi .ne (Scalar.extui (Scalar.cmpi .eq (BitVec.ofNat 32 (i 1).val) 0#32)) 0#32) = 1#1
/-- Every step is the first of its row of the grid. -/
theorem hcond0_0 : ∀ t : Fin cfg0.N, cond0_0 (grid0.coords t) :=
  (fun t => by
    have ht : t.val < 32 := Nat.lt_of_lt_of_eq t.isLt N_0
    have e0 : (grid0.coords t 0).val = t.val / 1 % 32 := Pipeline.Grid.coords_val t 0 (by decide) rfl
    have e1 : (grid0.coords t 1).val = t.val / 1 % 1 := Pipeline.Grid.coords_val t 1 (by decide) rfl
    simp only [cond0_0, e0, e1]
    word_cmp
   : ∀ t : Fin grid0.N, cond0_0 (grid0.coords t))

abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1
/-- Every eighth step starts a sequence. -/
theorem hcond0_1 : ∀ t : Fin cfg0.N, cond0_1 (grid0.coords t) ↔ t.val % 8 = 0 :=
  (by decide +kernel : ∀ t : Fin grid0.N, cond0_1 (grid0.coords t) ↔ t.val % 8 = 0)

abbrev cond0_2 (i : grid0.Coords) : Prop := (Scalar.cmpi .ne (Scalar.extui (Scalar.xori (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32) 1#1)) 0#32) = 1#1
/-- The other steps continue one. -/
theorem hcond0_2 : ∀ t : Fin cfg0.N, cond0_2 (grid0.coords t) ↔ ¬(t.val % 8 = 0) :=
  (by decide +kernel : ∀ t : Fin grid0.N, cond0_2 (grid0.coords t) ↔ ¬(t.val % 8 = 0))

abbrev cond0_3 (i : grid0.Coords) : Prop := k0_cond4 i = 1#1
/-- Every step is the last of its row of the grid. -/
theorem hcond0_3 : ∀ t : Fin cfg0.N, cond0_3 (grid0.coords t) :=
  (fun t => by
    have ht : t.val < 32 := Nat.lt_of_lt_of_eq t.isLt N_0
    have e0 : (grid0.coords t 0).val = t.val / 1 % 32 := Pipeline.Grid.coords_val t 0 (by decide) rfl
    have e1 : (grid0.coords t 1).val = t.val / 1 % 1 := Pipeline.Grid.coords_val t 1 (by decide) rfl
    simp only [cond0_3, k0_cond4, e0, e1]
    word_cmp
   : ∀ t : Fin grid0.N, cond0_3 (grid0.coords t))

/-- No window rests at any step. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_9 : ∀ t : Fin cfg0.N, cfg0.idle 9 (grid0.coords t) = false := fun _ => rfl

abbrev conds0_A (i : grid0.Coords) : Prop := cond0_0 i ∧ cond0_1 i ∧ ¬cond0_2 i ∧ cond0_3 i
instance conds0_A.dec (i : grid0.Coords) : Decidable (conds0_A i) :=
  @instDecidableAnd _ _ inferInstance (@instDecidableAnd _ _ inferInstance (@instDecidableAnd _ _ inferInstance inferInstance))
abbrev conds0_B (i : grid0.Coords) : Prop := cond0_0 i ∧ ¬cond0_1 i ∧ cond0_2 i ∧ cond0_3 i
instance conds0_B.dec (i : grid0.Coords) : Decidable (conds0_B i) :=
  @instDecidableAnd _ _ inferInstance (@instDecidableAnd _ _ inferInstance (@instDecidableAnd _ _ inferInstance inferInstance))
theorem liveAt0_8_A : ∀ t : Fin cfg0.N, cond0_0 (grid0.coords t) → cond0_1 (grid0.coords t) → ¬cond0_2 (grid0.coords t) → cond0_3 (grid0.coords t) → cfg0.idle 8 (grid0.coords t) = false :=
  fun t h0 h1 h2 h3 => (by decide +kernel : ∀ t : Fin cfg0.N, conds0_A (grid0.coords t) → cfg0.idle 8 (grid0.coords t) = false) t ⟨h0, h1, h2, h3⟩
theorem liveAt0_8_B : ∀ t : Fin cfg0.N, cond0_0 (grid0.coords t) → ¬cond0_1 (grid0.coords t) → cond0_2 (grid0.coords t) → cond0_3 (grid0.coords t) → cfg0.idle 8 (grid0.coords t) = false :=
  fun t h0 h1 h2 h3 => (by decide +kernel : ∀ t : Fin cfg0.N, conds0_B (grid0.coords t) → cfg0.idle 8 (grid0.coords t) = false) t ⟨h0, h1, h2, h3⟩

abbrev VO0_8 : View sig .tc .vmem S512x1024 .f32 := (Memref.whole cc0_stg8_0 : Memref sig .tc .vmem S512x1024 .f32).view
abbrev VO0_9 : View sig .tc .vmem S1x2x2816 .f32 := (Memref.whole cc0_stg9_0 : Memref sig .tc .vmem S1x2x2816 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2816 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x2816 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x2816 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2816x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x2816 .f32 := win0_9.stage (cfg0.slots t 9)
abbrev hs0_9 (t : Fin cfg0.N) : (ms0_9 t).IsWhole := hstage0_9 ((cfg0.slots t 9).cast nbuf0_9)
abbrev scM0_0 : Memref sig .tc .vmem S512x1024 .bf16 := Memref.whole cc0_scratch0
abbrev scM0_1 : Memref sig .tc .vmem S512x1024 .f32 := Memref.whole cc0_scratch1
abbrev scM0_2 : Memref sig .tc .vmem S520x2816 .f32 := Memref.whole cc0_scratch2
abbrev scM0_3 : Memref sig .tc .vmem S1x2x2816 .f32 := Memref.whole cc0_scratch3
abbrev VS0_3 : View sig .tc .vmem S1x2x2816 .f32 := scM0_3.view

/-- What the launch keeps beside its windows: the scratch arrays and the random register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel4Ideal.Ffn

end
-- ==== Proof.InnerFirst.lean ====
/- The body of the inner feed-forward call at the first block of a sequence. -/
module

public import proofs.«01_k».proof.Proof.InnerSetup

@[expose] public section

set_option maxRecDepth 16384

noncomputable section

namespace Cert.Kernel4Ideal.Ffn

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
noncomputable def kernelRun0_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x2x2816 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S520x2816 .f32) (harg14 : arg14.IsWhole) (arg15 : Memref sig .tc .vmem S1x2x2816 .f32) (harg15 : arg15.IsWhole) (hc0 : cond0_0 i) (hc1 : cond0_1 i) (hc2 : ¬cond0_2 i) (hc3 : cond0_3 i)
    (x0 : Vec F S512x1024 .f32) (x1 : Vec F S1x1024 .f32) (x2 : Vec F S1024x2816 .bf16) (x3 : Vec F S1024x2816 .bf16) (x4 : Vec F S3x2816 .f32) (x5 : Vec F S1x2x2816 .f32) (x6 : Vec F S2816x1024 .bf16) (x7 : Vec F S1x1024 .f32) :
    Σ' (L8 : List (View.Piece (Elt F) S512x1024 .f32)), Σ' (L9 : List (View.Piece (Elt F) S1x2x2816 .f32)), Σ' (LS3 : List (View.Piece (Elt F) S1x2x2816 .f32)), Σ' (LT0 : List (View.Piece (Elt F) S512x1024 .bf16)), Σ' (LT1 : List (View.Piece (Elt F) S512x1024 .f32)), { LT2 : List (View.Piece (Elt F) S520x2816 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LS3)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_ffn_eq_skeleton]; unfold cc0_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.Kernel4Ideal.Ffn

end
-- ==== Proof.InnerNext.lean ====
/- The body of the inner feed-forward call at a later block of a sequence. -/
module

public import proofs.«01_k».proof.Proof.InnerFirst

@[expose] public section

set_option maxRecDepth 16384

noncomputable section

namespace Cert.Kernel4Ideal.Ffn

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
noncomputable def kernelRun0_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x2x2816 .f32) (harg11 : arg11.IsWhole) (arg12 : Memref sig .tc .vmem S512x1024 .bf16) (harg12 : arg12.IsWhole) (arg13 : Memref sig .tc .vmem S512x1024 .f32) (harg13 : arg13.IsWhole) (arg14 : Memref sig .tc .vmem S520x2816 .f32) (harg14 : arg14.IsWhole) (arg15 : Memref sig .tc .vmem S1x2x2816 .f32) (harg15 : arg15.IsWhole) (hc0 : cond0_0 i) (hc1 : ¬cond0_1 i) (hc2 : cond0_2 i) (hc3 : cond0_3 i)
    (x0 : Vec F S512x1024 .f32) (x1 : Vec F S1x1024 .f32) (x2 : Vec F S1024x2816 .bf16) (x3 : Vec F S1024x2816 .bf16) (x4 : Vec F S3x2816 .f32) (x5 : Vec F S1x2x2816 .f32) (x6 : Vec F S2816x1024 .bf16) (x7 : Vec F S1x1024 .f32) (xs3 : Vec F S1x2x2816 .f32) :
    Σ' (L8 : List (View.Piece (Elt F) S512x1024 .f32)), Σ' (L9 : List (View.Piece (Elt F) S1x2x2816 .f32)), Σ' (LS3 : List (View.Piece (Elt F) S1x2x2816 .f32)), Σ' (LT0 : List (View.Piece (Elt F) S512x1024 .bf16)), Σ' (LT1 : List (View.Piece (Elt F) S512x1024 .f32)), { LT2 : List (View.Piece (Elt F) S520x2816 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LS3)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_ffn_eq_skeleton]; unfold cc0_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.Kernel4Ideal.Ffn

end
-- ==== Proof.InnerFrame.lean ====
/- The frame of the inner feed-forward call: what each point leaves, the carried rows between points, and the whole run. -/
module

public import proofs.«01_k».proof.Proof.InnerNext
public import Idealize.ShloMosaic.Lib.Claim

@[expose] public section

set_option maxRecDepth 16384

noncomputable section

namespace Cert.Kernel4Ideal.Ffn

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The first block's run at point `t`, on the point's own buffers and blocks. -/
def runFirst (c : Dev nD) (t : Fin cfg0.N) (h : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) ((hcond0_1 t).mpr h) (fun h' => (hcond0_2 t).mp h' h) (hcond0_3 t) (iblk m c 0 t) (iblk m c 1 t) (iblk m c 2 t) (iblk m c 3 t) (iblk m c 4 t) (iblk m c 5 t) (iblk m c 6 t) (iblk m c 7 t)

/-- A later block's run at point `t`, on the point's own buffers and blocks and the rows `xs` that the block before left. -/
def runNext (c : Dev nD) (t : Fin cfg0.N) (h : ¬t.val % 8 = 0) (xs : Vec F S1x2x2816 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) (fun h' => h ((hcond0_1 t).mp h')) ((hcond0_2 t).mpr h) (hcond0_3 t) (iblk m c 0 t) (iblk m c 1 t) (iblk m c 2 t) (iblk m c 3 t) (iblk m c 4 t) (iblk m c 5 t) (iblk m c 6 t) (iblk m c 7 t) xs

/-- The second grid coordinate takes one value, so the carried rows lie at the start of their buffer. -/
theorem off2_eq (i : grid0.Coords) : k0_off2 i = ![0, 0, 0] := by
  rw [k0_off2_eq, show (i 1).val = 0 from Nat.lt_one_iff.mp (i 1).isLt]

/-- The store of the carried rows covers their buffer. -/
theorem mem_carried (i : grid0.Coords) (hb : ∀ d : Fin 3, k0_off2 i d + S1x2x2816.size d ≤ S1x2x2816.size d) (y : S1x2x2816.Idx) :
    y ∈ (Rect.unit (s := S1x2x2816) (k0_off2 i) S1x2x2816.size hb).set := by
  have e : ∀ (o : Fin 3 → ℕ) (ho : ∀ d : Fin 3, o d + S1x2x2816.size d ≤ S1x2x2816.size d), o = ![0, 0, 0] →
      y ∈ (Rect.unit (s := S1x2x2816) o S1x2x2816.size ho).set := by
    rintro o ho rfl
    exact Rect.mem_set_unit.mpr fun d => ⟨by match d with | ⟨0, _⟩ => exact Nat.zero_le _ | ⟨1, _⟩ => exact Nat.zero_le _ | ⟨2, _⟩ => exact Nat.zero_le _,
      by match d with | ⟨0, _⟩ => exact lt_of_lt_of_eq (y 0).isLt (Nat.zero_add _).symm | ⟨1, _⟩ => exact lt_of_lt_of_eq (y 1).isLt (Nat.zero_add _).symm | ⟨2, _⟩ => exact lt_of_lt_of_eq (y 2).isLt (Nat.zero_add _).symm⟩
  exact e _ hb (off2_eq i)

theorem cover8First (c : Dev nD) (t : Fin cfg0.N) (h : t.val % 8 = 0) (y : S512x1024.Idx) : ∃ pc ∈ (runFirst m c t h).1, y ∈ pc.1.set :=
  View.cover_of_tiledL (runFirst m c t h).1 S512x1024.size (by sl_kernel_rfl) y
theorem cover9First (c : Dev nD) (t : Fin cfg0.N) (h : t.val % 8 = 0) (y : S1x2x2816.Idx) : ∃ pc ∈ (runFirst m c t h).2.1, y ∈ pc.1.set :=
  View.cover_of_tiledL (runFirst m c t h).2.1 S1x2x2816.size (by sl_kernel_rfl) y
theorem coverTailFirst (c : Dev nD) (t : Fin cfg0.N) (h : t.val % 8 = 0) (y : S1x2x2816.Idx) : ∃ pc ∈ (runFirst m c t h).2.2.1, y ∈ pc.1.set :=
  ⟨_, List.mem_singleton.mpr rfl, mem_carried (grid0.coords t) (fun d => by rw [off2_eq]; match d with | ⟨0, _⟩ => exact le_rfl | ⟨1, _⟩ => exact le_rfl | ⟨2, _⟩ => exact le_rfl) y⟩
/-- What the block leaves in the result's, the state's and the carried rows' buffer. -/
def out8First (c : Dev nD) (t : Fin cfg0.N) (h : t.val % 8 = 0) : Vec F S512x1024 .f32 := VO0_8.read (Elt F) (VO0_8.writes (Elt F) VO0_8.junk (runFirst m c t h).1)
def out9First (c : Dev nD) (t : Fin cfg0.N) (h : t.val % 8 = 0) : Vec F S1x2x2816 .f32 := VO0_9.read (Elt F) (VO0_9.writes (Elt F) VO0_9.junk (runFirst m c t h).2.1)
def tailFirst (c : Dev nD) (t : Fin cfg0.N) (h : t.val % 8 = 0) : Vec F S1x2x2816 .f32 := VS0_3.read (Elt F) (VS0_3.writes (Elt F) VS0_3.junk (runFirst m c t h).2.2.1)

theorem cover8Next (c : Dev nD) (t : Fin cfg0.N) (h : ¬t.val % 8 = 0) (xs : Vec F S1x2x2816 .f32) (y : S512x1024.Idx) : ∃ pc ∈ (runNext m c t h xs).1, y ∈ pc.1.set :=
  View.cover_of_tiledL (runNext m c t h xs).1 S512x1024.size (by sl_kernel_rfl) y
theorem cover9Next (c : Dev nD) (t : Fin cfg0.N) (h : ¬t.val % 8 = 0) (xs : Vec F S1x2x2816 .f32) (y : S1x2x2816.Idx) : ∃ pc ∈ (runNext m c t h xs).2.1, y ∈ pc.1.set :=
  View.cover_of_tiledL (runNext m c t h xs).2.1 S1x2x2816.size (by sl_kernel_rfl) y
theorem coverTailNext (c : Dev nD) (t : Fin cfg0.N) (h : ¬t.val % 8 = 0) (xs : Vec F S1x2x2816 .f32) (y : S1x2x2816.Idx) : ∃ pc ∈ (runNext m c t h xs).2.2.1, y ∈ pc.1.set :=
  ⟨_, List.mem_singleton.mpr rfl, mem_carried (grid0.coords t) (fun d => by rw [off2_eq]; match d with | ⟨0, _⟩ => exact le_rfl | ⟨1, _⟩ => exact le_rfl | ⟨2, _⟩ => exact le_rfl) y⟩
/-- What the block leaves in the result's, the state's and the carried rows' buffer. -/
def out8Next (c : Dev nD) (t : Fin cfg0.N) (h : ¬t.val % 8 = 0) (xs : Vec F S1x2x2816 .f32) : Vec F S512x1024 .f32 := VO0_8.read (Elt F) (VO0_8.writes (Elt F) VO0_8.junk (runNext m c t h xs).1)
def out9Next (c : Dev nD) (t : Fin cfg0.N) (h : ¬t.val % 8 = 0) (xs : Vec F S1x2x2816 .f32) : Vec F S1x2x2816 .f32 := VO0_9.read (Elt F) (VO0_9.writes (Elt F) VO0_9.junk (runNext m c t h xs).2.1)
def tailNext (c : Dev nD) (t : Fin cfg0.N) (h : ¬t.val % 8 = 0) (xs : Vec F S1x2x2816 .f32) : Vec F S1x2x2816 .f32 := VS0_3.read (Elt F) (VS0_3.writes (Elt F) VS0_3.junk (runNext m c t h xs).2.2.1)

/-- What the body leaves at point `t` when the carried rows were `xs`: result, state, carried rows. -/
def left (c : Dev nD) (t : Fin cfg0.N) (xs : Vec F S1x2x2816 .f32) : Vec F S512x1024 .f32 × Vec F S1x2x2816 .f32 × Vec F S1x2x2816 .f32 :=
  if h : t.val % 8 = 0 then (out8First m c t h, out9First m c t h, tailFirst m c t h)
  else (out8Next m c t h xs, out9Next m c t h xs, tailNext m c t h xs)

/-- A sequence's first block does not look at the carried rows. -/
theorem left_first (c : Dev nD) (t : Fin cfg0.N) (h : t.val % 8 = 0) (xs ys : Vec F S1x2x2816 .f32) : left m c t xs = left m c t ys :=
  by
  unfold left; rw [dif_pos h, dif_pos h]

set_option maxHeartbeats 4000000 in
/-- The body at point `t`, from the carried rows `xs`. -/
theorem run_at (c : Dev nD) (t : Fin cfg0.N) (xs : Vec F S1x2x2816 .f32) (E : Set ℕ) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, owns (c : Thread nD τ) (ms0_8 t) fullShare d) ∗ (∃ d, owns (c : Thread nD τ) (ms0_9 t) fullShare d) ∗ (∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare xs
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (left m c t xs).1 ∗ owns (c : Thread nD τ) (ms0_9 t) fullShare (left m c t xs).2.1 ∗ (∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare (left m c t xs).2.2) -∗ K ⟨⟩))
      ⊢ wp frame (wpE (defs₀ (F := F)) Variants.none c none) E (bodyAt0 t) K := by
  unfold bodyAt0
  by_cases h : t.val % 8 = 0
  · skip
    rw [show left m c t xs = (out8First m c t h, out9First m c t h, tailFirst m c t h) from dif_pos h]
    unfold out8First out9First tailFirst; dsimp only
    iintro ⟨H0, H1, H2, H3, H4, H5, H6, H7, H8, H9, HS0, HS1, HS2, HS3, Hk⟩
    iapply ((runFirst m c t h).2.2.2.2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexists _; iexact HS3
    iintro ⟨H0, H1, H2, H3, H4, H5, H6, H7, ⟨%e8, H8⟩, ⟨%e9, H9⟩, ⟨%f0, HS0⟩, ⟨%f1, HS1⟩, ⟨%f2, HS2⟩, ⟨%e3, HS3⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover8First m c t h)
    isplitl [H9]
    · unfold owns; iexists _; isplitr
      swap; · iexact H9
      ipureintro; exact View.read_writes_of_cover _ _ _ _ _ (cover9First m c t h)
    isplitl [HS0]; · iexists _; unfold owns; iexists _; isplitr; swap; · iexact HS0
                     ipureintro; rfl
    isplitl [HS1]; · iexists _; unfold owns; iexists _; isplitr; swap; · iexact HS1
                     ipureintro; rfl
    isplitl [HS2]; · iexists _; unfold owns; iexists _; isplitr; swap; · iexact HS2
                     ipureintro; rfl
    unfold owns; iexists _; isplitr
    swap; · iexact HS3
    ipureintro; exact View.read_writes_of_cover _ _ _ _ _ (coverTailFirst m c t h)
  · skip
    rw [show left m c t xs = (out8Next m c t h xs, out9Next m c t h xs, tailNext m c t h xs) from dif_neg h]
    unfold out8Next out9Next tailNext; dsimp only
    iintro ⟨H0, H1, H2, H3, H4, H5, H6, H7, H8, H9, HS0, HS1, HS2, HS3, Hk⟩
    iapply ((runNext m c t h xs).2.2.2.2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, ⟨%e8, H8⟩, ⟨%e9, H9⟩, ⟨%f0, HS0⟩, ⟨%f1, HS1⟩, ⟨%f2, HS2⟩, ⟨%e3, HS3⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover8Next m c t h xs)
    isplitl [H9]
    · unfold owns; iexists _; isplitr
      swap; · iexact H9
      ipureintro; exact View.read_writes_of_cover _ _ _ _ _ (cover9Next m c t h xs)
    isplitl [HS0]; · iexists _; unfold owns; iexists _; isplitr; swap; · iexact HS0
                     ipureintro; rfl
    isplitl [HS1]; · iexists _; unfold owns; iexists _; isplitr; swap; · iexact HS1
                     ipureintro; rfl
    isplitl [HS2]; · iexists _; unfold owns; iexists _; isplitr; swap; · iexact HS2
                     ipureintro; rfl
    unfold owns; iexists _; isplitr
    swap; · iexact HS3
    ipureintro; exact View.read_writes_of_cover _ _ _ _ _ (coverTailNext m c t h xs)

/-- What the buffers hold after the body at position `n`. -/
def outs (c : Dev nD) : (n : ℕ) → n < cfg0.N → Vec F S512x1024 .f32 × Vec F S1x2x2816 .f32 × Vec F S1x2x2816 .f32
  | 0, hn => left m c ⟨0, hn⟩ (iblk m c 5 ⟨0, hn⟩)
  | n + 1, hn => left m c ⟨n + 1, hn⟩ (outs c n (Nat.lt_of_succ_lt hn)).2.2

/-- The scratch before position `n`: anything at first, then the carried rows as the point before left them. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outs m c n hn).2.2)) ∗ (∃ r, prngReg c r))

/-- The pipeline's arrays and what the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outs m c t.val t.isLt).1 := by dsimp only [dats]
theorem after0_9 (c : Dev nD) (t : Fin cfg0.N) : (dats m 0 c).after 9 t = (outs m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- No point leaves the result's window alone. -/
theorem live8 (t : Fin cfg0.N) : cfg0.idle 8 (grid0.coords t) = false :=
  (by decide +kernel : ∀ t : Fin grid0.N, cfg0.idle 8 (grid0.coords t) = false) t

/-- The carried rows before point `t`, or anything at the first. -/
theorem Phi_open (c : Dev nD) (t : Fin cfg0.N) : (dats m 0 c).Φ t.castSucc
    ⊢ iprop(∃ xs, ⌜left m c t xs = outs m c t.val t.isLt⌝ ∗ iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare xs) ∗ (∃ r, prngReg c r)) := by
  rw [PhiS_castSucc]
  obtain ⟨n, hn⟩ := t
  cases n with
  | zero =>
    rw [show PhiS m c (⟨0, hn⟩ : Fin cfg0.N).val (Nat.le_of_lt hn) = Pipeline.ΦA spec0 c from rfl, PhiA0_eq]
    iintro ⟨⟨HS0, HS1, HS2, ⟨%xs, HS3⟩⟩, Hg⟩
    iexists xs
    isplitr
    · ipureintro; exact left_first m c _ (Nat.zero_mod _) _ _
    isplitl [HS0 HS1 HS2 HS3]
    · isplitl [HS0]; · iexact HS0
      isplitl [HS1]; · iexact HS1
      isplitl [HS2]; · iexact HS2
      iexact HS3
    iexact Hg
  | succ n =>
    show iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outs m c n (Nat.lt_of_succ_lt hn)).2.2)) ∗ (∃ r, prngReg c r)) ⊢ _
    iintro ⟨HS, Hg⟩
    iexists _
    isplitr
    swap
    · isplitl [HS]; · iexact HS
      iexact Hg
    ipureintro; rfl

/-- What the body is called with at point `t`, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point takes the windows and the carried rows to what the proof data state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7]
  rw [show (dats m 0 c).owesAt () t.succ = (dats m 0 c).owesAt () t.castSucc from rfl]
  rw [show (dats m 0 c).Φ t.succ = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outs m c t.val t.isLt).2.2)) ∗ (∃ r, prngReg c r)) from rfl]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [live8 t], after0_8]
  rw [show (dats m 0 c).leavesExact 9 t = owns (c : Thread nD τ) (ms0_9 t) fullShare ((dats m 0 c).after 9 t) from by unfold Dat.leavesExact; rw [liveAt0_9 t], after0_9]
  refine (sep_mono (Phi_open m c t) .rfl).trans ?_
  iintro ⟨⟨%xs, %hxs, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← hxs]
  iapply (run_at m c t xs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem phi_in (c : Dev nD) : Pipeline.ΦA spec0 c ⊢ (dats m 0 c).Φ 0 := by
  rw [show (dats m 0 c).Φ 0 = Pipeline.ΦA spec0 c from rfl]

theorem phi_out (c : Dev nD) : (dats m 0 c).Φ (Fin.last cfg0.N) ⊢ Pipeline.ΦA spec0 c := by
  rw [show (dats m 0 c).Φ (Fin.last cfg0.N) = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outs m c 31 (by rw [show cfg0.N = 32 from N_0]; omega)).2.2)) ∗ (∃ r, prngReg c r)) from rfl, PhiA0_eq]
  iintro ⟨⟨HS0, HS1, HS2, HS3⟩, Hg⟩
  isplitl [HS0 HS1 HS2 HS3]
  · isplitl [HS0]; · iexact HS0
    isplitl [HS1]; · iexact HS1
    isplitl [HS2]; · iexact HS2
    iexists _; iexact HS3
  iexact Hg

set_option backward.isDefEq.respectTransparency.types false in
/-- Every run ends with the windows' arrays as the proof data compute them, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The frame: every run ends, the arguments are as they were, every counter is zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel4Ideal.Ffn

end
-- ==== Proof.InnerSame.lean ====
/- The inner feed-forward program as executed and the program read over the extended reals are one program: no operation was rewritten. -/
module

public import proofs.«01_k».proof.Defs
public import proofs.«01_k».proof.Proof.Gen.Kernel4
public import proofs.«01_k».proof.Proof.InnerFrame

@[expose] public section

set_option maxRecDepth 16384

noncomputable section

namespace Cert.Proof

open Idealize.ShloMosaic Idealize.SL.Sem Idealize.ShloMosaic.Tactic

/-- The two kernels' body tables are equal. -/
theorem inner_bodies_eq : @Cert.Kernel4.defs₀ Bits _ _ = @Cert.Kernel4Ideal.defs₀ Bits _ _ := by
  unfold Cert.Kernel4.defs₀ Cert.Kernel4Ideal.defs₀
  refine congrArg Defs.onTc (funext fun l => funext fun a => ?_)
  match l, a with
  | ⟨0, _⟩, (t, s) => exact rfl

/-- So are the tables with the pipeline's own labels. -/
theorem inner_tables_eq : Cert.Kernel4.defs (F := Bits) = Cert.Kernel4Ideal.defs (F := Bits) :=
  congrArg (Pipeline.defs Cert.Kernel4.pcfgs) inner_bodies_eq

/-- The frame of the inner feed-forward call as executed. -/
theorem frame_p4 : Cert.quiescent_Kernel4 := fun m ρ _ => by
  rw [inner_tables_eq]
  exact Cert.Kernel4Ideal.Ffn.frame_run (F := Bits) m ρ

end Cert.Proof

end
-- ==== Proof.InnerBody.lean ====
/- The inner feed-forward kernel's body at one grid point, read back: the result block, and the two gate rows it leaves for the next block and as
   the state, as one function of the blocks and of the two gate rows before the block. -/
module

public import proofs.«01_k».proof.Proof.InnerFrame
public import Idealize.ShloMosaic.Lib.Pipeline.Value
public import Idealize.ShloMosaic.Lib.WholeRead

@[expose] public section

set_option maxRecDepth 16384

noncomputable section

namespace Cert.Kernel4Ideal.Ffn

open Cert.Kernel4Ideal Cert.Kernel4Ideal.Gen Idealize.ShloMosaic Idealize.ShloMosaic.TcCoe Idealize.ShloMosaic.Tactic

variable {F : FTy → Type} [FloatOps F]

/-- A load of a whole buffer reads its contents. -/
theorem read_all {κ : Kind} {sp : Space} {s : Shape} {e : EltTy} {M : Memref sig κ sp s e} (h : M.IsWhole) (X : Vec F s e)
    {off : Fin s.rank → ℕ} (ho : off = fun _ => 0) (inb : ∀ a, off a + s.size a ≤ s.size a) :
    View.readAt (Elt F) M.view (Rect.unit off s.size inb).toLoadRect (h.unread X) = X := by
  subst ho
  exact funext fun y => (Memref.IsWhole.readAt_unread h X _ y).trans (congrArg X (funext fun a => Fin.ext (by show 0 + 1 * (y a).val = (y a).val; omega)))

theorem zero2 : (![0, 0] : Fin 2 → ℕ) = fun _ => 0 := by funext d; match d with | ⟨0, _⟩ => rfl | ⟨1, _⟩ => rfl
theorem zero3 : (![0, 0, 0] : Fin 3 → ℕ) = fun _ => 0 := by funext d; match d with | ⟨0, _⟩ => rfl | ⟨1, _⟩ => rfl | ⟨2, _⟩ => rfl

/-- The gates' buffer: the block's gate rows from row 8, the two rows before them in rows 6 and 7. -/
abbrev gates (halo : FVec F S2x2816 .f32) (x0 : Vec F S512x1024 .f32) (x1 : Vec F S1x1024 .f32) (x2 : Vec F S1024x2816 .bf16) :
    List (View.Piece (Elt F) S520x2816 .f32) :=
  [⟨Rect.unit ![8, 0] S512x2816.size inb_S520x2816_S512x2816_8_0, k0_pay9 (k0_pay3 x0 x1) x2⟩,
    ⟨Rect.unit ![6, 0] S2x2816.size inb_S520x2816_S2x2816_6_0, halo⟩]

/-- The last two gate rows. -/
def tailRows (halo : FVec F S2x2816 .f32) (x0 : Vec F S512x1024 .f32) (x1 : Vec F S1x1024 .f32) (x2 : Vec F S1024x2816 .bf16) : Vec F S2x2816 .f32 :=
  fun y => View.canon (gates halo x0 x1 x2) ((Rect.unit (s := S520x2816) ![518, 0] S2x2816.size inb_S520x2816_S2x2816_518_0).toLoadRect.idx y)

/-- The gates two tokens back. -/
def back2 (halo : FVec F S2x2816 .f32) (x0 : Vec F S512x1024 .f32) (x1 : Vec F S1x1024 .f32) (x2 : Vec F S1024x2816 .bf16) : Vec F S512x2816 .f32 :=
  fun y => View.canon (gates halo x0 x1 x2) ((Rect.unit (s := S520x2816) ![6, 0] S512x2816.size inb_S520x2816_S512x2816_6_0).toLoadRect.idx y)

/-- The gates one token back. -/
def back1 (halo : FVec F S2x2816 .f32) (x0 : Vec F S512x1024 .f32) (x1 : Vec F S1x1024 .f32) (x2 : Vec F S1024x2816 .bf16) : Vec F S512x2816 .f32 :=
  fun y => View.canon (gates halo x0 x1 x2) ((Rect.unit (s := S520x2816) ![7, 0] S512x2816.size inb_S520x2816_S512x2816_7_0).toLoadRect.idx y)

/-- A row of the convolution's weights. -/
def taps (o : ℕ) (inb : ∀ a : Fin 2, (![o, 0] : Fin 2 → ℕ) a + S1x2816.size a ≤ S3x2816.size a) (x4 : Vec F S3x2816 .f32) : Vec F S1x2816 .f32 :=
  fun y => x4 ((Rect.unit (s := S3x2816) ![o, 0] S1x2816.size inb).toLoadRect.idx y)

/-- The result block. -/
def block (halo : FVec F S2x2816 .f32) (x0 : Vec F S512x1024 .f32) (x1 : Vec F S1x1024 .f32) (x2 x3 : Vec F S1024x2816 .bf16)
    (x4 : Vec F S3x2816 .f32) (x6 : Vec F S2816x1024 .bf16) : FVec F S512x1024 .f32 :=
  k0_pay2 x0 (k0_pay1 (k0_pay12 (k0_pay7 (k0_pay3 x0 x1) x2) (k0_pay8 (k0_pay3 x0 x1) x3) (back2 halo x0 x1 x2) (taps 0 inb_S3x2816_S1x2816_0_0 x4)
    (back1 halo x0 x1 x2) (taps 1 inb_S3x2816_S1x2816_1_0 x4) (taps 2 inb_S3x2816_S1x2816_2_0 x4) k0_pay4 x6))

/-- A load of what one store through the same rectangle left. -/
theorem read_last {κ : Kind} {sp : Space} {s : Shape} {e : EltTy} (v : View sig κ sp s e) {off : Fin s.rank → ℕ} (ho : off = fun _ => 0)
    (inb : ∀ a, off a + s.size a ≤ s.size a) (w : s.Idx → Elt F e) (L : List (View.Piece (Elt F) s e)) :
    v.readCov ((⟨Rect.unit off s.size inb, w⟩ : View.Piece (Elt F) s e) :: L) (Rect.unit off s.size inb).toLoadRect = w :=
  View.readCov_cons_toLoadRect v (Rect.unit off s.size inb) w L

variable (m : (ℓ : Loc nD τ sig) → Buf (Elt F) ℓ) (c : Dev nD) (t : Fin cfg0.N)

/-- The normed rows, stored and loaded again. -/
theorem normed_read : scM0_0.view.readCov [(⟨Rect.unit ![0, 0] S512x1024.size inb_S512x1024_S512x1024_0_0,
      k0_pay3 (View.readAt (Elt F) (ms0_0 t).view (Rect.unit ![0, 0] S512x1024.size inb_S512x1024_S512x1024_0_0).toLoadRect ((hs0_0 t).unread (iblk m c 0 t)))
        (View.readAt (Elt F) (ms0_1 t).view (Rect.unit ![0, 0] S1x1024.size inb_S1x1024_S1x1024_0_0).toLoadRect ((hs0_1 t).unread (iblk m c 1 t)))⟩ : View.Piece (Elt F) S512x1024 .bf16)]
      (Rect.unit ![0, 0] S512x1024.size inb_S512x1024_S512x1024_0_0).toLoadRect = k0_pay3 (iblk m c 0 t) (iblk m c 1 t) :=
  (read_last scM0_0.view zero2 _ _ _).trans (congrArg₂ k0_pay3 (read_all (hs0_0 t) _ zero2 _) (read_all (hs0_1 t) _ zero2 _))

theorem zero_read : scM0_1.view.readCov [(⟨Rect.unit ![0, 0] S512x1024.size inb_S512x1024_S512x1024_0_0, k0_pay4⟩ : View.Piece (Elt F) S512x1024 .f32)]
      (Rect.unit ![0, 0] S512x1024.size inb_S512x1024_S512x1024_0_0).toLoadRect = k0_pay4 (F := F) :=
  read_last scM0_1.view zero2 _ _ _

theorem back2_read (halo : FVec F S2x2816 .f32) (x0 : Vec F S512x1024 .f32) (x1 : Vec F S1x1024 .f32) (x2 : Vec F S1024x2816 .bf16) :
    scM0_2.view.readCov (gates halo x0 x1 x2) (Rect.unit (s := S520x2816) ![6, 0] S512x2816.size inb_S520x2816_S512x2816_6_0).toLoadRect = back2 halo x0 x1 x2 :=
  View.readCov_eq_canon' _ _ _

theorem back1_read (halo : FVec F S2x2816 .f32) (x0 : Vec F S512x1024 .f32) (x1 : Vec F S1x1024 .f32) (x2 : Vec F S1024x2816 .bf16) :
    scM0_2.view.readCov (gates halo x0 x1 x2) (Rect.unit (s := S520x2816) ![7, 0] S512x2816.size inb_S520x2816_S512x2816_7_0).toLoadRect = back1 halo x0 x1 x2 :=
  View.readCov_eq_canon' _ _ _

theorem tail_read (halo : FVec F S2x2816 .f32) (x0 : Vec F S512x1024 .f32) (x1 : Vec F S1x1024 .f32) (x2 : Vec F S1024x2816 .bf16) :
    scM0_2.view.readCov (gates halo x0 x1 x2) (Rect.unit (s := S520x2816) ![518, 0] S2x2816.size inb_S520x2816_S2x2816_518_0).toLoadRect = tailRows halo x0 x1 x2 :=
  View.readCov_eq_canon' _ _ _

theorem taps_read (o : ℕ) (inb : ∀ a : Fin 2, (![o, 0] : Fin 2 → ℕ) a + S1x2816.size a ≤ S3x2816.size a) :
    View.readAt (Elt F) (ms0_4 t).view (Rect.unit (s := S3x2816) ![o, 0] S1x2816.size inb).toLoadRect ((hs0_4 t).unread (iblk m c 4 t)) = taps o inb (iblk m c 4 t) :=
  funext fun y => Memref.IsWhole.readAt_unread (hs0_4 t) _ _ y

/-- The carried rows lie at the start of their buffer. -/
theorem off1_eq (i : grid0.Coords) : k0_off1 i = ![0, 0, 0] := by
  rw [k0_off1_eq, show (i 1).val = 0 from Nat.lt_one_iff.mp (i 1).isLt]

theorem carried_read (xs : Vec F S1x2x2816 .f32) {off : Fin 3 → ℕ} (ho : off = ![0, 0, 0]) (inb : ∀ a : Fin 3, off a + S1x2x2816.size a ≤ S1x2x2816.size a) :
    View.readAt (Elt F) scM0_3.view (Rect.unit (s := S1x2x2816) off S1x2x2816.size inb).toLoadRect
      ((Memref.isWhole_whole _ : (scM0_3).IsWhole).unread xs) = xs :=
  read_all _ xs (ho.trans zero3) inb

/-- A sequence's first block takes the two rows before it from the argument. -/
theorem out8First_eq (h : t.val % 8 = 0) :
    out8First m c t h = block (k0_pay5 (iblk m c 5 t)) (iblk m c 0 t) (iblk m c 1 t) (iblk m c 2 t) (iblk m c 3 t) (iblk m c 4 t) (iblk m c 6 t) := by
  unfold out8First
  rw [View.read_writes_junk_eq_canon]
  unfold runFirst kernelRun0_A
  dsimp only
  rw [View.canon_unit_zero zero2]
  sl_unfold_run_names
  refine congrArg₂ k0_pay2 (read_all (hs0_0 t) _ zero2 _) ((read_last scM0_1.view zero2 _ _ _).trans (congrArg k0_pay1 ?_))
  rw [normed_read, read_all (hs0_5 t) _ zero3, read_all (hs0_2 t) _ zero2, read_all (hs0_3 t) _ zero2, read_all (hs0_6 t) _ zero2, zero_read,
    back2_read, back1_read, taps_read, taps_read, taps_read]

/-- A later block takes them from what the block before left. -/
theorem out8Next_eq (h : ¬t.val % 8 = 0) (xs : Vec F S1x2x2816 .f32) :
    out8Next m c t h xs = block (k0_pay6 xs) (iblk m c 0 t) (iblk m c 1 t) (iblk m c 2 t) (iblk m c 3 t) (iblk m c 4 t) (iblk m c 6 t) := by
  unfold out8Next
  rw [View.read_writes_junk_eq_canon]
  unfold runNext kernelRun0_B
  dsimp only
  rw [View.canon_unit_zero zero2]
  sl_unfold_run_names
  refine congrArg₂ k0_pay2 (read_all (hs0_0 t) _ zero2 _) ((read_last scM0_1.view zero2 _ _ _).trans (congrArg k0_pay1 ?_))
  rw [normed_read, carried_read xs (off1_eq _), read_all (hs0_2 t) _ zero2, read_all (hs0_3 t) _ zero2, read_all (hs0_6 t) _ zero2, zero_read,
    back2_read, back1_read, taps_read, taps_read, taps_read]

/-- The two rows a first block leaves as the state and for the next block. -/
theorem out9First_eq (h : t.val % 8 = 0) : out9First m c t h = k0_pay11 (tailRows (k0_pay5 (iblk m c 5 t)) (iblk m c 0 t) (iblk m c 1 t) (iblk m c 2 t)) := by
  unfold out9First
  rw [View.read_writes_junk_eq_canon]
  unfold runFirst kernelRun0_A
  dsimp only
  rw [View.canon_unit_zero zero3]
  sl_unfold_run_names
  rw [normed_read, read_all (hs0_5 t) _ zero3, read_all (hs0_2 t) _ zero2, tail_read]

theorem tailFirst_eq (h : t.val % 8 = 0) : tailFirst m c t h = k0_pay10 (tailRows (k0_pay5 (iblk m c 5 t)) (iblk m c 0 t) (iblk m c 1 t) (iblk m c 2 t)) := by
  unfold tailFirst
  rw [View.read_writes_junk_eq_canon]
  unfold runFirst kernelRun0_A
  dsimp only
  rw [View.canon_unit_zero ((off2_eq _).trans zero3)]
  sl_unfold_run_names
  rw [normed_read, read_all (hs0_5 t) _ zero3, read_all (hs0_2 t) _ zero2, tail_read]

/-- The two rows a later block leaves as the state and for the next block. -/
theorem out9Next_eq (h : ¬t.val % 8 = 0) (xs : Vec F S1x2x2816 .f32) :
    out9Next m c t h xs = k0_pay11 (tailRows (k0_pay6 xs) (iblk m c 0 t) (iblk m c 1 t) (iblk m c 2 t)) := by
  unfold out9Next
  rw [View.read_writes_junk_eq_canon]
  unfold runNext kernelRun0_B
  dsimp only
  rw [View.canon_unit_zero zero3]
  sl_unfold_run_names
  rw [normed_read, carried_read xs (off1_eq _), read_all (hs0_2 t) _ zero2, tail_read]

theorem tailNext_eq (h : ¬t.val % 8 = 0) (xs : Vec F S1x2x2816 .f32) :
    tailNext m c t h xs = k0_pay10 (tailRows (k0_pay6 xs) (iblk m c 0 t) (iblk m c 1 t) (iblk m c 2 t)) := by
  unfold tailNext
  rw [View.read_writes_junk_eq_canon]
  unfold runNext kernelRun0_B
  dsimp only
  rw [View.canon_unit_zero ((off2_eq _).trans zero3)]
  sl_unfold_run_names
  rw [normed_read, carried_read xs (off1_eq _), read_all (hs0_2 t) _ zero2, tail_read]

end Cert.Kernel4Ideal.Ffn

end
-- ==== Proof.InnerValue.lean ====
/- The inner feed-forward kernel's block over the extended reals, row by row. -/
module

public import proofs.«01_k».proof.Proof.InnerBody
public import proofs.«01_k».proof.Proof.Ffn
public import Idealize.ShloMosaic.Lib.Pointwise

@[expose] public section

set_option maxRecDepth 16384

noncomputable section

namespace Cert.Kernel4Ideal.Ffn

open Cert Cert.Kernel4Ideal Cert.Kernel4Ideal.Gen Idealize.ShloMosaic Idealize.ShloMosaic.TcCoe Idealize.ShloMosaic.Tactic

theorem ofBits_half : Ideal.ofBits .f32 0x3F000000#32 = ((2⁻¹ : ℝ) : EReal) := by
  simp [Ideal.ofBits, Ideal.ieee]
  rw [← EReal.coe_mul]; norm_num

/-- The weights a point's blocks hold. -/
def wts (x1 : Vec Ideal S1x1024 .f32) (x2 x3 : Vec Ideal S1024x2816 .bf16) (x4 : Vec Ideal S3x2816 .f32) (x6 : Vec Ideal S2816x1024 .bf16)
    (x7 : Vec Ideal S1x1024 .f32) : Ffn.Weights :=
  ⟨fun k => x1 (ix2 0 k), fun k j => x2 (ix2 k j), fun k j => x3 (ix2 k j), fun i j => x4 (ix2 i j), fun k j => x6 (ix2 k j), fun k => x7 (ix2 0 k)⟩

/-- A block's rows by their number. -/
def rows (x0 : Vec Ideal S512x1024 .f32) (n : ℕ) (k : Fin 1024) : EReal := x0 (ix2 (Fin.ofNat 512 n) k)

/-- The two earlier gate rows by their number. -/
def prevs (halo : FVec Ideal S2x2816 .f32) (n : ℕ) (j : Fin 2816) : EReal := halo (ix2 (Fin.ofNat 2 n) j)

theorem rows_val (x0 : Vec Ideal S512x1024 .f32) (r : Fin 512) : rows x0 r.val = fun k => x0 (ix2 r k) := by
  unfold rows; rw [Fin.ofNat_val_eq_self]

variable (halo : FVec Ideal S2x2816 .f32) (x0 : Vec Ideal S512x1024 .f32) (x1 : Vec Ideal S1x1024 .f32) (x2 x3 : Vec Ideal S1024x2816 .bf16)
  (x4 : Vec Ideal S3x2816 .f32) (x6 : Vec Ideal S2816x1024 .bf16) (x7 : Vec Ideal S1x1024 .f32)

/-- The normed rows. -/
theorem pay3_at (r : Fin 512) (k : Fin 1024) : k0_pay3 x0 x1 (ix2 r k) = Ffn.norm (fun k => x0 (ix2 r k)) (fun k => x1 (ix2 0 k)) k := by
  pointwise [k0_pay3]
  rfl

/-- The gates of the block's rows. -/
theorem pay7_at (r : Fin 512) (j : Fin 2816) :
    k0_pay7 (k0_pay3 x0 x1) x2 (ix2 r j) = Ffn.gate (wts x1 x2 x3 x4 x6 x7) (fun k => x0 (ix2 r k)) j := by
  unfold Ffn.gate wts
  simp only [← pay3_at x0 x1]
  pointwise [k0_pay7]

theorem pay9_at (r : Fin 512) (j : Fin 2816) :
    k0_pay9 (k0_pay3 x0 x1) x2 (ix2 r j) = Ffn.gate (wts x1 x2 x3 x4 x6 x7) (fun k => x0 (ix2 r k)) j := by
  rw [← pay7_at]
  pointwise [k0_pay9]

/-- The values of the block's rows. -/
theorem pay8_at (r : Fin 512) (j : Fin 2816) :
    k0_pay8 (k0_pay3 x0 x1) x3 (ix2 r j) = Ffn.value (wts x1 x2 x3 x4 x6 x7) (fun k => x0 (ix2 r k)) j := by
  unfold Ffn.value wts
  simp only [← pay3_at x0 x1]
  pointwise [k0_pay8]

/-- The sum of the output's products onto what was there. -/
theorem pay12_at (v21 v23 : FVec Ideal S512x2816 .f32) (v35 : Vec Ideal S512x2816 .f32) (v36 : Vec Ideal S1x2816 .f32) (v39 : Vec Ideal S512x2816 .f32)
    (v40 v44 : Vec Ideal S1x2816 .f32) (v57 : Vec Ideal S512x1024 .f32) (r : Fin 512) (j : Fin 1024) :
    k0_pay12 v21 v23 v35 v36 v39 v40 v44 v57 x6 (ix2 r j) = v57 (ix2 r j) + ∑ k : Fin 2816,
      Ffn.silu (v35 (ix2 r k) * v36 (ix2 0 k) + v39 (ix2 r k) * v40 (ix2 0 k) + v21 (ix2 r k) * v44 (ix2 0 k)) * v23 (ix2 r k) * x6 (ix2 k j) := by
  simp only [← Ffn.silu_eq]
  pointwise [k0_pay12, ofBits_half]

/-- The residual sum. -/
theorem pay2_at (a b : Vec Ideal S512x1024 .f32) (r : Fin 512) (j : Fin 1024) :
    k0_pay2 a b (ix2 r j) = (a (ix2 r j) + b (ix2 r j) : EReal) := by
  pointwise [k0_pay2]

theorem pay1_at (a : FVec Ideal S512x1024 .f32) (r : Fin 512) (j : Fin 1024) : k0_pay1 a (ix2 r j) = a (ix2 r j) := by
  pointwise [k0_pay1]

theorem pay4_at (r : Fin 512) (j : Fin 1024) : k0_pay4 (F := Ideal) (ix2 r j) = (0 : EReal) := by
  pointwise [k0_pay4]

theorem pay5_at (v : Vec Ideal S1x2x2816 .f32) (r : Fin 2) (j : Fin 2816) : k0_pay5 v (ix2 r j) = v (ix3 0 r j) := by
  pointwise [k0_pay5]

theorem pay6_at (v : Vec Ideal S1x2x2816 .f32) (r : Fin 2) (j : Fin 2816) : k0_pay6 v (ix2 r j) = v (ix3 0 r j) := by
  pointwise [k0_pay6]

theorem pay10_at (v : Vec Ideal S2x2816 .f32) (r : Fin 2) (j : Fin 2816) : k0_pay10 v (ix3 0 r j) = v (ix2 r j) := by
  pointwise [k0_pay10]

theorem pay11_at (v : Vec Ideal S2x2816 .f32) (r : Fin 2) (j : Fin 2816) : k0_pay11 v (ix3 0 r j) = v (ix2 r j) := by
  pointwise [k0_pay11]

/-- The gates' buffer holds, from row 6, the two earlier gate rows and then the gates of the block's rows. -/
theorem gates_at (p : ℕ) (hp : p < 514) (j : Fin 2816) :
    View.canon (gates halo x0 x1 x2) (ix2 (⟨6 + p, by omega⟩ : Fin 520) j) = Ffn.history (wts x1 x2 x3 x4 x6 x7) (rows x0) (prevs halo) p j := by
  unfold Ffn.history
  split_ifs with h
  · have e : (ix2 (⟨6 + p, by omega⟩ : Fin 520) j : S520x2816.Idx) = (Rect.unit (s := S520x2816) ![6, 0] S2x2816.size inb_S520x2816_S2x2816_6_0).emb (ix2 (⟨p, h⟩ : Fin 2) j) := by
      funext d
      match d with
      | ⟨0, _⟩ => exact Fin.ext (by show 6 + p = 6 + 1 * p; omega)
      | ⟨1, _⟩ => exact Fin.ext (by show j.val = 0 + 1 * j.val; omega)
    unfold gates
    rw [View.canon_cons_of_not_mem, e, View.canon_cons_emb]
    · unfold prevs
      refine congrArg halo (congrArg (fun a => ix2 a j) (Fin.ext ?_))
      exact (Nat.mod_eq_of_lt h).symm
    · intro hm
      have : 8 ≤ 6 + p := ((Rect.mem_set_unit (inb := inb_S520x2816_S512x2816_8_0)).mp hm (0 : Fin 2)).1
      omega
  · have e : (ix2 (⟨6 + p, by omega⟩ : Fin 520) j : S520x2816.Idx) = (Rect.unit (s := S520x2816) ![8, 0] S512x2816.size inb_S520x2816_S512x2816_8_0).emb (ix2 (⟨p - 2, by omega⟩ : Fin 512) j) := by
      funext d
      match d with
      | ⟨0, _⟩ => exact Fin.ext (by show 6 + p = 8 + 1 * (p - 2); omega)
      | ⟨1, _⟩ => exact Fin.ext (by show j.val = 0 + 1 * j.val; omega)
    unfold gates
    rw [e, View.canon_cons_emb, pay9_at x0 x1 x2 x3 x4 x6 x7]
    exact congrArg (fun a => Ffn.gate _ a j) (rows_val x0 ⟨p - 2, by omega⟩).symm

theorem back2_at (r : Fin 512) (j : Fin 2816) :
    back2 halo x0 x1 x2 (ix2 r j) = Ffn.history (wts x1 x2 x3 x4 x6 x7) (rows x0) (prevs halo) r.val j := by
  rw [← gates_at halo x0 x1 x2 x3 x4 x6 x7 r.val (by omega)]
  refine congrArg (View.canon (gates halo x0 x1 x2)) (funext fun d => ?_)
  match d with
  | ⟨0, _⟩ => exact Fin.ext (by show 6 + 1 * r.val = 6 + r.val; omega)
  | ⟨1, _⟩ => exact Fin.ext (by show 0 + 1 * j.val = j.val; omega)

theorem back1_at (r : Fin 512) (j : Fin 2816) :
    back1 halo x0 x1 x2 (ix2 r j) = Ffn.history (wts x1 x2 x3 x4 x6 x7) (rows x0) (prevs halo) (r.val + 1) j := by
  rw [← gates_at halo x0 x1 x2 x3 x4 x6 x7 (r.val + 1) (by omega)]
  refine congrArg (View.canon (gates halo x0 x1 x2)) (funext fun d => ?_)
  match d with
  | ⟨0, _⟩ => exact Fin.ext (by show 7 + 1 * r.val = 6 + (r.val + 1); omega)
  | ⟨1, _⟩ => exact Fin.ext (by show 0 + 1 * j.val = j.val; omega)

/-- The last two gate rows of a block. -/
theorem tailRows_at (i : Fin 2) (j : Fin 2816) :
    tailRows halo x0 x1 x2 (ix2 i j) = Ffn.history (wts x1 x2 x3 x4 x6 x7) (rows x0) (prevs halo) (512 + i.val) j := by
  rw [← gates_at halo x0 x1 x2 x3 x4 x6 x7 (512 + i.val) (by omega)]
  refine congrArg (View.canon (gates halo x0 x1 x2)) (funext fun d => ?_)
  match d with
  | ⟨0, _⟩ => exact Fin.ext (by show 518 + 1 * i.val = 6 + (512 + i.val); omega)
  | ⟨1, _⟩ => exact Fin.ext (by show 0 + 1 * j.val = j.val; omega)

theorem taps_at (o : ℕ) (ho : o < 3) (inb : ∀ a : Fin 2, (![o, 0] : Fin 2 → ℕ) a + S1x2816.size a ≤ S3x2816.size a) (j : Fin 2816) :
    taps o inb x4 (ix2 0 j) = x4 (ix2 ⟨o, ho⟩ j) := by
  refine congrArg x4 (funext fun d => ?_)
  match d with
  | ⟨0, _⟩ => exact Fin.ext (by show o + 1 * 0 = o; omega)
  | ⟨1, _⟩ => exact Fin.ext (by show 0 + 1 * j.val = j.val; omega)

/-- A row of the result block is the layer's result for the row, given the two gates before it. -/
theorem block_at (r : Fin 512) (j : Fin 1024) :
    block halo x0 x1 x2 x3 x4 x6 (ix2 r j) = Ffn.mixed (wts x1 x2 x3 x4 x6 x7) (fun k => x0 (ix2 r k))
      (Ffn.history (wts x1 x2 x3 x4 x6 x7) (rows x0) (prevs halo) r.val) (Ffn.history (wts x1 x2 x3 x4 x6 x7) (rows x0) (prevs halo) (r.val + 1)) j := by
  unfold block
  rw [pay2_at, pay1_at, pay12_at, pay4_at, zero_add]
  unfold Ffn.mixed
  refine congrArg (fun a => (x0 (ix2 r j) : EReal) + a) (Finset.sum_congr rfl fun l _ => ?_)
  rw [back2_at halo x0 x1 x2 x3 x4 x6 x7, back1_at halo x0 x1 x2 x3 x4 x6 x7, pay7_at x0 x1 x2 x3 x4 x6 x7, pay8_at x0 x1 x2 x3 x4 x6 x7,
    taps_at x4 0 (by omega), taps_at x4 1 (by omega), taps_at x4 2 (by omega)]
  rfl

end Cert.Kernel4Ideal.Ffn

end
-- ==== Proof.InnerResult.lean ====
/- The inner feed-forward call's two result arrays, element by element. -/
module

public import proofs.«01_k».proof.Proof.InnerValue

@[expose] public section

set_option maxRecDepth 16384

noncomputable section

namespace Cert.Kernel4Ideal.Ffn

open Cert Cert.Kernel4Ideal Cert.Kernel4Ideal.Gen Idealize.ShloMosaic Idealize.ShloMosaic.TcCoe Idealize.ShloMosaic.Tactic Idealize.SL.Sem

/-- The grid is 32 blocks of 512 tokens, eight to a sequence; where each window's block sits. -/
theorem index_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 8 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 3) = t.val ∧ win0_9.index t (1 : Fin 3) = 0 ∧ win0_9.index t (2 : Fin 3) = 0) :=
  (by decide +kernel : ∀ t : Fin grid0.N, _)

section Run

variable {F : FTy → Type} [FloatOps F] (m : (ℓ : Loc nD τ sig) → Buf (Elt F) ℓ) (ρ : Dev nD → PrngReg) (c : Dev nD)

/-- Distinct points write distinct blocks of the result. -/
theorem apart8 (t t' : Fin cfg0.N) (hne : t ≠ t') : Disjoint ((cfg0.win 8).blk t).view.set ((cfg0.win 8).blk t').view.set :=
  (cfg0.win 8).disjoint_blk fun h => hne (Fin.ext (by
    have := congrFun h (0 : Fin 2)
    have e : win0_8.index t (0 : Fin 2) = win0_8.index t' (0 : Fin 2) := this
    rwa [(index_at t).2.2.2.2.2.2.2.2.1.1, (index_at t').2.2.2.2.2.2.2.2.1.1] at e))

/-- Distinct points write distinct blocks of the state. -/
theorem apart9 (t t' : Fin cfg0.N) (hne : t ≠ t') : Disjoint ((cfg0.win 9).blk t).view.set ((cfg0.win 9).blk t').view.set :=
  (cfg0.win 9).disjoint_blk fun h => hne (Fin.ext (by
    have := congrFun h (0 : Fin 3)
    have e : win0_9.index t (0 : Fin 3) = win0_9.index t' (0 : Fin 3) := this
    rwa [(index_at t).2.2.2.2.2.2.2.2.2.1, (index_at t').2.2.2.2.2.2.2.2.2.1] at e))

/-- The result's block at a point is what the point's body left. -/
theorem result_block (t : Fin cfg0.N) (r : Fin 512) (k : Fin 1024) (a : Fin 16384) (ha : a.val = t.val * 512 + r.val) :
    (dats m 0 c).arrAt 8 cfg0.N (ix2 a k : S16384x1024.Idx) = (outs m c t.val t.isLt).1 (ix2 r k) := by
  obtain ⟨h0, h1⟩ := (index_at t).2.2.2.2.2.2.2.2.1
  have hb := congrFun ((dats m 0 c).read_blk_arrAt_eq_flushed 8 (fun t t' _ _ h => apart8 t t' h) cfg0.N t t.isLt (flush0_8 t)) (ix2 r k : S512x1024.Idx)
  rw [show (dats m 0 c).flushed 8 t = (cfg0.win 8).cut (grid0.coords t) ((outs m c t.val t.isLt).1) from by
    show (cfg0.win 8).cut (grid0.coords t) ((dats m 0 c).after 8 t) = _
    rw [after0_8]] at hb
  refine Eq.trans (congrArg ((dats m 0 c).arrAt 8 cfg0.N) (funext fun d => ?_)) hb
  match d with
  | ⟨0, _⟩ => exact Fin.ext (by show a.val = win0_8.index t (0 : Fin 2) * 512 + 1 * r.val; rw [h0]; omega)
  | ⟨1, _⟩ => exact Fin.ext (by show k.val = win0_8.index t (1 : Fin 2) * 1024 + 1 * k.val; rw [h1]; omega)

/-- The state's block at a point is what the point's body left. -/
theorem state_block (t : Fin cfg0.N) (i : Fin 2) (k : Fin 2816) (a : Fin 32) (ha : a.val = t.val) :
    (dats m 0 c).arrAt 9 cfg0.N (ix3 a i k : S32x2x2816.Idx) = (outs m c t.val t.isLt).2.1 (ix3 0 i k) := by
  obtain ⟨h0, h1, h2⟩ := (index_at t).2.2.2.2.2.2.2.2.2
  have hb := congrFun ((dats m 0 c).read_blk_arrAt_eq_flushed 9 (fun t t' _ _ h => apart9 t t' h) cfg0.N t t.isLt (flush0_9 t)) (ix3 0 i k : S1x2x2816.Idx)
  rw [show (dats m 0 c).flushed 9 t = (cfg0.win 9).cut (grid0.coords t) ((outs m c t.val t.isLt).2.1) from by
    show (cfg0.win 9).cut (grid0.coords t) ((dats m 0 c).after 9 t) = _
    rw [after0_9]] at hb
  refine Eq.trans (congrArg ((dats m 0 c).arrAt 9 cfg0.N) (funext fun d => ?_)) hb
  match d with
  | ⟨0, _⟩ => exact Fin.ext (by show a.val = win0_9.index t (0 : Fin 3) * 1 + 1 * 0; rw [h0]; omega)
  | ⟨1, _⟩ => exact Fin.ext (by show i.val = win0_9.index t (1 : Fin 3) * 2 + 1 * i.val; rw [h1]; omega)
  | ⟨2, _⟩ => exact Fin.ext (by show k.val = win0_9.index t (2 : Fin 3) * 2816 + 1 * k.val; rw [h2]; omega)

/-- Every run ends with the two results at these arrays and the arguments as they were. -/
theorem run_arrays : θ_run defs (onTc (τ := τ) (main (F := F))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h.1.1 c).1 8, (h.1.1 c).1 9, h.2.1 c⟩)
    (θ_run_and (run_quiescent m ρ) (frame_run m ρ))

end Run

variable (m : (ℓ : Loc nD τ sig) → Buf (Elt Ideal) ℓ) (c : Dev nD)

/-- The layer's weights as launched. -/
def W : Ffn.Weights where
  g k := m ((c : Thread nD τ).loc main_arg1) (ix2 0 k : S1x1024.Idx)
  wg k j := m ((c : Thread nD τ).loc main_arg2) (ix2 k j : S1024x2816.Idx)
  wu k j := m ((c : Thread nD τ).loc main_arg3) (ix2 k j : S1024x2816.Idx)
  cw i j := m ((c : Thread nD τ).loc main_arg4) (ix2 i j : S3x2816.Idx)
  wd k j := m ((c : Thread nD τ).loc main_arg6) (ix2 k j : S2816x1024.Idx)
  gf k := m ((c : Thread nD τ).loc main_arg7) (ix2 0 k : S1x1024.Idx)

/-- A sequence's rows by their position. -/
def seq (b : ℕ) (n : ℕ) (k : Fin 1024) : EReal := m ((c : Thread nD τ).loc main_arg0) (ix2 (Fin.ofNat 16384 (b * 4096 + n)) k : S16384x1024.Idx)

/-- A sequence's two earlier gate rows. -/
def before (b : ℕ) (n : ℕ) (j : Fin 2816) : EReal := m ((c : Thread nD τ).loc main_arg5) (ix3 (Fin.ofNat 4 b) (Fin.ofNat 2 n) j : S4x2x2816.Idx)

/-- The gate rows of a sequence, the two earlier ones first. -/
abbrev hist (b : ℕ) (p : ℕ) : Fin 2816 → EReal := Ffn.history (W m c) (seq m c b) (before m c b) p

theorem block_rows (t : Fin cfg0.N) (n : ℕ) (hn : n < 512) : rows (iblk m c 0 t) n = seq m c (t.val / 8) (t.val % 8 * 512 + n) := funext fun k => by
  obtain ⟨h0, h1⟩ := (index_at t).1
  have ht : t.val < 32 := t.isLt
  unfold rows
  show V m c main_arg0 _ = _
  rw [V_main_arg0]
  refine congrArg _ (funext fun d => ?_)
  match d with
  | ⟨0, _⟩ => exact Fin.ext (by
      show win0_0.index t (0 : Fin 2) * 512 + 1 * (n % 512) = (t.val / 8 * 4096 + (t.val % 8 * 512 + n)) % 16384
      rw [h0]; omega)
  | ⟨1, _⟩ => exact Fin.ext (by show win0_0.index t (1 : Fin 2) * 1024 + 1 * k.val = k.val; rw [h1]; omega)

theorem block_prev (t : Fin cfg0.N) (i : Fin 2) (j : Fin 2816) : (iblk m c 5 t (ix3 0 i j : S1x2x2816.Idx) : EReal) = before m c (t.val / 8) i.val j := by
  obtain ⟨h0, h1, h2⟩ := (index_at t).2.2.2.2.2.1
  have ht : t.val < 32 := t.isLt
  show V m c main_arg5 _ = _
  rw [V_main_arg5]
  refine congrArg _ (funext fun d => ?_)
  match d with
  | ⟨0, _⟩ => exact Fin.ext (by show win0_5.index t (0 : Fin 3) * 1 + 1 * 0 = t.val / 8 % 4; rw [h0]; omega)
  | ⟨1, _⟩ => exact Fin.ext (by show win0_5.index t (1 : Fin 3) * 2 + 1 * i.val = i.val % 2; rw [h1]; omega)
  | ⟨2, _⟩ => exact Fin.ext (by show win0_5.index t (2 : Fin 3) * 2816 + 1 * j.val = j.val; rw [h2]; omega)

/-- Every point reads the same weights. -/
theorem block_wts (t : Fin cfg0.N) : wts (iblk m c 1 t) (iblk m c 2 t) (iblk m c 3 t) (iblk m c 4 t) (iblk m c 6 t) (iblk m c 7 t) = W m c := by
  obtain ⟨_, ⟨a0, a1⟩, ⟨b0, b1⟩, ⟨c0, c1⟩, ⟨d0, d1⟩, _, ⟨e0, e1⟩, ⟨f0, f1⟩, _⟩ := index_at t
  unfold wts W
  congr 1
  · funext k
    show V m c main_arg1 _ = _
    rw [V_main_arg1]
    refine congrArg _ (funext fun d => ?_)
    match d with
    | ⟨0, _⟩ => exact Fin.ext (by show win0_1.index t (0 : Fin 2) * 1 + 1 * 0 = 0; rw [a0])
    | ⟨1, _⟩ => exact Fin.ext (by show win0_1.index t (1 : Fin 2) * 1024 + 1 * k.val = k.val; rw [a1]; omega)
  · funext k j
    show V m c main_arg2 _ = _
    rw [V_main_arg2]
    refine congrArg _ (funext fun d => ?_)
    match d with
    | ⟨0, _⟩ => exact Fin.ext (by show win0_2.index t (0 : Fin 2) * 1024 + 1 * k.val = k.val; rw [b0]; omega)
    | ⟨1, _⟩ => exact Fin.ext (by show win0_2.index t (1 : Fin 2) * 2816 + 1 * j.val = j.val; rw [b1]; omega)
  · funext k j
    show V m c main_arg3 _ = _
    rw [V_main_arg3]
    refine congrArg _ (funext fun d => ?_)
    match d with
    | ⟨0, _⟩ => exact Fin.ext (by show win0_3.index t (0 : Fin 2) * 1024 + 1 * k.val = k.val; rw [c0]; omega)
    | ⟨1, _⟩ => exact Fin.ext (by show win0_3.index t (1 : Fin 2) * 2816 + 1 * j.val = j.val; rw [c1]; omega)
  · funext k j
    show V m c main_arg4 _ = _
    rw [V_main_arg4]
    refine congrArg _ (funext fun d => ?_)
    match d with
    | ⟨0, _⟩ => exact Fin.ext (by show win0_4.index t (0 : Fin 2) * 3 + 1 * k.val = k.val; rw [d0]; omega)
    | ⟨1, _⟩ => exact Fin.ext (by show win0_4.index t (1 : Fin 2) * 2816 + 1 * j.val = j.val; rw [d1]; omega)
  · funext k j
    show V m c main_arg6 _ = _
    rw [V_main_arg6]
    refine congrArg _ (funext fun d => ?_)
    match d with
    | ⟨0, _⟩ => exact Fin.ext (by show win0_6.index t (0 : Fin 2) * 2816 + 1 * k.val = k.val; rw [e0]; omega)
    | ⟨1, _⟩ => exact Fin.ext (by show win0_6.index t (1 : Fin 2) * 1024 + 1 * j.val = j.val; rw [e1]; omega)
  · funext k
    show V m c main_arg7 _ = _
    rw [V_main_arg7]
    refine congrArg _ (funext fun d => ?_)
    match d with
    | ⟨0, _⟩ => exact Fin.ext (by show win0_7.index t (0 : Fin 2) * 1 + 1 * 0 = 0; rw [f0])
    | ⟨1, _⟩ => exact Fin.ext (by show win0_7.index t (1 : Fin 2) * 1024 + 1 * k.val = k.val; rw [f1]; omega)

/-- A block's gate rows are the sequence's, when the two rows before it are. -/
theorem hist_block (t : Fin cfg0.N) (halo : FVec Ideal S2x2816 .f32)
    (hh : ∀ (i : Fin 2) (j : Fin 2816), (halo (ix2 i j) : EReal) = hist m c (t.val / 8) (t.val % 8 * 512 + i.val) j) (p : ℕ) (hp : p < 514) :
    Ffn.history (W m c) (rows (iblk m c 0 t)) (prevs halo) p = hist m c (t.val / 8) (t.val % 8 * 512 + p) := by
  by_cases h : p < 2
  · rw [Ffn.history, if_pos h]
    funext j
    refine (hh (Fin.ofNat 2 p) j).trans ?_
    show hist m c (t.val / 8) (t.val % 8 * 512 + p % 2) j = _
    rw [Nat.mod_eq_of_lt h]
  · rw [Ffn.history, if_neg h, hist, Ffn.history, if_neg (by omega), block_rows m c t (p - 2) (by omega),
      show t.val % 8 * 512 + p - 2 = t.val % 8 * 512 + (p - 2) from by omega]

/-- A point whose carried rows are the sequence's last two gate rows leaves the layer's results for its tokens, and the next two rows. -/
theorem point_at (t : Fin cfg0.N) (halo : FVec Ideal S2x2816 .f32)
    (hh : ∀ (i : Fin 2) (j : Fin 2816), (halo (ix2 i j) : EReal) = hist m c (t.val / 8) (t.val % 8 * 512 + i.val) j) :
    (∀ (r : Fin 512) (j : Fin 1024), block halo (iblk m c 0 t) (iblk m c 1 t) (iblk m c 2 t) (iblk m c 3 t) (iblk m c 4 t) (iblk m c 6 t) (ix2 r j)
      = Ffn.mixed (W m c) (seq m c (t.val / 8) (t.val % 8 * 512 + r.val)) (hist m c (t.val / 8) (t.val % 8 * 512 + r.val)) (hist m c (t.val / 8) (t.val % 8 * 512 + r.val + 1)) j)
    ∧ (∀ (i : Fin 2) (j : Fin 2816), tailRows halo (iblk m c 0 t) (iblk m c 1 t) (iblk m c 2 t) (ix2 i j)
      = hist m c (t.val / 8) (t.val % 8 * 512 + 512 + i.val) j) := by
  constructor
  · intro r j
    rw [block_at _ _ _ _ _ _ _ (iblk m c 7 t), block_wts, hist_block m c t halo hh r.val (by omega), hist_block m c t halo hh (r.val + 1) (by omega), ← rows_val, block_rows m c t r.val r.isLt]
    rfl
  · intro i j
    rw [tailRows_at _ _ _ _ (iblk m c 3 t) (iblk m c 4 t) (iblk m c 6 t) (iblk m c 7 t), block_wts, hist_block m c t halo hh (512 + i.val) (by omega)]
    rw [← Nat.add_assoc]

/-- What a point leaves, its tokens' results and the last two gate rows twice. -/
structure Leaves (t : Fin cfg0.N) (o : Vec Ideal S512x1024 .f32 × Vec Ideal S1x2x2816 .f32 × Vec Ideal S1x2x2816 .f32) : Prop where
  out : ∀ (r : Fin 512) (j : Fin 1024), (o.1 (ix2 r j) : EReal) = Ffn.mixed (W m c) (seq m c (t.val / 8) (t.val % 8 * 512 + r.val)) (hist m c (t.val / 8) (t.val % 8 * 512 + r.val)) (hist m c (t.val / 8) (t.val % 8 * 512 + r.val + 1)) j
  state : ∀ (i : Fin 2) (j : Fin 2816), (o.2.1 (ix3 0 i j) : EReal) = hist m c (t.val / 8) (t.val % 8 * 512 + 512 + i.val) j
  tail : ∀ (i : Fin 2) (j : Fin 2816), (o.2.2 (ix3 0 i j) : EReal) = hist m c (t.val / 8) (t.val % 8 * 512 + 512 + i.val) j

theorem left_leaves (t : Fin cfg0.N) (xs : Vec Ideal S1x2x2816 .f32)
    (hx : ¬t.val % 8 = 0 → ∀ (i : Fin 2) (j : Fin 2816), (xs (ix3 0 i j) : EReal) = hist m c (t.val / 8) (t.val % 8 * 512 + i.val) j) :
    Leaves m c t (left m c t xs) := by
  unfold left
  by_cases h : t.val % 8 = 0
  · rw [dif_pos h, out8First_eq, out9First_eq, tailFirst_eq]
    obtain ⟨p1, p2⟩ := point_at m c t (k0_pay5 (iblk m c 5 t)) (fun i j => by
      rw [pay5_at, block_prev, h, hist, Ffn.history, if_pos (by omega), Nat.zero_mul, Nat.zero_add])
    refine ⟨fun r j => ?_, fun i j => ?_, fun i j => ?_⟩ <;> dsimp only
    · exact p1 r j
    · rw [pay11_at]; exact p2 i j
    · rw [pay10_at]; exact p2 i j
  · rw [dif_neg h, out8Next_eq, out9Next_eq, tailNext_eq]
    obtain ⟨p1, p2⟩ := point_at m c t (k0_pay6 xs) (fun i j => by rw [pay6_at, hx h])
    refine ⟨fun r j => ?_, fun i j => ?_, fun i j => ?_⟩ <;> dsimp only
    · exact p1 r j
    · rw [pay11_at]; exact p2 i j
    · rw [pay10_at]; exact p2 i j

/-- Every point leaves the layer's results for its tokens. -/
theorem outs_leaves : ∀ (n : ℕ) (hn : n < cfg0.N), Leaves m c ⟨n, hn⟩ (outs m c n hn)
  | 0, hn => left_leaves m c ⟨0, hn⟩ _ fun h => absurd rfl h
  | n + 1, hn => left_leaves m c ⟨n + 1, hn⟩ _ fun h i j => by
      have h' : ¬(n + 1) % 8 = 0 := h
      refine ((outs_leaves n (Nat.lt_of_succ_lt hn)).tail i j).trans ?_
      show hist m c (n / 8) (n % 8 * 512 + 512 + i.val) j = hist m c ((n + 1) / 8) ((n + 1) % 8 * 512 + i.val) j
      rw [show (n + 1) / 8 = n / 8 from by omega, show (n + 1) % 8 * 512 = n % 8 * 512 + 512 from by omega]

/-- THE KERNEL'S RESULT at a sequence's position. -/
theorem result_at (b : Fin 4) (s : Fin 4096) (j : Fin 1024) :
    ((dats m 0 c).arrAt 8 cfg0.N (ix2 ⟨b.val * 4096 + s.val, by omega⟩ j : S16384x1024.Idx) : EReal)
      = Ffn.mixed (W m c) (seq m c b.val s.val) (hist m c b.val s.val) (hist m c b.val (s.val + 1)) j := by
  have hN : cfg0.N = 32 := by decide +kernel
  have ht : b.val * 8 + s.val / 512 < cfg0.N := by rw [hN]; omega
  rw [result_block m c ⟨b.val * 8 + s.val / 512, ht⟩ ⟨s.val % 512, by omega⟩ j _ (by show b.val * 4096 + s.val = (b.val * 8 + s.val / 512) * 512 + s.val % 512; omega),
    (outs_leaves m c _ ht).out]
  show Ffn.mixed (W m c) (seq m c ((b.val * 8 + s.val / 512) / 8) ((b.val * 8 + s.val / 512) % 8 * 512 + s.val % 512)) _ _ j = _
  rw [show (b.val * 8 + s.val / 512) / 8 = b.val from by omega, show (b.val * 8 + s.val / 512) % 8 * 512 + s.val % 512 = s.val from by omega]

/-- THE KERNEL'S STATE: a block's last two gates. -/
theorem state_at (t : Fin 32) (i : Fin 2) (j : Fin 2816) :
    ((dats m 0 c).arrAt 9 cfg0.N (ix3 t i j : S32x2x2816.Idx) : EReal) = Ffn.gate (W m c) (seq m c (t.val / 8) (t.val % 8 * 512 + 510 + i.val)) j := by
  have hN : cfg0.N = 32 := by decide +kernel
  have ht : t.val < cfg0.N := by rw [hN]; exact t.isLt
  rw [state_block m c ⟨t.val, ht⟩ i j t rfl, (outs_leaves m c _ ht).state, hist, Ffn.history, if_neg (by omega)]
  show Ffn.gate (W m c) (seq m c (t.val / 8) (t.val % 8 * 512 + 512 + i.val - 2)) j = _
  rw [show t.val % 8 * 512 + 512 + i.val - 2 = t.val % 8 * 512 + 510 + i.val from by omega]

end Cert.Kernel4Ideal.Ffn

end
-- ==== Proof.InnerReference.lean ====
/- The inner feed-forward reference's results at an index, as the layer's per-token functions. -/
module

public import proofs.«01_k».proof.Proof.Ffn
public import proofs.«01_k».proof.Proof.Gen.Reference4Ideal.Read

@[expose] public section

set_option maxRecDepth 16384

noncomputable section

namespace Cert.Reference4Ideal.Ffn

open Cert.Reference4Ideal Cert.Reference4Ideal.Read Idealize.ShloMosaic Idealize.ShloMosaic.TcCoe Idealize.ShloMosaic.Tactic Cert

variable (x0 : (⟨S16384x1024, .f32⟩ : BufTy).Contents (Elt Ideal)) (x1 : (⟨S1x1024, .f32⟩ : BufTy).Contents (Elt Ideal))
  (x2 x3 : (⟨S1024x2816, .bf16⟩ : BufTy).Contents (Elt Ideal)) (x4 : (⟨S3x2816, .f32⟩ : BufTy).Contents (Elt Ideal))
  (x5 : (⟨S4x2x2816, .f32⟩ : BufTy).Contents (Elt Ideal)) (x6 : (⟨S2816x1024, .bf16⟩ : BufTy).Contents (Elt Ideal))
  (x7 : (⟨S1x1024, .f32⟩ : BufTy).Contents (Elt Ideal))

/-- The layer's weights read from the arguments. -/
def W : Ffn.Weights where
  g k := x1 (ix2 0 k)
  wg k j := x2 (ix2 k j)
  wu k j := x3 (ix2 k j)
  cw i j := x4 (ix2 i j)
  wd k j := x6 (ix2 k j)
  gf k := x7 (ix2 0 k)

/-- A sequence's rows by their position. -/
def seq (b : ℕ) (n : ℕ) (k : Fin 1024) : EReal := x0 (ix2 (Fin.ofNat 16384 (b * 4096 + n)) k)

/-- A sequence's two earlier gate rows. -/
def before (b : ℕ) (n : ℕ) (j : Fin 2816) : EReal := x5 (ix3 (Fin.ofNat 4 b) (Fin.ofNat 2 n) j)

/-- A sum that starts at the zero constant is the sum. -/
theorem from_zero {a b : EReal} (h : a = b) : Ideal.ofBits .f32 0x00000000#32 + a = b := by
  rw [Ideal.ofBits_zero_f32, zero_add, h]

theorem ofBits_one : Ideal.ofBits .f32 0x3F800000#32 = 1 := by
  simp [Ideal.ofBits, Ideal.ieee]
  rw [← EReal.coe_mul]
  norm_num

/-- The argument's rows, split by sequence. -/
theorem row_at (b : Fin 4) (s : Fin 4096) (k : Fin 1024) : (val_main_v0 (F := Ideal) x0 (ix3 b s k) : EReal) = seq x0 b.val s.val k := by
  rw [val_main_v0_apply]
  refine congrArg x0 (funext fun a => ?_)
  match a with
  | ⟨0, _⟩ => exact Fin.ext (by show ((b.val * 4096 + s.val) * 1024 + k.val) / 1024 = (b.val * 4096 + s.val) % 16384; omega)
  | ⟨1, _⟩ => exact Fin.ext (by show ((b.val * 4096 + s.val) * 1024 + k.val) % 1024 = k.val; omega)

/-- The first norm. -/
theorem norm_at (b : Fin 4) (s : Fin 4096) (k : Fin 1024) :
    (val_main_v13 (F := Ideal) x0 x1 (ix3 b s k) : EReal) = Ffn.norm (seq x0 b.val s.val) (fun k => x1 (ix2 0 k)) k := by
  have hx : (val_main_v12 (F := Ideal) x1 (ix3 b s k) : EReal) = x1 (ix2 0 k) := by
    rw [val_main_v12_apply, val_main_v11_apply]
    refine congrArg x1 (funext fun a => ?_)
    match a with
    | ⟨0, _⟩ => rfl
    | ⟨1, _⟩ => rfl
  have hr : (val_main_v9 (F := Ideal) x0 (ix3 b s k) : EReal)
      = Ideal.rsqrt (Ideal.div (∑ k : Fin 1024, seq x0 b.val s.val k * seq x0 b.val s.val k) (Ideal.ofBits .f32 0x44800000#32) + Ideal.ofBits .f32 0x358637BD#32) := by
    rw [val_main_v9_apply, val_main_v8_apply, val_main_v7_apply, val_main_v5_apply, val_main_v3_apply, val_main_v2_apply, val_main_v4_apply, val_main_v6_apply]
    refine congrArg (fun u : EReal => Ideal.rsqrt (Ideal.div u (Ideal.ofBits .f32 0x44800000#32) + Ideal.ofBits .f32 0x358637BD#32)) (from_zero ?_)
    refine Finset.sum_congr rfl fun q _ => ?_
    have e : idx_main_v2 (idx_main_v3 (idx_main_v9 (ix3 b s k))) q = ix3 b s q := funext fun a => by
      match a with
      | ⟨0, _⟩ => rfl
      | ⟨1, _⟩ => rfl
      | ⟨2, _⟩ => rfl
    rw [e, val_main_v1_apply, row_at]
    rfl
  rw [val_main_v13_apply, val_main_v10_apply, row_at, hx, hr]
  rfl

/-- The gate before the convolution. -/
theorem gate_at (b : Fin 4) (s : Fin 4096) (j : Fin 2816) :
    (val_main_v15 (F := Ideal) x0 x1 x2 (ix3 b s j) : EReal) = Ffn.gate (W x1 x2 x3 x4 x6 x7) (seq x0 b.val s.val) j := by
  rw [val_main_v15_apply]
  refine Finset.sum_congr rfl fun k _ => ?_
  have el : lidx_main_v15 (ix3 b s j) k = ix3 b s k := funext fun a => by
    match a with
    | ⟨0, _⟩ => rfl
    | ⟨1, _⟩ => rfl
    | ⟨2, _⟩ => rfl
  have er : ridx_main_v15 (ix3 b s j) k = ix2 k j := funext fun a => by
    match a with
    | ⟨0, _⟩ => rfl
    | ⟨1, _⟩ => rfl
  rw [el, er, norm_at]
  rfl

/-- The value. -/
theorem value_at (b : Fin 4) (s : Fin 4096) (j : Fin 2816) :
    (val_main_v39 (F := Ideal) x0 x1 x3 (ix3 b s j) : EReal) = Ffn.value (W x1 x2 x3 x4 x6 x7) (seq x0 b.val s.val) j := by
  rw [val_main_v39_apply]
  refine Finset.sum_congr rfl fun k _ => ?_
  have el : lidx_main_v39 (ix3 b s j) k = ix3 b s k := funext fun a => by
    match a with
    | ⟨0, _⟩ => rfl
    | ⟨1, _⟩ => rfl
    | ⟨2, _⟩ => rfl
  have er : ridx_main_v39 (ix3 b s j) k = ix2 k j := funext fun a => by
    match a with
    | ⟨0, _⟩ => rfl
    | ⟨1, _⟩ => rfl
  rw [el, er, norm_at]
  rfl

/-- The gates of a sequence after the two earlier rows. -/
theorem history_at (b : Fin 4) (p : Fin 4098) (j : Fin 2816) :
    (val_main_v16 (F := Ideal) x0 x1 x2 x5 (ix3 b p j) : EReal)
      = Ffn.history (W x1 x2 x3 x4 x6 x7) (seq x0 b.val) (before x5 b.val) p.val j := by
  unfold val_main_v16 Ffn.history
  by_cases hp : p.val < 2
  · rw [if_pos hp]
    refine (concatenate_pair_apply_left (1 : Fin S4x4098x2816.rank) x5 (val_main_v15 (F := Ideal) x0 x1 x2) _ (ix3 b p j) rfl (ix3 b ⟨p.val, hp⟩ j) (fun a => ?_)).trans ?_
    · match a with
      | ⟨0, _⟩ => rfl
      | ⟨1, _⟩ => rfl
      | ⟨2, _⟩ => rfl
    · unfold before
      refine congrArg x5 (funext fun a => ?_)
      match a with
      | ⟨0, _⟩ => exact Fin.ext (Nat.mod_eq_of_lt b.isLt).symm
      | ⟨1, _⟩ => exact Fin.ext (Nat.mod_eq_of_lt hp).symm
      | ⟨2, _⟩ => rfl
  · rw [if_neg hp]
    have hb : p.val - 2 < 4096 := by omega
    refine (concatenate_pair_apply_right (1 : Fin S4x4098x2816.rank) x5 (val_main_v15 (F := Ideal) x0 x1 x2) _ (ix3 b p j) rfl rfl (ix3 b ⟨p.val - 2, hb⟩ j) (fun a ha => ?_) ?_).trans
      (gate_at x0 x1 x2 x3 x4 x6 x7 b ⟨p.val - 2, hb⟩ j)
    · match a with
      | ⟨0, _⟩ => rfl
      | ⟨1, _⟩ => exact absurd rfl ha
      | ⟨2, _⟩ => rfl
    · show p.val - 2 + 2 = p.val
      omega

/-- The convolved gate. -/
theorem conv_at (b : Fin 4) (s : Fin 4096) (j : Fin 2816) :
    (val_main_v36 (F := Ideal) x0 x1 x2 x4 x5 (ix3 b s j) : EReal)
      = Ffn.conv (W x1 x2 x3 x4 x6 x7) (Ffn.history (W x1 x2 x3 x4 x6 x7) (seq x0 b.val) (before x5 b.val) s.val)
          (Ffn.history (W x1 x2 x3 x4 x6 x7) (seq x0 b.val) (before x5 b.val) (s.val + 1)) (Ffn.gate (W x1 x2 x3 x4 x6 x7) (seq x0 b.val s.val)) j := by
  have h0 : (val_main_v21 (F := Ideal) x4 (ix3 b s j) : EReal) = x4 (ix2 0 j) := by
    rw [val_main_v21_apply, val_main_v20_apply, val_main_v19_apply, val_main_v18_apply]
    refine congrArg x4 (funext fun a => ?_)
    match a with
    | ⟨0, _⟩ => rfl
    | ⟨1, _⟩ => exact Fin.ext (Nat.mod_eq_of_lt j.isLt)
  have h1 : (val_main_v27 (F := Ideal) x4 (ix3 b s j) : EReal) = x4 (ix2 1 j) := by
    rw [val_main_v27_apply, val_main_v26_apply, val_main_v25_apply, val_main_v24_apply]
    refine congrArg x4 (funext fun a => ?_)
    match a with
    | ⟨0, _⟩ => rfl
    | ⟨1, _⟩ => exact Fin.ext (Nat.mod_eq_of_lt j.isLt)
  have h2 : (val_main_v34 (F := Ideal) x4 (ix3 b s j) : EReal) = x4 (ix2 2 j) := by
    rw [val_main_v34_apply, val_main_v33_apply, val_main_v32_apply, val_main_v31_apply]
    refine congrArg x4 (funext fun a => ?_)
    match a with
    | ⟨0, _⟩ => rfl
    | ⟨1, _⟩ => exact Fin.ext (Nat.mod_eq_of_lt j.isLt)
  have e0 : idx_main_v17 (ix3 b s j) = ix3 b ⟨s.val, by omega⟩ j := funext fun a => by
    match a with
    | ⟨0, _⟩ => rfl
    | ⟨1, _⟩ => rfl
    | ⟨2, _⟩ => rfl
  have e1 : idx_main_v23 (ix3 b s j) = ix3 b ⟨s.val + 1, by omega⟩ j := funext fun a => by
    match a with
    | ⟨0, _⟩ => rfl
    | ⟨1, _⟩ => exact Fin.ext (Nat.add_comm 1 s.val)
    | ⟨2, _⟩ => rfl
  have e2 : idx_main_v30 (ix3 b s j) = ix3 b ⟨s.val + 2, by omega⟩ j := funext fun a => by
    match a with
    | ⟨0, _⟩ => rfl
    | ⟨1, _⟩ => exact Fin.ext (Nat.add_comm 2 s.val)
    | ⟨2, _⟩ => rfl
  have eg : Ffn.history (W x1 x2 x3 x4 x6 x7) (seq x0 b.val) (before x5 b.val) (s.val + 2) = Ffn.gate (W x1 x2 x3 x4 x6 x7) (seq x0 b.val s.val) := by
    unfold Ffn.history
    rw [if_neg (by omega), Nat.add_sub_cancel]
  rw [val_main_v36_apply, val_main_v29_apply, val_main_v22_apply, val_main_v28_apply, val_main_v35_apply, val_main_v17_apply, val_main_v23_apply, val_main_v30_apply,
    h0, h1, h2, e0, e1, e2, history_at x0 x1 x2 x3 x4 x5 x6 x7, history_at x0 x1 x2 x3 x4 x5 x6 x7, history_at x0 x1 x2 x3 x4 x5 x6 x7, eg]
  rfl

/-- The activation of the convolved gate. -/
theorem silu_at (i : S4x4096x2816.Idx) :
    (val_main_v37 (F := Ideal) x0 x1 x2 x4 x5 i : EReal) = Ffn.silu (val_main_v36 (F := Ideal) x0 x1 x2 x4 x5 i) := by
  rw [val_main_v37_apply, val_main_call0_v5_apply, val_main_call0_v4_apply, val_main_call0_v3_apply, val_main_call0_v2_apply, val_main_call0_v1_apply, val_main_call0_v0_apply]
  generalize val_main_v36 (F := Ideal) x0 x1 x2 x4 x5 i = x
  show x * Ideal.div (Ideal.ofBits .f32 0x3F800000#32) (Ideal.ofBits .f32 0x3F800000#32 + Ideal.exp (-x)) = Ffn.silu x
  rw [ofBits_one]
  rfl

/-- The residual rows after the layer. -/
theorem mixed_at (b : Fin 4) (s : Fin 4096) (j : Fin 1024) :
    (val_main_v43 (F := Ideal) x0 x1 x2 x3 x4 x5 x6 (ix3 b s j) : EReal)
      = Ffn.mixed (W x1 x2 x3 x4 x6 x7) (seq x0 b.val s.val) (Ffn.history (W x1 x2 x3 x4 x6 x7) (seq x0 b.val) (before x5 b.val) s.val)
          (Ffn.history (W x1 x2 x3 x4 x6 x7) (seq x0 b.val) (before x5 b.val) (s.val + 1)) j := by
  rw [val_main_v43_apply, val_main_v42_apply, row_at]
  refine congrArg (fun u : EReal => seq x0 b.val s.val j + u) (Finset.sum_congr rfl fun k _ => ?_)
  have el : lidx_main_v42 (ix3 b s j) k = ix3 b s k := funext fun a => by
    match a with
    | ⟨0, _⟩ => rfl
    | ⟨1, _⟩ => rfl
    | ⟨2, _⟩ => rfl
  have er : ridx_main_v42 (ix3 b s j) k = ix2 k j := funext fun a => by
    match a with
    | ⟨0, _⟩ => rfl
    | ⟨1, _⟩ => rfl
  rw [el, er, val_main_v40_apply, silu_at, conv_at x0 x1 x2 x3 x4 x5 x6 x7, value_at x0 x1 x2 x3 x4 x6 x7]
  rfl

/-- The reference's first result, token by token. -/
theorem result_at (b : Fin 4) (s : Fin 4096) (j : Fin 1024) :
    (val_main_v46 (F := Ideal) x0 x1 x2 x3 x4 x5 x6 (ix2 ⟨b.val * 4096 + s.val, by omega⟩ j) : EReal)
      = Ffn.mixed (W x1 x2 x3 x4 x6 x7) (seq x0 b.val s.val) (Ffn.history (W x1 x2 x3 x4 x6 x7) (seq x0 b.val) (before x5 b.val) s.val)
          (Ffn.history (W x1 x2 x3 x4 x6 x7) (seq x0 b.val) (before x5 b.val) (s.val + 1)) j := by
  rw [val_main_v46_apply]
  refine Eq.trans (congrArg (val_main_v43 (F := Ideal) x0 x1 x2 x3 x4 x5 x6) (funext fun a => ?_)) (mixed_at x0 x1 x2 x3 x4 x5 x6 x7 b s j)
  have hb := b.isLt
  have hs := s.isLt
  have hj := j.isLt
  match a with
  | ⟨0, _⟩ => exact Fin.ext (by show ((b.val * 4096 + s.val) * 1024 + j.val) / 4194304 = b.val; omega)
  | ⟨1, _⟩ => exact Fin.ext (by show ((b.val * 4096 + s.val) * 1024 + j.val) / 1024 % 4096 = s.val; omega)
  | ⟨2, _⟩ => exact Fin.ext (by show ((b.val * 4096 + s.val) * 1024 + j.val) % 1024 = j.val; omega)

/-- The reference's second result: the gates of the last two tokens of every 512. -/
theorem state_at (t : Fin 32) (i : Fin 2) (j : Fin 2816) :
    (val_main_v45 (F := Ideal) x0 x1 x2 (ix3 t i j) : EReal)
      = Ffn.gate (W x1 x2 x3 x4 x6 x7) (seq x0 (t.val / 8) (t.val % 8 * 512 + 510 + i.val)) j := by
  have ht := t.isLt
  have hi := i.isLt
  have hj := j.isLt
  rw [val_main_v45_apply, val_main_v44_apply]
  refine Eq.trans (congrArg (val_main_v15 (F := Ideal) x0 x1 x2) (funext fun a => ?_))
    (gate_at x0 x1 x2 x3 x4 x6 x7 ⟨t.val / 8, by omega⟩ ⟨t.val % 8 * 512 + 510 + i.val, by omega⟩ j)
  match a with
  | ⟨0, _⟩ => exact Fin.ext (by show ((t.val * 512 + (510 + i.val)) * 2816 + j.val) / 11534336 = t.val / 8; omega)
  | ⟨1, _⟩ => exact Fin.ext (by show ((t.val * 512 + (510 + i.val)) * 2816 + j.val) / 2816 % 4096 = t.val % 8 * 512 + 510 + i.val; omega)
  | ⟨2, _⟩ => exact Fin.ext (by show ((t.val * 512 + (510 + i.val)) * 2816 + j.val) % 2816 = j.val; omega)

end Cert.Reference4Ideal.Ffn

end
-- ==== Proof.InnerClaims.lean ====
/- The claims about the inner feed-forward layer: the frames, and the equality of the kernel's and the reference's results. -/
module

public import proofs.«01_k».proof.Defs
public import proofs.«01_k».proof.Proof.InnerSame
public import proofs.«01_k».proof.Proof.InnerResult
public import proofs.«01_k».proof.Proof.InnerReference
public import Idealize.ShloMosaic.Adequacy
public import Idealize.ShloMosaic.Init

@[expose] public section

set_option maxRecDepth 16384

noncomputable section

namespace Cert.Proof

open Idealize.ShloMosaic Idealize.SL.Sem Idealize.ShloMosaic.Tactic

theorem frame_pi4 : Cert.quiescent_Kernel4Ideal := fun m ρ _ => Cert.Kernel4Ideal.Ffn.frame_run (F := Ideal) m ρ

/-- The inner feed-forward reference runs and leaves its arguments unchanged. -/
theorem frame_ri4 : Cert.quiescent_Reference4Ideal := fun m g _ =>
  (θ_run Cert.Reference4Ideal.defs _ _).mono (fun r h => ⟨fun c => (h c).2.2, Idealize.ShloMosaic.sem_eq_zero_of_no_sems (by decide) r.2⟩)
    (Cert.Reference4Ideal.Value.run (F := Ideal) m g)

theorem preserves4 : Cert.preserves_Kernel4_Kernel4Ideal := trivial

/-- Both results of the inner feed-forward kernel agree with the reference's at every index. -/
theorem algebraic4 : Cert.algebraic_Kernel4Ideal_Reference4Ideal := by
  intro m g m' g' _ hagree
  refine ⟨fun c => (Cert.Kernel4Ideal.Ffn.dats m 0 c).arrAt 8 Cert.Kernel4Ideal.cfg0.N, fun c => (Cert.Kernel4Ideal.Ffn.dats m 0 c).arrAt 9 Cert.Kernel4Ideal.cfg0.N,
    Cert.Kernel4Ideal.Ffn.run_arrays (F := Ideal) m g, ?_⟩
  refine (θ_run Cert.Reference4Ideal.defs _ _).mono (fun r h c => ⟨(h c).1.trans ?_, (h c).2.1.trans ?_, (h c).2.2⟩) (Cert.Reference4Ideal.Value.run (F := Ideal) m' g')
  · obtain ⟨h0, h1, h2, h3, h4, h5, h6, h7⟩ := hagree c
    rw [Cert.Reference4Ideal.Read.val_main_v46_eq m' c, h0, h1, h2, h3, h4, h5, h6]
    funext i
    have hi0 : (i 0).val < 16384 := (i 0).isLt
    have e : i = ix2 (n0 := 16384) (n1 := 1024)
        ⟨(⟨(i 0).val / 4096, by omega⟩ : Fin 4).val * 4096 + (⟨(i 0).val % 4096, by omega⟩ : Fin 4096).val, by show (i 0).val / 4096 * 4096 + (i 0).val % 4096 < 16384; omega⟩
        ⟨(i 1).val, (i 1).isLt⟩ :=
      funext fun d => by
        match d with
        | ⟨0, _⟩ => exact Fin.ext (by show (i 0).val = (i 0).val / 4096 * 4096 + (i 0).val % 4096; omega)
        | ⟨1, _⟩ => rfl
    rw [e]
    exact (Cert.Reference4Ideal.Ffn.result_at _ _ _ _ _ _ _ _ _ _ _).trans (Cert.Kernel4Ideal.Ffn.result_at m c _ _ _).symm
  · obtain ⟨h0, h1, h2, h3, h4, h5, h6, h7⟩ := hagree c
    rw [h0, h1, h2]
    refine (Cert.Reference4Ideal.Read.val_main_v45_eq _ _ _).trans ?_
    funext i
    have e : i = ix3 (n0 := 32) (n1 := 2) (n2 := 2816) ⟨(i 0).val, (i 0).isLt⟩ ⟨(i 1).val, (i 1).isLt⟩ ⟨(i 2).val, (i 2).isLt⟩ :=
      funext fun d => by
        match d with
        | ⟨0, _⟩ => rfl
        | ⟨1, _⟩ => rfl
        | ⟨2, _⟩ => rfl
    rw [e]
    exact (Cert.Reference4Ideal.Ffn.state_at _ _ _ (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7)) _ _ _).trans (Cert.Kernel4Ideal.Ffn.state_at m c _ _ _).symm

end Cert.Proof

end
-- ==== Proof.ProjFrame.lean ====
/- The projection of the odd layers: what the body leaves in each window's buffer, and the run of the whole call. -/
module

public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Exec
public import Idealize.ShloMosaic.Lib.Pipeline.Frame
public import Idealize.ShloMosaic.Lib.Pipeline.FrameBody
public import Idealize.ShloMosaic.Lib.Pipeline.Value
public import Idealize.ShloMosaic.Lib.Tactic
public import Idealize.ShloMosaic.Lib.WordCmp
public import Idealize.ShloMosaic.Lib.Claim

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

/-! ## What the body leaves in the results' buffers -/

/-- Rows `r`, `r + 8`, `r + 16`, … of the buffer. -/
abbrev every (r : ℕ) (inb : ∀ a, S512x128.size a = 0 ∨ (![r, 0] : Fin 2 → ℕ) a + (![8, 1] : Fin 2 → ℕ) a * (S512x128.size a - 1) < S4096x128.size a) : Rect S4096x128 :=
  ⟨(⟨![r, 0], S512x128.size, ![8, 1], inb⟩ : LoadRect S4096x128), spos_8_1⟩

/-- A row lies among the rows of its remainder. -/
theorem mem_every (r : ℕ) (inb) (y : S4096x128.Idx) (h : (y 0).val % 8 = r) : y ∈ (every r inb).set := by
  have h0 : (y 0).val < 4096 := (y 0).isLt
  have h1 : (y 1).val < 128 := (y 1).isLt
  refine (LoadRect.mem_set _).mpr fun a => ?_
  match a with
  | ⟨0, _⟩ => exact ⟨(y 0).val / 8, by show (y 0).val / 8 < 512; omega, by show (y 0).val = r + 8 * ((y 0).val / 8); omega⟩
  | ⟨1, _⟩ => exact ⟨(y 1).val, h1, by show (y 1).val = 0 + 1 * (y 1).val; omega⟩

/-- Columns `o` to `o + 511` of the buffer. -/
abbrev cols (o : ℕ) (inb : ∀ a, (![0, o] : Fin 2 → ℕ) a + S512x512.size a ≤ S512x3072.size a) : Rect S512x3072 :=
  Rect.unit (s := S512x3072) ![0, o] S512x512.size inb

theorem mem_cols (o : ℕ) (inb) (y : S512x3072.Idx) (h : o ≤ (y 1).val ∧ (y 1).val < o + 512) : y ∈ (cols o inb).set := by
  refine Rect.mem_set_unit.mpr fun a => ?_
  match a with
  | ⟨0, _⟩ => exact ⟨Nat.zero_le _, by show (y 0).val < 0 + 512; have := (y 0).isLt; simpa using this⟩
  | ⟨1, _⟩ => exact h

/-- The block's normed rows. -/
abbrev normed (x0 : Vec F S512x1024 .f32) (x1 : Vec F S1x1024 .f32) : FVec F S512x1024 .bf16 :=
  k0_pay11 (View.ld x0 (Rect.unit (s := S512x1024) ![0, 0] S512x1024.size inb_S512x1024_S512x1024_0_0)) (View.ld x1 (Rect.unit (s := S1x1024) ![0, 0] S1x1024.size inb_S1x1024_S1x1024_0_0))

/-- Columns `o` to `o + 511` of the weights. -/
abbrev tile (o : ℕ) (inb : ∀ a, (![0, o] : Fin 2 → ℕ) a + S1024x512.size a ≤ S1024x3072.size a) (x2 : Vec F S1024x3072 .bf16) : Vec F S1024x512 .bf16 :=
  View.ld x2 (Rect.unit (s := S1024x3072) ![0, o] S1024x512.size inb)

/-- Result 0's buffer after the body, its stores last first. -/
def left4 (x0 : Vec F S512x1024 .f32) (x1 : Vec F S1x1024 .f32) (x2 : Vec F S1024x3072 .bf16) (x3 : Vec F S1024x128 .bf16) : List (View.Piece (Elt F) S4096x128 .f32) :=
  [⟨every 7 inb_S4096x128_S512x128_7_0_s_8_1, k0_pay25 (normed x0 x1) (tile 1536 inb_S1024x3072_S1024x512_0_1536 x2)⟩,
    ⟨every 6 inb_S4096x128_S512x128_6_0_s_8_1, k0_pay24 (normed x0 x1) (tile 1536 inb_S1024x3072_S1024x512_0_1536 x2)⟩,
    ⟨every 5 inb_S4096x128_S512x128_5_0_s_8_1, k0_pay23 (normed x0 x1) (tile 1536 inb_S1024x3072_S1024x512_0_1536 x2)⟩,
    ⟨every 4 inb_S4096x128_S512x128_4_0_s_8_1, k0_pay22 (normed x0 x1) (tile 1536 inb_S1024x3072_S1024x512_0_1536 x2)⟩,
    ⟨every 3 inb_S4096x128_S512x128_3_0_s_8_1, k0_pay19 (k0_pay15 (View.ld x0 (Rect.unit (s := S512x1024) ![0, 0] S512x1024.size inb_S512x1024_S512x1024_0_0)) (View.ld x1 (Rect.unit (s := S1x1024) ![0, 0] S1x1024.size inb_S1x1024_S1x1024_0_0)) (tile 1024 inb_S1024x3072_S1024x512_0_1024 x2))⟩,
    ⟨every 2 inb_S4096x128_S512x128_2_0_s_8_1, k0_pay18 (k0_pay15 (View.ld x0 (Rect.unit (s := S512x1024) ![0, 0] S512x1024.size inb_S512x1024_S512x1024_0_0)) (View.ld x1 (Rect.unit (s := S1x1024) ![0, 0] S1x1024.size inb_S1x1024_S1x1024_0_0)) (tile 1024 inb_S1024x3072_S1024x512_0_1024 x2))⟩,
    ⟨every 1 inb_S4096x128_S512x128_1_0_s_8_1, k0_pay17 (k0_pay15 (View.ld x0 (Rect.unit (s := S512x1024) ![0, 0] S512x1024.size inb_S512x1024_S512x1024_0_0)) (View.ld x1 (Rect.unit (s := S1x1024) ![0, 0] S1x1024.size inb_S1x1024_S1x1024_0_0)) (tile 1024 inb_S1024x3072_S1024x512_0_1024 x2))⟩,
    ⟨every 0 inb_S4096x128_S512x128_0_0_s_8_1, k0_pay16 (View.ld x0 (Rect.unit (s := S512x1024) ![0, 0] S512x1024.size inb_S512x1024_S512x1024_0_0)) (View.ld x1 (Rect.unit (s := S1x1024) ![0, 0] S1x1024.size inb_S1x1024_S1x1024_0_0)) (tile 1024 inb_S1024x3072_S1024x512_0_1024 x2)⟩]

/-- The buffer's contents. -/
def out4 (x0 : Vec F S512x1024 .f32) (x1 : Vec F S1x1024 .f32) (x2 : Vec F S1024x3072 .bf16) (x3 : Vec F S1024x128 .bf16) : Vec F S4096x128 .f32 := View.canon (left4 x0 x1 x2 x3)

/-- The stores cover the buffer. -/
theorem cover4 (x0 : Vec F S512x1024 .f32) (x1 : Vec F S1x1024 .f32) (x2 : Vec F S1024x3072 .bf16) (x3 : Vec F S1024x128 .bf16) (y : S4096x128.Idx) : ∃ pc ∈ left4 x0 x1 x2 x3, y ∈ pc.1.set := by
  unfold left4
  have h : (y 0).val % 8 < 8 := Nat.mod_lt _ (by omega)
  rcases (show (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 by omega) with h | h | h | h | h | h | h | h
  · exact ⟨_, List.mem_cons_self, mem_every 7 inb_S4096x128_S512x128_7_0_s_8_1 y h⟩
  · exact ⟨_, List.mem_cons_of_mem _ List.mem_cons_self, mem_every 6 inb_S4096x128_S512x128_6_0_s_8_1 y h⟩
  · exact ⟨_, List.mem_cons_of_mem _ (List.mem_cons_of_mem _ List.mem_cons_self), mem_every 5 inb_S4096x128_S512x128_5_0_s_8_1 y h⟩
  · exact ⟨_, List.mem_cons_of_mem _ (List.mem_cons_of_mem _ (List.mem_cons_of_mem _ List.mem_cons_self)), mem_every 4 inb_S4096x128_S512x128_4_0_s_8_1 y h⟩
  · exact ⟨_, List.mem_cons_of_mem _ (List.mem_cons_of_mem _ (List.mem_cons_of_mem _ (List.mem_cons_of_mem _ List.mem_cons_self))), mem_every 3 inb_S4096x128_S512x128_3_0_s_8_1 y h⟩
  · exact ⟨_, List.mem_cons_of_mem _ (List.mem_cons_of_mem _ (List.mem_cons_of_mem _ (List.mem_cons_of_mem _ (List.mem_cons_of_mem _ List.mem_cons_self)))), mem_every 2 inb_S4096x128_S512x128_2_0_s_8_1 y h⟩
  · exact ⟨_, List.mem_cons_of_mem _ (List.mem_cons_of_mem _ (List.mem_cons_of_mem _ (List.mem_cons_of_mem _ (List.mem_cons_of_mem _ (List.mem_cons_of_mem _ List.mem_cons_self))))), mem_every 1 inb_S4096x128_S512x128_1_0_s_8_1 y h⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_every 0 inb_S4096x128_S512x128_0_0_s_8_1 y h⟩

/-- Result 1's buffer after the body, its stores last first. -/
def left5 (x0 : Vec F S512x1024 .f32) (x1 : Vec F S1x1024 .f32) (x2 : Vec F S1024x3072 .bf16) (x3 : Vec F S1024x128 .bf16) : List (View.Piece (Elt F) S4096x128 .f32) :=
  [⟨every 7 inb_S4096x128_S512x128_7_0_s_8_1, k0_pay9 (normed x0 x1) (tile 2560 inb_S1024x3072_S1024x512_0_2560 x2)⟩,
    ⟨every 6 inb_S4096x128_S512x128_6_0_s_8_1, k0_pay8 (normed x0 x1) (tile 2560 inb_S1024x3072_S1024x512_0_2560 x2)⟩,
    ⟨every 5 inb_S4096x128_S512x128_5_0_s_8_1, k0_pay7 (normed x0 x1) (tile 2560 inb_S1024x3072_S1024x512_0_2560 x2)⟩,
    ⟨every 4 inb_S4096x128_S512x128_4_0_s_8_1, k0_pay6 (normed x0 x1) (tile 2560 inb_S1024x3072_S1024x512_0_2560 x2)⟩,
    ⟨every 3 inb_S4096x128_S512x128_3_0_s_8_1, k0_pay3 (k0_pay27 (normed x0 x1) (tile 2048 inb_S1024x3072_S1024x512_0_2048 x2))⟩,
    ⟨every 2 inb_S4096x128_S512x128_2_0_s_8_1, k0_pay2 (k0_pay27 (normed x0 x1) (tile 2048 inb_S1024x3072_S1024x512_0_2048 x2))⟩,
    ⟨every 1 inb_S4096x128_S512x128_1_0_s_8_1, k0_pay1 (k0_pay27 (normed x0 x1) (tile 2048 inb_S1024x3072_S1024x512_0_2048 x2))⟩,
    ⟨every 0 inb_S4096x128_S512x128_0_0_s_8_1, k0_pay28 (normed x0 x1) (tile 2048 inb_S1024x3072_S1024x512_0_2048 x2)⟩]

/-- The buffer's contents. -/
def out5 (x0 : Vec F S512x1024 .f32) (x1 : Vec F S1x1024 .f32) (x2 : Vec F S1024x3072 .bf16) (x3 : Vec F S1024x128 .bf16) : Vec F S4096x128 .f32 := View.canon (left5 x0 x1 x2 x3)

/-- The stores cover the buffer. -/
theorem cover5 (x0 : Vec F S512x1024 .f32) (x1 : Vec F S1x1024 .f32) (x2 : Vec F S1024x3072 .bf16) (x3 : Vec F S1024x128 .bf16) (y : S4096x128.Idx) : ∃ pc ∈ left5 x0 x1 x2 x3, y ∈ pc.1.set := by
  unfold left5
  have h : (y 0).val % 8 < 8 := Nat.mod_lt _ (by omega)
  rcases (show (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 by omega) with h | h | h | h | h | h | h | h
  · exact ⟨_, List.mem_cons_self, mem_every 7 inb_S4096x128_S512x128_7_0_s_8_1 y h⟩
  · exact ⟨_, List.mem_cons_of_mem _ List.mem_cons_self, mem_every 6 inb_S4096x128_S512x128_6_0_s_8_1 y h⟩
  · exact ⟨_, List.mem_cons_of_mem _ (List.mem_cons_of_mem _ List.mem_cons_self), mem_every 5 inb_S4096x128_S512x128_5_0_s_8_1 y h⟩
  · exact ⟨_, List.mem_cons_of_mem _ (List.mem_cons_of_mem _ (List.mem_cons_of_mem _ List.mem_cons_self)), mem_every 4 inb_S4096x128_S512x128_4_0_s_8_1 y h⟩
  · exact ⟨_, List.mem_cons_of_mem _ (List.mem_cons_of_mem _ (List.mem_cons_of_mem _ (List.mem_cons_of_mem _ List.mem_cons_self))), mem_every 3 inb_S4096x128_S512x128_3_0_s_8_1 y h⟩
  · exact ⟨_, List.mem_cons_of_mem _ (List.mem_cons_of_mem _ (List.mem_cons_of_mem _ (List.mem_cons_of_mem _ (List.mem_cons_of_mem _ List.mem_cons_self)))), mem_every 2 inb_S4096x128_S512x128_2_0_s_8_1 y h⟩
  · exact ⟨_, List.mem_cons_of_mem _ (List.mem_cons_of_mem _ (List.mem_cons_of_mem _ (List.mem_cons_of_mem _ (List.mem_cons_of_mem _ (List.mem_cons_of_mem _ List.mem_cons_self))))), mem_every 1 inb_S4096x128_S512x128_1_0_s_8_1 y h⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_every 0 inb_S4096x128_S512x128_0_0_s_8_1 y h⟩

/-- Result 2's buffer after the body, its stores last first. -/
def left6 (x0 : Vec F S512x1024 .f32) (x1 : Vec F S1x1024 .f32) (x2 : Vec F S1024x3072 .bf16) (x3 : Vec F S1024x128 .bf16) : List (View.Piece (Elt F) S512x3072 .bf16) :=
  [⟨cols 2560 inb_S512x3072_S512x512_0_2560, k0_pay10 (normed x0 x1) (tile 2560 inb_S1024x3072_S1024x512_0_2560 x2)⟩,
    ⟨cols 2048 inb_S512x3072_S512x512_0_2048, k0_pay4 (k0_pay27 (normed x0 x1) (tile 2048 inb_S1024x3072_S1024x512_0_2048 x2))⟩,
    ⟨cols 1536 inb_S512x3072_S512x512_0_1536, k0_pay26 (normed x0 x1) (tile 1536 inb_S1024x3072_S1024x512_0_1536 x2)⟩,
    ⟨cols 1024 inb_S512x3072_S512x512_0_1024, k0_pay20 (k0_pay15 (View.ld x0 (Rect.unit (s := S512x1024) ![0, 0] S512x1024.size inb_S512x1024_S512x1024_0_0)) (View.ld x1 (Rect.unit (s := S1x1024) ![0, 0] S1x1024.size inb_S1x1024_S1x1024_0_0)) (tile 1024 inb_S1024x3072_S1024x512_0_1024 x2))⟩,
    ⟨cols 512 inb_S512x3072_S512x512_0_512, k0_pay14 (View.ld x0 (Rect.unit (s := S512x1024) ![0, 0] S512x1024.size inb_S512x1024_S512x1024_0_0)) (View.ld x1 (Rect.unit (s := S1x1024) ![0, 0] S1x1024.size inb_S1x1024_S1x1024_0_0)) (tile 512 inb_S1024x3072_S1024x512_0_512 x2)⟩,
    ⟨cols 0 inb_S512x3072_S512x512_0_0, k0_pay13 (View.ld x0 (Rect.unit (s := S512x1024) ![0, 0] S512x1024.size inb_S512x1024_S512x1024_0_0)) (View.ld x1 (Rect.unit (s := S1x1024) ![0, 0] S1x1024.size inb_S1x1024_S1x1024_0_0)) (tile 0 inb_S1024x3072_S1024x512_0_0 x2)⟩]

/-- The buffer's contents. -/
def out6 (x0 : Vec F S512x1024 .f32) (x1 : Vec F S1x1024 .f32) (x2 : Vec F S1024x3072 .bf16) (x3 : Vec F S1024x128 .bf16) : Vec F S512x3072 .bf16 := View.canon (left6 x0 x1 x2 x3)

/-- The stores cover the buffer. -/
theorem cover6 (x0 : Vec F S512x1024 .f32) (x1 : Vec F S1x1024 .f32) (x2 : Vec F S1024x3072 .bf16) (x3 : Vec F S1024x128 .bf16) (y : S512x3072.Idx) : ∃ pc ∈ left6 x0 x1 x2 x3, y ∈ pc.1.set := by
  unfold left6
  have h : (y 1).val < 3072 := (y 1).isLt
  rcases (show (2560 ≤ (y 1).val ∧ (y 1).val < 2560 + 512) ∨ (2048 ≤ (y 1).val ∧ (y 1).val < 2048 + 512) ∨ (1536 ≤ (y 1).val ∧ (y 1).val < 1536 + 512) ∨ (1024 ≤ (y 1).val ∧ (y 1).val < 1024 + 512) ∨ (512 ≤ (y 1).val ∧ (y 1).val < 512 + 512) ∨ (0 ≤ (y 1).val ∧ (y 1).val < 0 + 512) by omega) with h | h | h | h | h | h
  · exact ⟨_, List.mem_cons_self, mem_cols 2560 inb_S512x3072_S512x512_0_2560 y h⟩
  · exact ⟨_, List.mem_cons_of_mem _ List.mem_cons_self, mem_cols 2048 inb_S512x3072_S512x512_0_2048 y h⟩
  · exact ⟨_, List.mem_cons_of_mem _ (List.mem_cons_of_mem _ List.mem_cons_self), mem_cols 1536 inb_S512x3072_S512x512_0_1536 y h⟩
  · exact ⟨_, List.mem_cons_of_mem _ (List.mem_cons_of_mem _ (List.mem_cons_of_mem _ List.mem_cons_self)), mem_cols 1024 inb_S512x3072_S512x512_0_1024 y h⟩
  · exact ⟨_, List.mem_cons_of_mem _ (List.mem_cons_of_mem _ (List.mem_cons_of_mem _ (List.mem_cons_of_mem _ List.mem_cons_self))), mem_cols 512 inb_S512x3072_S512x512_0_512 y h⟩
  · exact ⟨_, List.mem_cons_of_mem _ (List.mem_cons_of_mem _ (List.mem_cons_of_mem _ (List.mem_cons_of_mem _ (List.mem_cons_of_mem _ List.mem_cons_self)))), mem_cols 0 inb_S512x3072_S512x512_0_0 y h⟩

/-- Result 3's buffer after the body, its stores last first. -/
def left7 (x0 : Vec F S512x1024 .f32) (x1 : Vec F S1x1024 .f32) (x2 : Vec F S1024x3072 .bf16) (x3 : Vec F S1024x128 .bf16) : List (View.Piece (Elt F) S512x128 .f32) :=
  [⟨Rect.unit (s := S512x128) ![0, 0] S512x128.size inb_S512x128_S512x128_0_0, k0_pay12 (View.ld x0 (Rect.unit (s := S512x1024) ![0, 0] S512x1024.size inb_S512x1024_S512x1024_0_0)) (View.ld x1 (Rect.unit (s := S1x1024) ![0, 0] S1x1024.size inb_S1x1024_S1x1024_0_0)) (View.ld x3 (Rect.unit (s := S1024x128) ![0, 0] S1024x128.size inb_S1024x128_S1024x128_0_0))⟩]

/-- The buffer's contents. -/
def out7 (x0 : Vec F S512x1024 .f32) (x1 : Vec F S1x1024 .f32) (x2 : Vec F S1024x3072 .bf16) (x3 : Vec F S1024x128 .bf16) : Vec F S512x128 .f32 := View.canon (left7 x0 x1 x2 x3)

/-- The stores cover the buffer. -/
theorem cover7 (x0 : Vec F S512x1024 .f32) (x1 : Vec F S1x1024 .f32) (x2 : Vec F S1024x3072 .bf16) (x3 : Vec F S1024x128 .bf16) (y : S512x128.Idx) : ∃ pc ∈ left7 x0 x1 x2 x3, y ∈ pc.1.set := by
  unfold left7
  exact ⟨_, List.mem_cons_self, View.mem_set_unit_zero (by funext d; match d with | ⟨0, _⟩ => rfl | ⟨1, _⟩ => rfl) inb_S512x128_S512x128_0_0 y⟩

set_option maxHeartbeats 4000000 in
/-- The body leaves its inputs as they were and the results as above. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S512x3072 .bf16) (harg7 : arg7.IsWhole) (arg8 : Memref sig .tc .vmem S512x128 .f32) (harg8 : arg8.IsWhole)
    (x0 : Vec F S512x1024 .f32) (x1 : Vec F S1x1024 .f32) (x2 : Vec F S1024x3072 .bf16) (x3 : Vec F S1024x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3) ∗ owns (c : Thread nD τ) arg6 fullShare (out5 x0 x1 x2 x3) ∗ owns (c : Thread nD τ) arg7 fullShare (out6 x0 x1 x2 x3) ∗ owns (c : Thread nD τ) arg8 fullShare (out7 x0 x1 x2 x3)) -∗ K ⟨⟩))
      ⊢ wp frame (wpE (defs₀ (F := F)) Variants.none c none) E (cc0_proj i arg1 harg1 arg2 harg2 arg3 harg3 arg4 harg4 arg5 harg5 arg6 harg6 arg7 harg7 arg8 harg8) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 (arg1.view.read (Elt F) f0) (arg2.view.read (Elt F) f1) (arg3.view.read (Elt F) f2) (arg4.view.read (Elt F) f3))
  isplitl [H5]
  · iexists _; isplitr
    swap; · iexact H5
    ipureintro
    exact View.read_writes_eq_canon _ _ _ (cover5 (arg1.view.read (Elt F) f0) (arg2.view.read (Elt F) f1) (arg3.view.read (Elt F) f2) (arg4.view.read (Elt F) f3))
  isplitl [H6]
  · iexists _; isplitr
    swap; · iexact H6
    ipureintro
    exact View.read_writes_eq_canon _ _ _ (cover6 (arg1.view.read (Elt F) f0) (arg2.view.read (Elt F) f1) (arg3.view.read (Elt F) f2) (arg4.view.read (Elt F) f3))
  iexists _; isplitr
  swap; · iexact H7
  ipureintro
  exact View.read_writes_eq_canon _ _ _ (cover7 (arg1.view.read (Elt F) f0) (arg2.view.read (Elt F) f1) (arg3.view.read (Elt F) f2) (arg4.view.read (Elt F) f3))

end Body

variable (m : (ℓ : Loc nD τ sig) → Buf (Elt F) ℓ) (ρ : Dev nD → PrngReg)

/-! ## The call's data -/

/-- The buffers as the call finds them: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The arrays as found, each input's block in place after the body, each result's buffer as the body left it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨5, _⟩ => out5 (iblk m c 0 t) (iblk m c 1 t) (iblk m c 2 t) (iblk m c 3 t)
    | ⟨6, _⟩ => out6 (iblk m c 0 t) (iblk m c 1 t) (iblk m c 2 t) (iblk m c 3 t)
    | ⟨7, _⟩ => out7 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 (iblk m c 0 t) (iblk m c 1 t) (iblk m c 2 t) (iblk m c 3 t) := by dsimp only [dats]
theorem after0_5 (c : Dev nD) (t : Fin cfg0.N) : (dats m 0 c).after 5 t = out5 (iblk m c 0 t) (iblk m c 1 t) (iblk m c 2 t) (iblk m c 3 t) := by dsimp only [dats]
theorem after0_6 (c : Dev nD) (t : Fin cfg0.N) : (dats m 0 c).after 6 t = out6 (iblk m c 0 t) (iblk m c 1 t) (iblk m c 2 t) (iblk m c 3 t) := by dsimp only [dats]
theorem after0_7 (c : Dev nD) (t : Fin cfg0.N) : (dats m 0 c).after 7 t = out7 (iblk m c 0 t) (iblk m c 1 t) (iblk m c 2 t) (iblk m c 3 t) := by dsimp only [dats]

/-- An input's buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run ends with the call's arrays at what its data computes, and no semaphore held. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩)
    ((θ_run defs _ _).mono (fun _ h => h.1) (run_quiescent m ρ))

/-- So do they with every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

/-- Every run ends with the results at these arrays and the arguments as they were. -/
theorem run_arrays : θ_run defs (onTc (τ := τ) (main (F := F))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.1 c).1 4, (h.1.1 c).1 5, (h.1.1 c).1 6, (h.1.1 c).1 7, h.2 c⟩)
    (θ_run_and (run_quiescent m ρ) (unchanged m ρ))

end Cert.Kernel5Ideal.Proj

end
-- ==== Proof.ProjValue.lean ====
/- The projection of the odd layers over the extended reals: what a block's stores hold, and the results' arrays place by place. -/
module

public import proofs.«01_k».proof.Proof.ProjFrame
public import proofs.«01_k».proof.Proof.Ffn
public import Idealize.ShloMosaic.Lib.Pointwise
public import Idealize.ShloMosaic.Lib.ValueIdx
public import Idealize.ShloMosaic.PureOps.Ideal.Laws

@[expose] public section

set_option maxRecDepth 16384

noncomputable section

namespace Cert.Proj

open Idealize.ShloMosaic

/-- A normed row through a column of the weights. -/
def through (row g w : Fin 1024 → EReal) : EReal := ∑ k : Fin 1024, Ffn.norm row g k * w k

end Cert.Proj

namespace Cert.Kernel5Ideal.Proj

open Cert Cert.Kernel5Ideal Cert.Kernel5Ideal.Gen Idealize.ShloMosaic Idealize.ShloMosaic.TcCoe Idealize.ShloMosaic.Tactic Idealize.SL.Sem

theorem zero2 : (![0, 0] : Fin 2 → ℕ) = fun _ => 0 := by funext d; match d with | ⟨0, _⟩ => rfl | ⟨1, _⟩ => rfl

section Block

variable (x0 : Vec Ideal S512x1024 .f32) (x1 : Vec Ideal S1x1024 .f32) (x2 : Vec Ideal S1024x3072 .bf16) (x3 : Vec Ideal S1024x128 .bf16)

/-- Row `r` of the block through column `n` of the weights. -/
def z (r n : ℕ) : EReal :=
  Cert.Proj.through (fun k => x0 (ix2 (Fin.ofNat 512 r) k)) (fun k => x1 (ix2 0 k)) (fun k => x2 (ix2 k (Fin.ofNat 3072 n)))

/-- The normed rows. -/
theorem pay11_at (r : Fin 512) (k : Fin 1024) : k0_pay11 x0 x1 (ix2 r k) = Ffn.norm (fun k => x0 (ix2 r k)) (fun k => x1 (ix2 0 k)) k := by
  pointwise [k0_pay11]
  rfl

theorem normed_at (r : Fin 512) (k : Fin 1024) : normed x0 x1 (ix2 r k) = Ffn.norm (fun k => x0 (ix2 r k)) (fun k => x1 (ix2 0 k)) k := by
  unfold normed
  rw [View.ld_unit_zero zero2, View.ld_unit_zero zero2]
  exact pay11_at x0 x1 r k

/-- Rows through 512 columns. -/
theorem pay5_at (h : FVec Ideal S512x1024 .bf16) (w : Vec Ideal S1024x512 .bf16) (r q : Fin 512) :
    (k0_pay5 h w (ix2 r q) : EReal) = ∑ k : Fin 1024, (h (ix2 r k) : EReal) * w (ix2 k q) := by
  pointwise [k0_pay5]

/-- A tile of the product. -/
theorem tile_at (o : ℕ) (inb) (ho : o ≤ 2560) (r q : Fin 512) : (k0_pay5 (normed x0 x1) (tile o inb x2) (ix2 r q) : EReal) = z x0 x1 x2 r.val (o + q.val) := by
  rw [pay5_at]
  unfold z Cert.Proj.through
  refine Finset.sum_congr rfl fun k _ => ?_
  rw [normed_at, Fin.ofNat_val_eq_self]
  refine congrArg (fun u : EReal => Ffn.norm (fun k => x0 (ix2 r k)) (fun k => x1 (ix2 0 k)) k * u) (congrArg x2 (funext fun d => ?_))
  match d with
  | ⟨0, _⟩ => exact Fin.ext (by show 0 + 1 * k.val = k.val; omega)
  | ⟨1, _⟩ => exact Fin.ext (by show o + 1 * q.val = (o + q.val) % 3072; have := q.isLt; omega)

/-- The values by head: row `8 s + i` holds head `i` of row `s`, the heads' columns from `b`. -/
def heads (b : ℕ) (y : S4096x128.Idx) : EReal := z x0 x1 x2 ((y 0).val / 8) (b + (y 0).val % 8 * 128 + (y 1).val)

/-- A head's piece, cut from a tile and stored at every eighth row. -/
theorem head_piece (b o i q : ℕ) (hb : b + i * 128 = o + q) (hi : i < 8) (hq : q ≤ 384) (ho : o ≤ 2560) (inb) (inb') (hs : S512x512.Slices ![0, q] S512x128)
    (x : S512x128.Idx) :
    (extractStridedSlice S512x128 ![0, q] (k0_pay5 (normed x0 x1) (tile o inb x2)) hs x : EReal) = heads x0 x1 x2 b ((every i inb').emb x) := by
  have h0 : (x 0).val < 512 := (x 0).isLt
  have h1 : (x 1).val < 128 := (x 1).isLt
  refine (extractStridedSlice_apply ![0, q] _ hs x (ix2 (n0 := 512) (n1 := 512) ⟨(x 0).val, h0⟩ ⟨q + (x 1).val, by omega⟩) (fun a => ?_)).trans ?_
  · match a with
    | ⟨0, _⟩ => show (x 0).val = 0 + (x 0).val; omega
    | ⟨1, _⟩ => rfl
  · rw [tile_at x0 x1 x2 o inb ho]
    unfold heads
    show z x0 x1 x2 (x 0).val (o + (q + (x 1).val)) = z x0 x1 x2 ((i + 8 * (x 0).val) / 8) (b + (i + 8 * (x 0).val) % 8 * 128 + (0 + 1 * (x 1).val))
    rw [show (i + 8 * (x 0).val) / 8 = (x 0).val from by omega, show (i + 8 * (x 0).val) % 8 = i from by omega]
    congr 1
    omega

/-- The values side by side. -/
def flat (y : S512x3072.Idx) : EReal := z x0 x1 x2 (y 0).val (y 1).val

/-- A tile's piece. -/
theorem flat_piece (o : ℕ) (ho : o ≤ 2560) (inb) (inb') (x : S512x512.Idx) :
    (k0_pay5 (normed x0 x1) (tile o inb x2) x : EReal) = flat x0 x1 x2 ((cols o inb').emb x) := by
  have e : x = ix2 (n0 := 512) (n1 := 512) ⟨(x 0).val, (x 0).isLt⟩ ⟨(x 1).val, (x 1).isLt⟩ := funext fun d => by
    match d with
    | ⟨0, _⟩ => rfl
    | ⟨1, _⟩ => rfl
  have h := tile_at x0 x1 x2 o inb ho ⟨(x 0).val, (x 0).isLt⟩ ⟨(x 1).val, (x 1).isLt⟩
  rw [← e] at h
  rw [h]
  unfold flat
  show z x0 x1 x2 (x 0).val (o + (x 1).val) = z x0 x1 x2 (0 + 1 * (x 0).val) (o + 1 * (x 1).val)
  rw [Nat.zero_add, Nat.one_mul, Nat.one_mul]

theorem out4_at (y : S4096x128.Idx) : (out4 x0 x1 x2 x3 y : EReal) = heads x0 x1 x2 1024 y := by
  unfold out4
  refine View.canon_apply_of_pieces (heads x0 x1 x2 1024) _ (fun p hp x => ?_) y (cover4 x0 x1 x2 x3 y)
  unfold left4 at hp
  simp only [List.mem_cons, List.not_mem_nil, or_false] at hp
  rcases hp with rfl | rfl | rfl | rfl | rfl | rfl | rfl | rfl
  · exact head_piece x0 x1 x2 1024 1536 7 384 rfl (by omega) (by omega) (by omega) _ _ slices_S512x512_o0_384_S512x128 x
  · exact head_piece x0 x1 x2 1024 1536 6 256 rfl (by omega) (by omega) (by omega) _ _ slices_S512x512_o0_256_S512x128 x
  · exact head_piece x0 x1 x2 1024 1536 5 128 rfl (by omega) (by omega) (by omega) _ _ slices_S512x512_o0_128_S512x128 x
  · exact head_piece x0 x1 x2 1024 1536 4 0 rfl (by omega) (by omega) (by omega) _ _ slices_S512x512_o0_0_S512x128 x
  · exact head_piece x0 x1 x2 1024 1024 3 384 rfl (by omega) (by omega) (by omega) _ _ slices_S512x512_o0_384_S512x128 x
  · exact head_piece x0 x1 x2 1024 1024 2 256 rfl (by omega) (by omega) (by omega) _ _ slices_S512x512_o0_256_S512x128 x
  · exact head_piece x0 x1 x2 1024 1024 1 128 rfl (by omega) (by omega) (by omega) _ _ slices_S512x512_o0_128_S512x128 x
  · exact head_piece x0 x1 x2 1024 1024 0 0 rfl (by omega) (by omega) (by omega) _ _ slices_S512x512_o0_0_S512x128 x

theorem out5_at (y : S4096x128.Idx) : (out5 x0 x1 x2 x3 y : EReal) = heads x0 x1 x2 2048 y := by
  unfold out5
  refine View.canon_apply_of_pieces (heads x0 x1 x2 2048) _ (fun p hp x => ?_) y (cover5 x0 x1 x2 x3 y)
  unfold left5 at hp
  simp only [List.mem_cons, List.not_mem_nil, or_false] at hp
  rcases hp with rfl | rfl | rfl | rfl | rfl | rfl | rfl | rfl
  · exact head_piece x0 x1 x2 2048 2560 7 384 rfl (by omega) (by omega) (by omega) _ _ slices_S512x512_o0_384_S512x128 x
  · exact head_piece x0 x1 x2 2048 2560 6 256 rfl (by omega) (by omega) (by omega) _ _ slices_S512x512_o0_256_S512x128 x
  · exact head_piece x0 x1 x2 2048 2560 5 128 rfl (by omega) (by omega) (by omega) _ _ slices_S512x512_o0_128_S512x128 x
  · exact head_piece x0 x1 x2 2048 2560 4 0 rfl (by omega) (by omega) (by omega) _ _ slices_S512x512_o0_0_S512x128 x
  · exact head_piece x0 x1 x2 2048 2048 3 384 rfl (by omega) (by omega) (by omega) _ _ slices_S512x512_o0_384_S512x128 x
  · exact head_piece x0 x1 x2 2048 2048 2 256 rfl (by omega) (by omega) (by omega) _ _ slices_S512x512_o0_256_S512x128 x
  · exact head_piece x0 x1 x2 2048 2048 1 128 rfl (by omega) (by omega) (by omega) _ _ slices_S512x512_o0_128_S512x128 x
  · exact head_piece x0 x1 x2 2048 2048 0 0 rfl (by omega) (by omega) (by omega) _ _ slices_S512x512_o0_0_S512x128 x

theorem out6_at (y : S512x3072.Idx) : (out6 x0 x1 x2 x3 y : EReal) = flat x0 x1 x2 y := by
  unfold out6
  refine View.canon_apply_of_pieces (flat x0 x1 x2) _ (fun p hp x => ?_) y (cover6 x0 x1 x2 x3 y)
  unfold left6 at hp
  simp only [List.mem_cons, List.not_mem_nil, or_false] at hp
  rcases hp with rfl | rfl | rfl | rfl | rfl | rfl
  · exact flat_piece x0 x1 x2 2560 (by omega) _ inb_S512x3072_S512x512_0_2560 x
  · exact flat_piece x0 x1 x2 2048 (by omega) _ inb_S512x3072_S512x512_0_2048 x
  · exact flat_piece x0 x1 x2 1536 (by omega) _ inb_S512x3072_S512x512_0_1536 x
  · exact flat_piece x0 x1 x2 1024 (by omega) _ inb_S512x3072_S512x512_0_1024 x
  · exact flat_piece x0 x1 x2 512 (by omega) _ inb_S512x3072_S512x512_0_512 x
  · exact flat_piece x0 x1 x2 0 (by omega) _ inb_S512x3072_S512x512_0_0 x

/-- The rows through the second weights. -/
theorem pay12_at (r : Fin 512) (j : Fin 128) :
    (k0_pay12 x0 x1 x3 (ix2 r j) : EReal) = Cert.Proj.through (fun k => x0 (ix2 r k)) (fun k => x1 (ix2 0 k)) (fun k => x3 (ix2 k j)) := by
  unfold Cert.Proj.through
  simp only [← pay11_at x0 x1]
  pointwise [k0_pay12]

theorem out7_at (r : Fin 512) (j : Fin 128) :
    (out7 x0 x1 x2 x3 (ix2 r j) : EReal) = Cert.Proj.through (fun k => x0 (ix2 r k)) (fun k => x1 (ix2 0 k)) (fun k => x3 (ix2 k j)) := by
  unfold out7 left7
  rw [View.canon_unit_zero zero2, View.ld_unit_zero zero2, View.ld_unit_zero zero2, View.ld_unit_zero zero2]
  exact pay12_at x0 x1 x3 r j

end Block

/-! ## The results' arrays -/

/-- The grid is 32 blocks of 512 rows; where each window's block sits. -/
theorem index_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Distinct points write distinct blocks of result 0. -/
theorem apart4 (t t' : Fin cfg0.N) (hne : t ≠ t') : Disjoint ((cfg0.win 4).blk t).view.set ((cfg0.win 4).blk t').view.set :=
  (cfg0.win 4).disjoint_blk fun h => hne (Fin.ext (by
    have := congrFun h (0 : Fin 2)
    have e : win0_4.index t (0 : Fin 2) = win0_4.index t' (0 : Fin 2) := this
    obtain ⟨_, _, _, _, ⟨a4, _⟩, ⟨a5, _⟩, ⟨a6, _⟩, ⟨a7, _⟩⟩ := index_at t
    obtain ⟨_, _, _, _, ⟨b4, _⟩, ⟨b5, _⟩, ⟨b6, _⟩, ⟨b7, _⟩⟩ := index_at t'
    rwa [a4, b4] at e))

/-- Distinct points write distinct blocks of result 1. -/
theorem apart5 (t t' : Fin cfg0.N) (hne : t ≠ t') : Disjoint ((cfg0.win 5).blk t).view.set ((cfg0.win 5).blk t').view.set :=
  (cfg0.win 5).disjoint_blk fun h => hne (Fin.ext (by
    have := congrFun h (0 : Fin 2)
    have e : win0_5.index t (0 : Fin 2) = win0_5.index t' (0 : Fin 2) := this
    obtain ⟨_, _, _, _, ⟨a4, _⟩, ⟨a5, _⟩, ⟨a6, _⟩, ⟨a7, _⟩⟩ := index_at t
    obtain ⟨_, _, _, _, ⟨b4, _⟩, ⟨b5, _⟩, ⟨b6, _⟩, ⟨b7, _⟩⟩ := index_at t'
    rwa [a5, b5] at e))

/-- Distinct points write distinct blocks of result 2. -/
theorem apart6 (t t' : Fin cfg0.N) (hne : t ≠ t') : Disjoint ((cfg0.win 6).blk t).view.set ((cfg0.win 6).blk t').view.set :=
  (cfg0.win 6).disjoint_blk fun h => hne (Fin.ext (by
    have := congrFun h (0 : Fin 2)
    have e : win0_6.index t (0 : Fin 2) = win0_6.index t' (0 : Fin 2) := this
    obtain ⟨_, _, _, _, ⟨a4, _⟩, ⟨a5, _⟩, ⟨a6, _⟩, ⟨a7, _⟩⟩ := index_at t
    obtain ⟨_, _, _, _, ⟨b4, _⟩, ⟨b5, _⟩, ⟨b6, _⟩, ⟨b7, _⟩⟩ := index_at t'
    rwa [a6, b6] at e))

/-- Distinct points write distinct blocks of result 3. -/
theorem apart7 (t t' : Fin cfg0.N) (hne : t ≠ t') : Disjoint ((cfg0.win 7).blk t).view.set ((cfg0.win 7).blk t').view.set :=
  (cfg0.win 7).disjoint_blk fun h => hne (Fin.ext (by
    have := congrFun h (0 : Fin 2)
    have e : win0_7.index t (0 : Fin 2) = win0_7.index t' (0 : Fin 2) := this
    obtain ⟨_, _, _, _, ⟨a4, _⟩, ⟨a5, _⟩, ⟨a6, _⟩, ⟨a7, _⟩⟩ := index_at t
    obtain ⟨_, _, _, _, ⟨b4, _⟩, ⟨b5, _⟩, ⟨b6, _⟩, ⟨b7, _⟩⟩ := index_at t'
    rwa [a7, b7] at e))

variable (m : (ℓ : Loc nD τ sig) → Buf (Elt Ideal) ℓ) (c : Dev nD)

theorem result_block4 (t : Fin cfg0.N) (r : Fin 4096) (k : Fin 128) (a : Fin 131072) (ha : a.val = t.val * 4096 + r.val) :
    (dats m 0 c).arrAt 4 cfg0.N (ix2 a k : S131072x128.Idx) = out4 (iblk m c 0 t) (iblk m c 1 t) (iblk m c 2 t) (iblk m c 3 t) (ix2 r k : S4096x128.Idx) := by
  obtain ⟨_, _, _, _, i4, i5, i6, i7⟩ := index_at t
  obtain ⟨h0, h1⟩ := i4
  have hb := congrFun ((dats m 0 c).read_blk_arrAt_eq_flushed 4 (fun t t' _ _ h => apart4 t t' h) cfg0.N t t.isLt (flush0_4 t)) (ix2 r k : S4096x128.Idx)
  rw [show (dats m 0 c).flushed 4 t = (cfg0.win 4).cut (grid0.coords t) (out4 (iblk m c 0 t) (iblk m c 1 t) (iblk m c 2 t) (iblk m c 3 t)) from by
    show (cfg0.win 4).cut (grid0.coords t) ((dats m 0 c).after 4 t) = _
    rw [after0_4]] at hb
  refine Eq.trans (congrArg ((dats m 0 c).arrAt 4 cfg0.N) (funext fun d => ?_)) hb
  match d with
  | ⟨0, _⟩ => exact Fin.ext (by show a.val = win0_4.index t (0 : Fin 2) * 4096 + 1 * r.val; rw [h0]; omega)
  | ⟨1, _⟩ => exact Fin.ext (by show k.val = win0_4.index t (1 : Fin 2) * 128 + 1 * k.val; rw [h1]; omega)

theorem result_block5 (t : Fin cfg0.N) (r : Fin 4096) (k : Fin 128) (a : Fin 131072) (ha : a.val = t.val * 4096 + r.val) :
    (dats m 0 c).arrAt 5 cfg0.N (ix2 a k : S131072x128.Idx) = out5 (iblk m c 0 t) (iblk m c 1 t) (iblk m c 2 t) (iblk m c 3 t) (ix2 r k : S4096x128.Idx) := by
  obtain ⟨_, _, _, _, i4, i5, i6, i7⟩ := index_at t
  obtain ⟨h0, h1⟩ := i5
  have hb := congrFun ((dats m 0 c).read_blk_arrAt_eq_flushed 5 (fun t t' _ _ h => apart5 t t' h) cfg0.N t t.isLt (flush0_5 t)) (ix2 r k : S4096x128.Idx)
  rw [show (dats m 0 c).flushed 5 t = (cfg0.win 5).cut (grid0.coords t) (out5 (iblk m c 0 t) (iblk m c 1 t) (iblk m c 2 t) (iblk m c 3 t)) from by
    show (cfg0.win 5).cut (grid0.coords t) ((dats m 0 c).after 5 t) = _
    rw [after0_5]] at hb
  refine Eq.trans (congrArg ((dats m 0 c).arrAt 5 cfg0.N) (funext fun d => ?_)) hb
  match d with
  | ⟨0, _⟩ => exact Fin.ext (by show a.val = win0_5.index t (0 : Fin 2) * 4096 + 1 * r.val; rw [h0]; omega)
  | ⟨1, _⟩ => exact Fin.ext (by show k.val = win0_5.index t (1 : Fin 2) * 128 + 1 * k.val; rw [h1]; omega)

theorem result_block6 (t : Fin cfg0.N) (r : Fin 512) (k : Fin 3072) (a : Fin 16384) (ha : a.val = t.val * 512 + r.val) :
    (dats m 0 c).arrAt 6 cfg0.N (ix2 a k : S16384x3072.Idx) = out6 (iblk m c 0 t) (iblk m c 1 t) (iblk m c 2 t) (iblk m c 3 t) (ix2 r k : S512x3072.Idx) := by
  obtain ⟨_, _, _, _, i4, i5, i6, i7⟩ := index_at t
  obtain ⟨h0, h1⟩ := i6
  have hb := congrFun ((dats m 0 c).read_blk_arrAt_eq_flushed 6 (fun t t' _ _ h => apart6 t t' h) cfg0.N t t.isLt (flush0_6 t)) (ix2 r k : S512x3072.Idx)
  rw [show (dats m 0 c).flushed 6 t = (cfg0.win 6).cut (grid0.coords t) (out6 (iblk m c 0 t) (iblk m c 1 t) (iblk m c 2 t) (iblk m c 3 t)) from by
    show (cfg0.win 6).cut (grid0.coords t) ((dats m 0 c).after 6 t) = _
    rw [after0_6]] at hb
  refine Eq.trans (congrArg ((dats m 0 c).arrAt 6 cfg0.N) (funext fun d => ?_)) hb
  match d with
  | ⟨0, _⟩ => exact Fin.ext (by show a.val = win0_6.index t (0 : Fin 2) * 512 + 1 * r.val; rw [h0]; omega)
  | ⟨1, _⟩ => exact Fin.ext (by show k.val = win0_6.index t (1 : Fin 2) * 3072 + 1 * k.val; rw [h1]; omega)

theorem result_block7 (t : Fin cfg0.N) (r : Fin 512) (k : Fin 128) (a : Fin 16384) (ha : a.val = t.val * 512 + r.val) :
    (dats m 0 c).arrAt 7 cfg0.N (ix2 a k : S16384x128.Idx) = out7 (iblk m c 0 t) (iblk m c 1 t) (iblk m c 2 t) (iblk m c 3 t) (ix2 r k : S512x128.Idx) := by
  obtain ⟨_, _, _, _, i4, i5, i6, i7⟩ := index_at t
  obtain ⟨h0, h1⟩ := i7
  have hb := congrFun ((dats m 0 c).read_blk_arrAt_eq_flushed 7 (fun t t' _ _ h => apart7 t t' h) cfg0.N t t.isLt (flush0_7 t)) (ix2 r k : S512x128.Idx)
  rw [show (dats m 0 c).flushed 7 t = (cfg0.win 7).cut (grid0.coords t) (out7 (iblk m c 0 t) (iblk m c 1 t) (iblk m c 2 t) (iblk m c 3 t)) from by
    show (cfg0.win 7).cut (grid0.coords t) ((dats m 0 c).after 7 t) = _
    rw [after0_7]] at hb
  refine Eq.trans (congrArg ((dats m 0 c).arrAt 7 cfg0.N) (funext fun d => ?_)) hb
  match d with
  | ⟨0, _⟩ => exact Fin.ext (by show a.val = win0_7.index t (0 : Fin 2) * 512 + 1 * r.val; rw [h0]; omega)
  | ⟨1, _⟩ => exact Fin.ext (by show k.val = win0_7.index t (1 : Fin 2) * 128 + 1 * k.val; rw [h1]; omega)

/-- The rows, the norm's scale and the two weights as launched. -/
abbrev xArg : S16384x1024.Idx → EReal := m ((c : Thread nD τ).loc main_arg0)
abbrev gArg : S1x1024.Idx → EReal := m ((c : Thread nD τ).loc main_arg1)
abbrev wArg : S1024x3072.Idx → EReal := m ((c : Thread nD τ).loc main_arg2)
abbrev fArg : S1024x128.Idx → EReal := m ((c : Thread nD τ).loc main_arg3)

theorem block_x (t : Fin cfg0.N) (r : Fin 512) (k : Fin 1024) (a : Fin 16384) (ha : a.val = t.val * 512 + r.val) :
    (iblk m c 0 t (ix2 r k : S512x1024.Idx) : EReal) = xArg m c (ix2 a k) := by
  obtain ⟨⟨h0, h1⟩, _⟩ := index_at t
  show V m c main_arg0 _ = _
  refine congrArg _ (funext fun d => ?_)
  match d with
  | ⟨0, _⟩ => exact Fin.ext (by show win0_0.index t (0 : Fin 2) * 512 + 1 * r.val = a.val; rw [h0]; omega)
  | ⟨1, _⟩ => exact Fin.ext (by show win0_0.index t (1 : Fin 2) * 1024 + 1 * k.val = k.val; rw [h1]; omega)

theorem block_g (t : Fin cfg0.N) (k : Fin 1) (j : Fin 1024) : (iblk m c 1 t (ix2 k j : S1x1024.Idx) : EReal) = gArg m c (ix2 k j) := by
  obtain ⟨_, ⟨h0, h1⟩, _⟩ := index_at t
  show V m c main_arg1 _ = _
  refine congrArg _ (funext fun d => ?_)
  match d with
  | ⟨0, _⟩ => exact Fin.ext (by show win0_1.index t (0 : Fin 2) * 1 + 1 * k.val = k.val; rw [h0]; omega)
  | ⟨1, _⟩ => exact Fin.ext (by show win0_1.index t (1 : Fin 2) * 1024 + 1 * j.val = j.val; rw [h1]; omega)

theorem block_w (t : Fin cfg0.N) (k : Fin 1024) (j : Fin 3072) : (iblk m c 2 t (ix2 k j : S1024x3072.Idx) : EReal) = wArg m c (ix2 k j) := by
  obtain ⟨_, _, ⟨h0, h1⟩, _⟩ := index_at t
  show V m c main_arg2 _ = _
  refine congrArg _ (funext fun d => ?_)
  match d with
  | ⟨0, _⟩ => exact Fin.ext (by show win0_2.index t (0 : Fin 2) * 1024 + 1 * k.val = k.val; rw [h0]; omega)
  | ⟨1, _⟩ => exact Fin.ext (by show win0_2.index t (1 : Fin 2) * 3072 + 1 * j.val = j.val; rw [h1]; omega)

theorem block_f (t : Fin cfg0.N) (k : Fin 1024) (j : Fin 128) : (iblk m c 3 t (ix2 k j : S1024x128.Idx) : EReal) = fArg m c (ix2 k j) := by
  obtain ⟨_, _, _, ⟨h0, h1⟩, _⟩ := index_at t
  show V m c main_arg3 _ = _
  refine congrArg _ (funext fun d => ?_)
  match d with
  | ⟨0, _⟩ => exact Fin.ext (by show win0_3.index t (0 : Fin 2) * 1024 + 1 * k.val = k.val; rw [h0]; omega)
  | ⟨1, _⟩ => exact Fin.ext (by show win0_3.index t (1 : Fin 2) * 128 + 1 * j.val = j.val; rw [h1]; omega)

/-- A token's row through column `n` of the weights. -/
def value (a : Fin 16384) (n : ℕ) : EReal :=
  Cert.Proj.through (fun k => xArg m c (ix2 a k)) (fun k => gArg m c (ix2 0 k)) (fun k => wArg m c (ix2 k (Fin.ofNat 3072 n)))

theorem z_block (t : Fin cfg0.N) (r n : ℕ) (hr : r < 512) (a : Fin 16384) (ha : a.val = t.val * 512 + r) :
    z (iblk m c 0 t) (iblk m c 1 t) (iblk m c 2 t) r n = value m c a n := by
  unfold z value
  congr 1
  · funext k
    exact block_x m c t (Fin.ofNat 512 r) k a (by show a.val = t.val * 512 + r % 512; rw [Nat.mod_eq_of_lt hr]; exact ha)
  · funext k; exact block_g m c t 0 k
  · funext k; exact block_w m c t k _

/-- Result 0 at a row, of token `a / 8` and head `a % 8`, and a column. -/
theorem result4_at (a : Fin 131072) (j : Fin 128) :
    ((dats m 0 c).arrAt 4 cfg0.N (ix2 a j : S131072x128.Idx) : EReal) = value m c ⟨a.val / 8, by omega⟩ (1024 + a.val % 8 * 128 + j.val) := by
  have hN : a.val / 4096 < cfg0.N := by rw [show cfg0.N = 32 from N_0]; omega
  rw [result_block4 m c ⟨a.val / 4096, hN⟩ ⟨a.val % 4096, by omega⟩ j a (by show a.val = a.val / 4096 * 4096 + a.val % 4096; omega), out4_at]
  unfold heads
  show z _ _ _ (a.val % 4096 / 8) (1024 + a.val % 4096 % 8 * 128 + j.val) = _
  rw [show a.val % 4096 % 8 = a.val % 8 from by omega]
  exact z_block m c _ _ _ (by omega) _ (by show a.val / 8 = a.val / 4096 * 512 + a.val % 4096 / 8; omega)

/-- Result 1 at a row, of token `a / 8` and head `a % 8`, and a column. -/
theorem result5_at (a : Fin 131072) (j : Fin 128) :
    ((dats m 0 c).arrAt 5 cfg0.N (ix2 a j : S131072x128.Idx) : EReal) = value m c ⟨a.val / 8, by omega⟩ (2048 + a.val % 8 * 128 + j.val) := by
  have hN : a.val / 4096 < cfg0.N := by rw [show cfg0.N = 32 from N_0]; omega
  rw [result_block5 m c ⟨a.val / 4096, hN⟩ ⟨a.val % 4096, by omega⟩ j a (by show a.val = a.val / 4096 * 4096 + a.val % 4096; omega), out5_at]
  unfold heads
  show z _ _ _ (a.val % 4096 / 8) (2048 + a.val % 4096 % 8 * 128 + j.val) = _
  rw [show a.val % 4096 % 8 = a.val % 8 from by omega]
  exact z_block m c _ _ _ (by omega) _ (by show a.val / 8 = a.val / 4096 * 512 + a.val % 4096 / 8; omega)

/-- The third result at a token and a column. -/
theorem result6_at (a : Fin 16384) (j : Fin 3072) :
    ((dats m 0 c).arrAt 6 cfg0.N (ix2 a j : S16384x3072.Idx) : EReal) = value m c a j.val := by
  have hN : a.val / 512 < cfg0.N := by rw [show cfg0.N = 32 from N_0]; omega
  rw [result_block6 m c ⟨a.val / 512, hN⟩ ⟨a.val % 512, by omega⟩ j a (by show a.val = a.val / 512 * 512 + a.val % 512; omega), out6_at]
  unfold flat
  exact z_block m c _ _ _ (Nat.mod_lt _ (by omega)) _ (by show a.val = a.val / 512 * 512 + a.val % 512; omega)

/-- The fourth result at a token and a column. -/
theorem result7_at (a : Fin 16384) (j : Fin 128) :
    ((dats m 0 c).arrAt 7 cfg0.N (ix2 a j : S16384x128.Idx) : EReal)
      = Cert.Proj.through (fun k => xArg m c (ix2 a k)) (fun k => gArg m c (ix2 0 k)) (fun k => fArg m c (ix2 k j)) := by
  have hN : a.val / 512 < cfg0.N := by rw [show cfg0.N = 32 from N_0]; omega
  have ha : a.val = (⟨a.val / 512, hN⟩ : Fin cfg0.N).val * 512 + (⟨a.val % 512, by omega⟩ : Fin 512).val := by show a.val = a.val / 512 * 512 + a.val % 512; omega
  rw [result_block7 m c ⟨a.val / 512, hN⟩ ⟨a.val % 512, by omega⟩ j a ha, out7_at]
  congr 1
  · funext k; exact block_x m c _ _ k a ha
  · funext k; exact block_g m c _ 0 k
  · funext k; exact block_f m c _ k j

end Cert.Kernel5Ideal.Proj

end
-- ==== Proof.ProjReference.lean ====
/- The projection's reference over the extended reals, place by place. -/
module

public import proofs.«01_k».proof.Proof.ProjValue
public import proofs.«01_k».proof.Proof.Gen.Reference5Ideal.Read

@[expose] public section

set_option maxRecDepth 16384

noncomputable section

namespace Cert.Reference5Ideal.Proj

open Cert.Reference5Ideal Cert.Reference5Ideal.Read Idealize.ShloMosaic Idealize.ShloMosaic.TcCoe Idealize.ShloMosaic.Tactic Cert

variable (x0 : (⟨S16384x1024, .f32⟩ : BufTy).Contents (Elt Ideal)) (x1 : (⟨S1x1024, .f32⟩ : BufTy).Contents (Elt Ideal))
  (x2 : (⟨S1024x3072, .bf16⟩ : BufTy).Contents (Elt Ideal)) (x3 : (⟨S1024x128, .bf16⟩ : BufTy).Contents (Elt Ideal))

/-- A sum that starts at the zero constant is the sum. -/
theorem from_zero {a b : EReal} (h : a = b) : Ideal.ofBits .f32 0x00000000#32 + a = b := by
  rw [Ideal.ofBits_zero_f32, zero_add, h]

/-- The normed rows. -/
theorem norm_at (a : Fin 16384) (k : Fin 1024) :
    (val_main_v11 (F := Ideal) x0 x1 (ix2 a k) : EReal) = Ffn.norm (fun k => x0 (ix2 a k)) (fun k => x1 (ix2 0 k)) k := by
  have hx : (val_main_v10 (F := Ideal) x1 (ix2 a k) : EReal) = x1 (ix2 0 k) := by
    rw [val_main_v10_apply]
    refine congrArg x1 (funext fun d => ?_)
    match d with
    | ⟨0, _⟩ => rfl
    | ⟨1, _⟩ => rfl
  have hr : (val_main_v8 (F := Ideal) x0 (ix2 a k) : EReal)
      = Ideal.rsqrt (Ideal.div (∑ k : Fin 1024, (x0 (ix2 a k) : EReal) * x0 (ix2 a k)) (Ideal.ofBits .f32 0x44800000#32) + Ideal.ofBits .f32 0x358637BD#32) := by
    rw [val_main_v8_apply, val_main_v7_apply, val_main_v6_apply, val_main_v4_apply, val_main_v2_apply, val_main_v1_apply, val_main_v3_apply, val_main_v5_apply]
    refine congrArg (fun u : EReal => Ideal.rsqrt (Ideal.div u (Ideal.ofBits .f32 0x44800000#32) + Ideal.ofBits .f32 0x358637BD#32)) (from_zero ?_)
    refine Finset.sum_congr rfl fun q _ => ?_
    have e : idx_main_v1 (idx_main_v2 (idx_main_v8 (ix2 a k))) q = ix2 a q := funext fun d => by
      match d with
      | ⟨0, _⟩ => rfl
      | ⟨1, _⟩ => rfl
    rw [e, val_main_v0_apply]
    rfl
  rw [val_main_v11_apply, val_main_v9_apply, hx, hr]
  rfl

/-- A token's row through column `n` of the weights. -/
def value (a : Fin 16384) (n : ℕ) : EReal :=
  Cert.Proj.through (fun k => x0 (ix2 a k)) (fun k => x1 (ix2 0 k)) (fun k => x2 (ix2 k (Fin.ofNat 3072 n)))

theorem product_at (i : S16384x3072.Idx) (a : Fin 16384) (n : ℕ) (ha : (i 0).val = a.val) (hn : (i 1).val = n) :
    (val_main_v13 (F := Ideal) x0 x1 x2 i : EReal) = value x0 x1 x2 a n := by
  have h1 : (i 1).val < 3072 := (i 1).isLt
  rw [val_main_v13_apply]
  unfold value Cert.Proj.through
  refine Finset.sum_congr rfl fun k _ => ?_
  have el : lidx_main_v13 i k = ix2 a k := funext fun d => by
    match d with
    | ⟨0, _⟩ => exact Fin.ext ha
    | ⟨1, _⟩ => rfl
  have er : ridx_main_v13 i k = ix2 k (Fin.ofNat 3072 n) := funext fun d => by
    match d with
    | ⟨0, _⟩ => rfl
    | ⟨1, _⟩ => exact Fin.ext (by show (i 1).val = n % 3072; omega)
  rw [el, er, norm_at]
  rfl

theorem result4_at (a : Fin 131072) (j : Fin 128) :
    (val_main_v17 (F := Ideal) x0 x1 x2 (ix2 a j) : EReal) = value x0 x1 x2 ⟨a.val / 8, by omega⟩ (1024 + a.val % 8 * 128 + j.val) := by
  have hj := j.isLt
  rw [val_main_v17_apply, val_main_v15_apply]
  exact product_at x0 x1 x2 _ _ _ (by show (a.val * 128 + j.val) / 1024 = a.val / 8; omega)
    (by show 1024 + (a.val * 128 + j.val) % 1024 = 1024 + a.val % 8 * 128 + j.val; omega)

theorem result5_at (a : Fin 131072) (j : Fin 128) :
    (val_main_v18 (F := Ideal) x0 x1 x2 (ix2 a j) : EReal) = value x0 x1 x2 ⟨a.val / 8, by omega⟩ (2048 + a.val % 8 * 128 + j.val) := by
  have hj := j.isLt
  rw [val_main_v18_apply, val_main_v16_apply]
  exact product_at x0 x1 x2 _ _ _ (by show (a.val * 128 + j.val) / 1024 = a.val / 8; omega)
    (by show 2048 + (a.val * 128 + j.val) % 1024 = 2048 + a.val % 8 * 128 + j.val; omega)

theorem result6_at (a : Fin 16384) (j : Fin 3072) :
    (val_main_v19 (F := Ideal) x0 x1 x2 (ix2 a j) : EReal) = value x0 x1 x2 a j.val := by
  rw [val_main_v19_apply]
  exact product_at x0 x1 x2 (ix2 a j) a j.val rfl rfl

theorem result7_at (a : Fin 16384) (j : Fin 128) :
    (val_main_v21 (F := Ideal) x0 x1 x3 (ix2 a j) : EReal)
      = Cert.Proj.through (fun k => x0 (ix2 a k)) (fun k => x1 (ix2 0 k)) (fun k => x3 (ix2 k j)) := by
  rw [val_main_v21_apply]
  unfold Cert.Proj.through
  refine Finset.sum_congr rfl fun k _ => ?_
  have el : lidx_main_v21 (ix2 a j) k = ix2 a k := funext fun d => by
    match d with
    | ⟨0, _⟩ => rfl
    | ⟨1, _⟩ => rfl
  have er : ridx_main_v21 (ix2 a j) k = ix2 k j := funext fun d => by
    match d with
    | ⟨0, _⟩ => rfl
    | ⟨1, _⟩ => rfl
  rw [el, er, norm_at]
  rfl

end Cert.Reference5Ideal.Proj

end
-- ==== Proof.ProjClaims.lean ====
/- The claims of the odd layers' projection. -/
module

public import proofs.«01_k».proof.Defs
public import proofs.«01_k».proof.Proof.Gen.Kernel5
public import proofs.«01_k».proof.Proof.ProjReference
public import Idealize.ShloMosaic.Adequacy
public import Idealize.ShloMosaic.Init

@[expose] public section

set_option maxRecDepth 16384

noncomputable section

namespace Cert.Proof

open Idealize.ShloMosaic Idealize.SL.Sem Idealize.ShloMosaic.Tactic

/-- The program as executed and the program read over the extended reals are one program: their body tables are equal. -/
theorem proj_bodies_eq : @Cert.Kernel5.defs₀ Bits _ _ = @Cert.Kernel5Ideal.defs₀ Bits _ _ := by
  unfold Cert.Kernel5.defs₀ Cert.Kernel5Ideal.defs₀
  refine congrArg Defs.onTc (funext fun l => funext fun a => ?_)
  match l, a with
  | ⟨0, _⟩, (t, s) => exact rfl

theorem proj_tables_eq : Cert.Kernel5.defs (F := Bits) = Cert.Kernel5Ideal.defs (F := Bits) :=
  congrArg (Pipeline.defs Cert.Kernel5.pcfgs) proj_bodies_eq

theorem frame_p5 : Cert.quiescent_Kernel5 := fun m ρ _ => by
  rw [proj_tables_eq]
  exact Cert.Kernel5Ideal.Proj.frame_run (F := Bits) m ρ

theorem frame_pi5 : Cert.quiescent_Kernel5Ideal := fun m ρ _ => Cert.Kernel5Ideal.Proj.frame_run (F := Ideal) m ρ

/-- The projection's reference runs and leaves its arguments unchanged. -/
theorem frame_ri5 : Cert.quiescent_Reference5Ideal := fun m g _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m g)

theorem preserves5 : Cert.preserves_Kernel5_Kernel5Ideal := trivial

/-- The projection's four results agree with the reference's at every index. -/
theorem algebraic5 : Cert.algebraic_Kernel5Ideal_Reference5Ideal := by
  intro m g m' g' _ hagree
  refine ⟨fun c => (Cert.Kernel5Ideal.Proj.dats m 0 c).arrAt 4 Cert.Kernel5Ideal.cfg0.N, fun c => (Cert.Kernel5Ideal.Proj.dats m 0 c).arrAt 5 Cert.Kernel5Ideal.cfg0.N,
    fun c => (Cert.Kernel5Ideal.Proj.dats m 0 c).arrAt 6 Cert.Kernel5Ideal.cfg0.N, fun c => (Cert.Kernel5Ideal.Proj.dats m 0 c).arrAt 7 Cert.Kernel5Ideal.cfg0.N,
    Cert.Kernel5Ideal.Proj.run_arrays (F := Ideal) m g, ?_⟩
  refine (θ_run Cert.Reference5Ideal.defs _ _).mono (fun r h c => ⟨(h c).1.trans ?_, (h c).2.1.trans ?_, (h c).2.2.1.trans ?_, (h c).2.2.2.1.trans ?_, (h c).2.2.2.2⟩)
    (Cert.Reference5Ideal.Value.run (F := Ideal) m' g')
  · obtain ⟨h0, h1, h2, h3⟩ := hagree c
    rw [h0, h1, h2]
    refine (Cert.Reference5Ideal.Read.val_main_v17_eq _ _ _).trans (funext fun i => ?_)
    have e : i = ix2 (n0 := 131072) (n1 := 128) ⟨(i 0).val, (i 0).isLt⟩ ⟨(i 1).val, (i 1).isLt⟩ := funext fun d => by
      match d with
      | ⟨0, _⟩ => rfl
      | ⟨1, _⟩ => rfl
    rw [e]
    exact (Cert.Reference5Ideal.Proj.result4_at _ _ _ _ _).trans (Cert.Kernel5Ideal.Proj.result4_at m c _ _).symm
  · obtain ⟨h0, h1, h2, h3⟩ := hagree c
    rw [h0, h1, h2]
    refine (Cert.Reference5Ideal.Read.val_main_v18_eq _ _ _).trans (funext fun i => ?_)
    have e : i = ix2 (n0 := 131072) (n1 := 128) ⟨(i 0).val, (i 0).isLt⟩ ⟨(i 1).val, (i 1).isLt⟩ := funext fun d => by
      match d with
      | ⟨0, _⟩ => rfl
      | ⟨1, _⟩ => rfl
    rw [e]
    exact (Cert.Reference5Ideal.Proj.result5_at _ _ _ _ _).trans (Cert.Kernel5Ideal.Proj.result5_at m c _ _).symm
  · obtain ⟨h0, h1, h2, h3⟩ := hagree c
    rw [h0, h1, h2]
    refine (Cert.Reference5Ideal.Read.val_main_v19_eq _ _ _).trans (funext fun i => ?_)
    have e : i = ix2 (n0 := 16384) (n1 := 3072) ⟨(i 0).val, (i 0).isLt⟩ ⟨(i 1).val, (i 1).isLt⟩ := funext fun d => by
      match d with
      | ⟨0, _⟩ => rfl
      | ⟨1, _⟩ => rfl
    rw [e]
    exact (Cert.Reference5Ideal.Proj.result6_at _ _ _ _ _).trans (Cert.Kernel5Ideal.Proj.result6_at m c _ _).symm
  · obtain ⟨h0, h1, h2, h3⟩ := hagree c
    rw [h0, h1, h3]
    refine (Cert.Reference5Ideal.Read.val_main_v21_eq _ _ _).trans (funext fun i => ?_)
    have e : i = ix2 (n0 := 16384) (n1 := 128) ⟨(i 0).val, (i 0).isLt⟩ ⟨(i 1).val, (i 1).isLt⟩ := funext fun d => by
      match d with
      | ⟨0, _⟩ => rfl
      | ⟨1, _⟩ => rfl
    rw [e]
    exact (Cert.Reference5Ideal.Proj.result7_at _ _ _ _ _).trans (Cert.Kernel5Ideal.Proj.result7_at m c _ _).symm

end Cert.Proof

end
-- ==== Proof.EvenFrame.lean ====
/- The projection of the even layers: what the body leaves in each window's buffer, and the run of the whole call. -/
module

public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Exec
public import Idealize.ShloMosaic.Lib.Pipeline.Frame
public import Idealize.ShloMosaic.Lib.Pipeline.FrameBody
public import Idealize.ShloMosaic.Lib.Pipeline.Value
public import Idealize.ShloMosaic.Lib.Tactic
public import Idealize.ShloMosaic.Lib.WordCmp
public import Idealize.ShloMosaic.Lib.Claim

@[expose] public section

set_option maxRecDepth 16384

noncomputable section

namespace Cert.Kernel6Ideal.Even

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

/-! ## What the body leaves in the results' buffers -/

/-- Rows `r`, `r + 4`, `r + 8`, … of the buffer. -/
abbrev every (r : ℕ) (inb : ∀ a, S512x128.size a = 0 ∨ (![r, 0] : Fin 2 → ℕ) a + (![4, 1] : Fin 2 → ℕ) a * (S512x128.size a - 1) < S2048x128.size a) : Rect S2048x128 :=
  ⟨(⟨![r, 0], S512x128.size, ![4, 1], inb⟩ : LoadRect S2048x128), spos_4_1⟩

/-- A row lies among the rows of its remainder. -/
theorem mem_every (r : ℕ) (inb) (y : S2048x128.Idx) (h : (y 0).val % 4 = r) : y ∈ (every r inb).set := by
  have h0 : (y 0).val < 2048 := (y 0).isLt
  have h1 : (y 1).val < 128 := (y 1).isLt
  refine (LoadRect.mem_set _).mpr fun a => ?_
  match a with
  | ⟨0, _⟩ => exact ⟨(y 0).val / 4, by show (y 0).val / 4 < 512; omega, by show (y 0).val = r + 4 * ((y 0).val / 4); omega⟩
  | ⟨1, _⟩ => exact ⟨(y 1).val, h1, by show (y 1).val = 0 + 1 * (y 1).val; omega⟩

/-- Columns `o` to `o + 511` of the buffer. -/
abbrev cols (o : ℕ) (inb : ∀ a, (![0, o] : Fin 2 → ℕ) a + S512x512.size a ≤ S512x1536.size a) : Rect S512x1536 :=
  Rect.unit (s := S512x1536) ![0, o] S512x512.size inb

theorem mem_cols (o : ℕ) (inb) (y : S512x1536.Idx) (h : o ≤ (y 1).val ∧ (y 1).val < o + 512) : y ∈ (cols o inb).set := by
  refine Rect.mem_set_unit.mpr fun a => ?_
  match a with
  | ⟨0, _⟩ => exact ⟨Nat.zero_le _, by show (y 0).val < 0 + 512; have := (y 0).isLt; simpa using this⟩
  | ⟨1, _⟩ => exact h

/-- The block's normed rows. -/
abbrev normed (x0 : Vec F S512x1024 .f32) (x1 : Vec F S1x1024 .f32) : FVec F S512x1024 .bf16 :=
  k0_pay1 (View.ld x0 (Rect.unit (s := S512x1024) ![0, 0] S512x1024.size inb_S512x1024_S512x1024_0_0)) (View.ld x1 (Rect.unit (s := S1x1024) ![0, 0] S1x1024.size inb_S1x1024_S1x1024_0_0))

/-- Columns `o` to `o + 511` of the weights. -/
abbrev tile (o : ℕ) (inb : ∀ a, (![0, o] : Fin 2 → ℕ) a + S1024x512.size a ≤ S1024x3072.size a) (x2 : Vec F S1024x3072 .bf16) : Vec F S1024x512 .bf16 :=
  View.ld x2 (Rect.unit (s := S1024x3072) ![0, o] S1024x512.size inb)

/-- Result 0's buffer after the body, its stores last first. -/
def left3 (x0 : Vec F S512x1024 .f32) (x1 : Vec F S1x1024 .f32) (x2 : Vec F S1024x3072 .bf16) : List (View.Piece (Elt F) S512x1536 .f32) :=
  [⟨cols 1024 inb_S512x1536_S512x512_0_1024, k0_pay4 (View.ld x0 (Rect.unit (s := S512x1024) ![0, 0] S512x1024.size inb_S512x1024_S512x1024_0_0)) (View.ld x1 (Rect.unit (s := S1x1024) ![0, 0] S1x1024.size inb_S1x1024_S1x1024_0_0)) (tile 1024 inb_S1024x3072_S1024x512_0_1024 x2)⟩,
    ⟨cols 512 inb_S512x1536_S512x512_0_512, k0_pay3 (View.ld x0 (Rect.unit (s := S512x1024) ![0, 0] S512x1024.size inb_S512x1024_S512x1024_0_0)) (View.ld x1 (Rect.unit (s := S1x1024) ![0, 0] S1x1024.size inb_S1x1024_S1x1024_0_0)) (tile 512 inb_S1024x3072_S1024x512_0_512 x2)⟩,
    ⟨cols 0 inb_S512x1536_S512x512_0_0, k0_pay2 (View.ld x0 (Rect.unit (s := S512x1024) ![0, 0] S512x1024.size inb_S512x1024_S512x1024_0_0)) (View.ld x1 (Rect.unit (s := S1x1024) ![0, 0] S1x1024.size inb_S1x1024_S1x1024_0_0)) (tile 0 inb_S1024x3072_S1024x512_0_0 x2)⟩]

/-- The buffer's contents. -/
def out3 (x0 : Vec F S512x1024 .f32) (x1 : Vec F S1x1024 .f32) (x2 : Vec F S1024x3072 .bf16) : Vec F S512x1536 .f32 := View.canon (left3 x0 x1 x2)

/-- The stores cover the buffer. -/
theorem cover3 (x0 : Vec F S512x1024 .f32) (x1 : Vec F S1x1024 .f32) (x2 : Vec F S1024x3072 .bf16) (y : S512x1536.Idx) : ∃ pc ∈ left3 x0 x1 x2, y ∈ pc.1.set := by
  unfold left3
  have h : (y 1).val < 1536 := (y 1).isLt
  rcases (show (1024 ≤ (y 1).val ∧ (y 1).val < 1024 + 512) ∨ (512 ≤ (y 1).val ∧ (y 1).val < 512 + 512) ∨ (0 ≤ (y 1).val ∧ (y 1).val < 0 + 512) by omega) with h | h | h
  · exact ⟨_, List.mem_cons_self, mem_cols 1024 inb_S512x1536_S512x512_0_1024 y h⟩
  · exact ⟨_, List.mem_cons_of_mem _ List.mem_cons_self, mem_cols 512 inb_S512x1536_S512x512_0_512 y h⟩
  · exact ⟨_, List.mem_cons_of_mem _ (List.mem_cons_of_mem _ List.mem_cons_self), mem_cols 0 inb_S512x1536_S512x512_0_0 y h⟩

/-- Result 1's buffer after the body, its stores last first. -/
def left4 (x0 : Vec F S512x1024 .f32) (x1 : Vec F S1x1024 .f32) (x2 : Vec F S1024x3072 .bf16) : List (View.Piece (Elt F) S2048x128 .f32) :=
  [⟨every 3 inb_S2048x128_S512x128_3_0_s_4_1, k0_pay10 (normed x0 x1) (tile 2048 inb_S1024x3072_S1024x512_0_2048 x2)⟩,
    ⟨every 2 inb_S2048x128_S512x128_2_0_s_4_1, k0_pay9 (normed x0 x1) (tile 2048 inb_S1024x3072_S1024x512_0_2048 x2)⟩,
    ⟨every 1 inb_S2048x128_S512x128_1_0_s_4_1, k0_pay8 (normed x0 x1) (tile 2048 inb_S1024x3072_S1024x512_0_2048 x2)⟩,
    ⟨every 0 inb_S2048x128_S512x128_0_0_s_4_1, k0_pay7 (normed x0 x1) (tile 2048 inb_S1024x3072_S1024x512_0_2048 x2)⟩]

/-- The buffer's contents. -/
def out4 (x0 : Vec F S512x1024 .f32) (x1 : Vec F S1x1024 .f32) (x2 : Vec F S1024x3072 .bf16) : Vec F S2048x128 .f32 := View.canon (left4 x0 x1 x2)

/-- The stores cover the buffer. -/
theorem cover4 (x0 : Vec F S512x1024 .f32) (x1 : Vec F S1x1024 .f32) (x2 : Vec F S1024x3072 .bf16) (y : S2048x128.Idx) : ∃ pc ∈ left4 x0 x1 x2, y ∈ pc.1.set := by
  unfold left4
  have h : (y 0).val % 4 < 4 := Nat.mod_lt _ (by omega)
  rcases (show (y 0).val % 4 = 3 ∨ (y 0).val % 4 = 2 ∨ (y 0).val % 4 = 1 ∨ (y 0).val % 4 = 0 by omega) with h | h | h | h
  · exact ⟨_, List.mem_cons_self, mem_every 3 inb_S2048x128_S512x128_3_0_s_4_1 y h⟩
  · exact ⟨_, List.mem_cons_of_mem _ List.mem_cons_self, mem_every 2 inb_S2048x128_S512x128_2_0_s_4_1 y h⟩
  · exact ⟨_, List.mem_cons_of_mem _ (List.mem_cons_of_mem _ List.mem_cons_self), mem_every 1 inb_S2048x128_S512x128_1_0_s_4_1 y h⟩
  · exact ⟨_, List.mem_cons_of_mem _ (List.mem_cons_of_mem _ (List.mem_cons_of_mem _ List.mem_cons_self)), mem_every 0 inb_S2048x128_S512x128_0_0_s_4_1 y h⟩

/-- Result 2's buffer after the body, its stores last first. -/
def left5 (x0 : Vec F S512x1024 .f32) (x1 : Vec F S1x1024 .f32) (x2 : Vec F S1024x3072 .bf16) : List (View.Piece (Elt F) S2048x128 .f32) :=
  [⟨every 3 inb_S2048x128_S512x128_3_0_s_4_1, k0_pay16 (normed x0 x1) (tile 2560 inb_S1024x3072_S1024x512_0_2560 x2)⟩,
    ⟨every 2 inb_S2048x128_S512x128_2_0_s_4_1, k0_pay15 (normed x0 x1) (tile 2560 inb_S1024x3072_S1024x512_0_2560 x2)⟩,
    ⟨every 1 inb_S2048x128_S512x128_1_0_s_4_1, k0_pay14 (normed x0 x1) (tile 2560 inb_S1024x3072_S1024x512_0_2560 x2)⟩,
    ⟨every 0 inb_S2048x128_S512x128_0_0_s_4_1, k0_pay13 (normed x0 x1) (tile 2560 inb_S1024x3072_S1024x512_0_2560 x2)⟩]

/-- The buffer's contents. -/
def out5 (x0 : Vec F S512x1024 .f32) (x1 : Vec F S1x1024 .f32) (x2 : Vec F S1024x3072 .bf16) : Vec F S2048x128 .f32 := View.canon (left5 x0 x1 x2)

/-- The stores cover the buffer. -/
theorem cover5 (x0 : Vec F S512x1024 .f32) (x1 : Vec F S1x1024 .f32) (x2 : Vec F S1024x3072 .bf16) (y : S2048x128.Idx) : ∃ pc ∈ left5 x0 x1 x2, y ∈ pc.1.set := by
  unfold left5
  have h : (y 0).val % 4 < 4 := Nat.mod_lt _ (by omega)
  rcases (show (y 0).val % 4 = 3 ∨ (y 0).val % 4 = 2 ∨ (y 0).val % 4 = 1 ∨ (y 0).val % 4 = 0 by omega) with h | h | h | h
  · exact ⟨_, List.mem_cons_self, mem_every 3 inb_S2048x128_S512x128_3_0_s_4_1 y h⟩
  · exact ⟨_, List.mem_cons_of_mem _ List.mem_cons_self, mem_every 2 inb_S2048x128_S512x128_2_0_s_4_1 y h⟩
  · exact ⟨_, List.mem_cons_of_mem _ (List.mem_cons_of_mem _ List.mem_cons_self), mem_every 1 inb_S2048x128_S512x128_1_0_s_4_1 y h⟩
  · exact ⟨_, List.mem_cons_of_mem _ (List.mem_cons_of_mem _ (List.mem_cons_of_mem _ List.mem_cons_self)), mem_every 0 inb_S2048x128_S512x128_0_0_s_4_1 y h⟩

/-- Result 3's buffer after the body, its stores last first. -/
def left6 (x0 : Vec F S512x1024 .f32) (x1 : Vec F S1x1024 .f32) (x2 : Vec F S1024x3072 .bf16) : List (View.Piece (Elt F) S512x1536 .bf16) :=
  [⟨cols 1024 inb_S512x1536_S512x512_0_1024, k0_pay17 (normed x0 x1) (tile 2560 inb_S1024x3072_S1024x512_0_2560 x2)⟩,
    ⟨cols 512 inb_S512x1536_S512x512_0_512, k0_pay11 (normed x0 x1) (tile 2048 inb_S1024x3072_S1024x512_0_2048 x2)⟩,
    ⟨cols 0 inb_S512x1536_S512x512_0_0, k0_pay5 (View.ld x0 (Rect.unit (s := S512x1024) ![0, 0] S512x1024.size inb_S512x1024_S512x1024_0_0)) (View.ld x1 (Rect.unit (s := S1x1024) ![0, 0] S1x1024.size inb_S1x1024_S1x1024_0_0)) (tile 1536 inb_S1024x3072_S1024x512_0_1536 x2)⟩]

/-- The buffer's contents. -/
def out6 (x0 : Vec F S512x1024 .f32) (x1 : Vec F S1x1024 .f32) (x2 : Vec F S1024x3072 .bf16) : Vec F S512x1536 .bf16 := View.canon (left6 x0 x1 x2)

/-- The stores cover the buffer. -/
theorem cover6 (x0 : Vec F S512x1024 .f32) (x1 : Vec F S1x1024 .f32) (x2 : Vec F S1024x3072 .bf16) (y : S512x1536.Idx) : ∃ pc ∈ left6 x0 x1 x2, y ∈ pc.1.set := by
  unfold left6
  have h : (y 1).val < 1536 := (y 1).isLt
  rcases (show (1024 ≤ (y 1).val ∧ (y 1).val < 1024 + 512) ∨ (512 ≤ (y 1).val ∧ (y 1).val < 512 + 512) ∨ (0 ≤ (y 1).val ∧ (y 1).val < 0 + 512) by omega) with h | h | h
  · exact ⟨_, List.mem_cons_self, mem_cols 1024 inb_S512x1536_S512x512_0_1024 y h⟩
  · exact ⟨_, List.mem_cons_of_mem _ List.mem_cons_self, mem_cols 512 inb_S512x1536_S512x512_0_512 y h⟩
  · exact ⟨_, List.mem_cons_of_mem _ (List.mem_cons_of_mem _ List.mem_cons_self), mem_cols 0 inb_S512x1536_S512x512_0_0 y h⟩

set_option maxHeartbeats 4000000 in
/-- The body leaves its inputs as they were and the results as above. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S512x1536 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S512x1536 .bf16) (harg7 : arg7.IsWhole)
    (x0 : Vec F S512x1024 .f32) (x1 : Vec F S1x1024 .f32) (x2 : Vec F S1024x3072 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2) ∗ owns (c : Thread nD τ) arg5 fullShare (out4 x0 x1 x2) ∗ owns (c : Thread nD τ) arg6 fullShare (out5 x0 x1 x2) ∗ owns (c : Thread nD τ) arg7 fullShare (out6 x0 x1 x2)) -∗ K ⟨⟩))
      ⊢ wp frame (wpE (defs₀ (F := F)) Variants.none c none) E (cc0_proj i arg1 harg1 arg2 harg2 arg3 harg3 arg4 harg4 arg5 harg5 arg6 harg6 arg7 harg7) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 (arg1.view.read (Elt F) f0) (arg2.view.read (Elt F) f1) (arg3.view.read (Elt F) f2))
  isplitl [H4]
  · iexists _; isplitr
    swap; · iexact H4
    ipureintro
    exact View.read_writes_eq_canon _ _ _ (cover4 (arg1.view.read (Elt F) f0) (arg2.view.read (Elt F) f1) (arg3.view.read (Elt F) f2))
  isplitl [H5]
  · iexists _; isplitr
    swap; · iexact H5
    ipureintro
    exact View.read_writes_eq_canon _ _ _ (cover5 (arg1.view.read (Elt F) f0) (arg2.view.read (Elt F) f1) (arg3.view.read (Elt F) f2))
  iexists _; isplitr
  swap; · iexact H6
  ipureintro
  exact View.read_writes_eq_canon _ _ _ (cover6 (arg1.view.read (Elt F) f0) (arg2.view.read (Elt F) f1) (arg3.view.read (Elt F) f2))

end Body

variable (m : (ℓ : Loc nD τ sig) → Buf (Elt F) ℓ) (ρ : Dev nD → PrngReg)

/-! ## The call's data -/

/-- The buffers as the call finds them: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The arrays as found, each input's block in place after the body, each result's buffer as the body left it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
    | ⟨4, _⟩ => out4 (iblk m c 0 t) (iblk m c 1 t) (iblk m c 2 t)
    | ⟨5, _⟩ => out5 (iblk m c 0 t) (iblk m c 1 t) (iblk m c 2 t)
    | ⟨6, _⟩ => out6 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 (iblk m c 0 t) (iblk m c 1 t) (iblk m c 2 t) := by dsimp only [dats]
theorem after0_4 (c : Dev nD) (t : Fin cfg0.N) : (dats m 0 c).after 4 t = out4 (iblk m c 0 t) (iblk m c 1 t) (iblk m c 2 t) := by dsimp only [dats]
theorem after0_5 (c : Dev nD) (t : Fin cfg0.N) : (dats m 0 c).after 5 t = out5 (iblk m c 0 t) (iblk m c 1 t) (iblk m c 2 t) := by dsimp only [dats]
theorem after0_6 (c : Dev nD) (t : Fin cfg0.N) : (dats m 0 c).after 6 t = out6 (iblk m c 0 t) (iblk m c 1 t) (iblk m c 2 t) := by dsimp only [dats]

/-- An input's buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run ends with the call's arrays at what its data computes, and no semaphore held. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2))⟩)
    ((θ_run defs _ _).mono (fun _ h => h.1) (run_quiescent m ρ))

/-- So do they with every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

/-- Every run ends with the results at these arrays and the arguments as they were. -/
theorem run_arrays : θ_run defs (onTc (τ := τ) (main (F := F))) ⟨m, fun _ => 0, ρ⟩ (fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_v0_2) = (dats m 0 c).arrAt 5 cfg0.N
      ∧ r.2.mem ((c.tc : Thread nD τ).loc main_v0_3) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.1 c).1 3, (h.1.1 c).1 4, (h.1.1 c).1 5, (h.1.1 c).1 6, h.2 c⟩)
    (θ_run_and (run_quiescent m ρ) (unchanged m ρ))

end Cert.Kernel6Ideal.Even

end
-- ==== Proof.EvenValue.lean ====
/- The projection of the even layers over the extended reals: what a block's stores hold, and the results' arrays place by place. -/
module

public import proofs.«01_k».proof.Proof.EvenFrame
public import proofs.«01_k».proof.Proof.ProjValue
public import Idealize.ShloMosaic.Lib.Pointwise
public import Idealize.ShloMosaic.Lib.ValueIdx
public import Idealize.ShloMosaic.PureOps.Ideal.Laws

@[expose] public section

set_option maxRecDepth 16384

noncomputable section

namespace Cert.Kernel6Ideal.Even

open Cert Cert.Kernel6Ideal Cert.Kernel6Ideal.Gen Idealize.ShloMosaic Idealize.ShloMosaic.TcCoe Idealize.ShloMosaic.Tactic Idealize.SL.Sem

theorem zero2 : (![0, 0] : Fin 2 → ℕ) = fun _ => 0 := by funext d; match d with | ⟨0, _⟩ => rfl | ⟨1, _⟩ => rfl

section Block

variable (x0 : Vec Ideal S512x1024 .f32) (x1 : Vec Ideal S1x1024 .f32) (x2 : Vec Ideal S1024x3072 .bf16)

/-- Row `r` of the block through column `n` of the weights. -/
def z (r n : ℕ) : EReal :=
  Cert.Proj.through (fun k => x0 (ix2 (Fin.ofNat 512 r) k)) (fun k => x1 (ix2 0 k)) (fun k => x2 (ix2 k (Fin.ofNat 3072 n)))

/-- The normed rows. -/
theorem pay1_at (r : Fin 512) (k : Fin 1024) : k0_pay1 x0 x1 (ix2 r k) = Ffn.norm (fun k => x0 (ix2 r k)) (fun k => x1 (ix2 0 k)) k := by
  pointwise [k0_pay1]
  rfl

theorem normed_at (r : Fin 512) (k : Fin 1024) : normed x0 x1 (ix2 r k) = Ffn.norm (fun k => x0 (ix2 r k)) (fun k => x1 (ix2 0 k)) k := by
  unfold normed
  rw [View.ld_unit_zero zero2, View.ld_unit_zero zero2]
  exact pay1_at x0 x1 r k

/-- Rows through 512 columns. -/
theorem pay6_at (h : FVec Ideal S512x1024 .bf16) (w : Vec Ideal S1024x512 .bf16) (r q : Fin 512) :
    (k0_pay6 h w (ix2 r q) : EReal) = ∑ k : Fin 1024, (h (ix2 r k) : EReal) * w (ix2 k q) := by
  pointwise [k0_pay6]

/-- A tile of the product. -/
theorem tile_at (o : ℕ) (inb) (ho : o ≤ 2560) (r q : Fin 512) : (k0_pay6 (normed x0 x1) (tile o inb x2) (ix2 r q) : EReal) = z x0 x1 x2 r.val (o + q.val) := by
  rw [pay6_at]
  unfold z Cert.Proj.through
  refine Finset.sum_congr rfl fun k _ => ?_
  rw [normed_at, Fin.ofNat_val_eq_self]
  refine congrArg (fun u : EReal => Ffn.norm (fun k => x0 (ix2 r k)) (fun k => x1 (ix2 0 k)) k * u) (congrArg x2 (funext fun d => ?_))
  match d with
  | ⟨0, _⟩ => exact Fin.ext (by show 0 + 1 * k.val = k.val; omega)
  | ⟨1, _⟩ => exact Fin.ext (by show o + 1 * q.val = (o + q.val) % 3072; have := q.isLt; omega)

/-- The values by head: row `4 s + i` holds head `i` of row `s`, the heads' columns from `b`. -/
def heads (b : ℕ) (y : S2048x128.Idx) : EReal := z x0 x1 x2 ((y 0).val / 4) (b + (y 0).val % 4 * 128 + (y 1).val)

/-- A head's piece, cut from a tile and stored at every fourth row. -/
theorem head_piece (b i q : ℕ) (hb : i * 128 = q) (hi : i < 4) (hq : q ≤ 384) (ho : b ≤ 2560) (inb) (inb') (hs : S512x512.Slices ![0, q] S512x128)
    (x : S512x128.Idx) :
    (extractStridedSlice S512x128 ![0, q] (k0_pay6 (normed x0 x1) (tile b inb x2)) hs x : EReal) = heads x0 x1 x2 b ((every i inb').emb x) := by
  have h0 : (x 0).val < 512 := (x 0).isLt
  have h1 : (x 1).val < 128 := (x 1).isLt
  refine (extractStridedSlice_apply ![0, q] _ hs x (ix2 (n0 := 512) (n1 := 512) ⟨(x 0).val, h0⟩ ⟨q + (x 1).val, by omega⟩) (fun a => ?_)).trans ?_
  · match a with
    | ⟨0, _⟩ => show (x 0).val = 0 + (x 0).val; omega
    | ⟨1, _⟩ => rfl
  · rw [tile_at x0 x1 x2 b inb ho]
    unfold heads
    show z x0 x1 x2 (x 0).val (b + (q + (x 1).val)) = z x0 x1 x2 ((i + 4 * (x 0).val) / 4) (b + (i + 4 * (x 0).val) % 4 * 128 + (0 + 1 * (x 1).val))
    rw [show (i + 4 * (x 0).val) / 4 = (x 0).val from by omega, show (i + 4 * (x 0).val) % 4 = i from by omega]
    congr 1
    omega

/-- The values side by side, from column `b` of the product. -/
def flat (b : ℕ) (y : S512x1536.Idx) : EReal := z x0 x1 x2 (y 0).val (b + (y 1).val)

/-- A tile's piece. -/
theorem flat_piece (b o p : ℕ) (hp : o = b + p) (ho : o ≤ 2560) (inb) (inb') (x : S512x512.Idx) :
    (k0_pay6 (normed x0 x1) (tile o inb x2) x : EReal) = flat x0 x1 x2 b ((cols p inb').emb x) := by
  have e : x = ix2 (n0 := 512) (n1 := 512) ⟨(x 0).val, (x 0).isLt⟩ ⟨(x 1).val, (x 1).isLt⟩ := funext fun d => by
    match d with
    | ⟨0, _⟩ => rfl
    | ⟨1, _⟩ => rfl
  have h := tile_at x0 x1 x2 o inb ho ⟨(x 0).val, (x 0).isLt⟩ ⟨(x 1).val, (x 1).isLt⟩
  rw [← e] at h
  rw [h]
  unfold flat
  show z x0 x1 x2 (x 0).val (o + (x 1).val) = z x0 x1 x2 (0 + 1 * (x 0).val) (b + (p + 1 * (x 1).val))
  rw [Nat.zero_add, Nat.one_mul, Nat.one_mul, hp, Nat.add_assoc]

theorem out3_at (y : S512x1536.Idx) : (out3 x0 x1 x2 y : EReal) = flat x0 x1 x2 0 y := by
  unfold out3
  refine View.canon_apply_of_pieces (flat x0 x1 x2 0) _ (fun p hp x => ?_) y (cover3 x0 x1 x2 y)
  unfold left3 at hp
  simp only [List.mem_cons, List.not_mem_nil, or_false] at hp
  rcases hp with rfl | rfl | rfl
  · exact flat_piece x0 x1 x2 0 1024 1024 rfl (by omega) _ inb_S512x1536_S512x512_0_1024 x
  · exact flat_piece x0 x1 x2 0 512 512 rfl (by omega) _ inb_S512x1536_S512x512_0_512 x
  · exact flat_piece x0 x1 x2 0 0 0 rfl (by omega) _ inb_S512x1536_S512x512_0_0 x

theorem out6_at (y : S512x1536.Idx) : (out6 x0 x1 x2 y : EReal) = flat x0 x1 x2 1536 y := by
  unfold out6
  refine View.canon_apply_of_pieces (flat x0 x1 x2 1536) _ (fun p hp x => ?_) y (cover6 x0 x1 x2 y)
  unfold left6 at hp
  simp only [List.mem_cons, List.not_mem_nil, or_false] at hp
  rcases hp with rfl | rfl | rfl
  · exact flat_piece x0 x1 x2 1536 2560 1024 rfl (by omega) _ inb_S512x1536_S512x512_0_1024 x
  · exact flat_piece x0 x1 x2 1536 2048 512 rfl (by omega) _ inb_S512x1536_S512x512_0_512 x
  · exact flat_piece x0 x1 x2 1536 1536 0 rfl (by omega) _ inb_S512x1536_S512x512_0_0 x

theorem out4_at (y : S2048x128.Idx) : (out4 x0 x1 x2 y : EReal) = heads x0 x1 x2 2048 y := by
  unfold out4
  refine View.canon_apply_of_pieces (heads x0 x1 x2 2048) _ (fun p hp x => ?_) y (cover4 x0 x1 x2 y)
  unfold left4 at hp
  simp only [List.mem_cons, List.not_mem_nil, or_false] at hp
  rcases hp with rfl | rfl | rfl | rfl
  · exact head_piece x0 x1 x2 2048 3 384 rfl (by omega) (by omega) (by omega) _ _ slices_S512x512_o0_384_S512x128 x
  · exact head_piece x0 x1 x2 2048 2 256 rfl (by omega) (by omega) (by omega) _ _ slices_S512x512_o0_256_S512x128 x
  · exact head_piece x0 x1 x2 2048 1 128 rfl (by omega) (by omega) (by omega) _ _ slices_S512x512_o0_128_S512x128 x
  · exact head_piece x0 x1 x2 2048 0 0 rfl (by omega) (by omega) (by omega) _ _ slices_S512x512_o0_0_S512x128 x

theorem out5_at (y : S2048x128.Idx) : (out5 x0 x1 x2 y : EReal) = heads x0 x1 x2 2560 y := by
  unfold out5
  refine View.canon_apply_of_pieces (heads x0 x1 x2 2560) _ (fun p hp x => ?_) y (cover5 x0 x1 x2 y)
  unfold left5 at hp
  simp only [List.mem_cons, List.not_mem_nil, or_false] at hp
  rcases hp with rfl | rfl | rfl | rfl
  · exact head_piece x0 x1 x2 2560 3 384 rfl (by omega) (by omega) (by omega) _ _ slices_S512x512_o0_384_S512x128 x
  · exact head_piece x0 x1 x2 2560 2 256 rfl (by omega) (by omega) (by omega) _ _ slices_S512x512_o0_256_S512x128 x
  · exact head_piece x0 x1 x2 2560 1 128 rfl (by omega) (by omega) (by omega) _ _ slices_S512x512_o0_128_S512x128 x
  · exact head_piece x0 x1 x2 2560 0 0 rfl (by omega) (by omega) (by omega) _ _ slices_S512x512_o0_0_S512x128 x

end Block

/-! ## The results' arrays -/

/-- The grid is 32 blocks of 512 rows; where each window's block sits. -/
theorem index_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Distinct points write distinct blocks of the first result. -/
theorem apart3 (t t' : Fin cfg0.N) (hne : t ≠ t') : Disjoint ((cfg0.win 3).blk t).view.set ((cfg0.win 3).blk t').view.set :=
  (cfg0.win 3).disjoint_blk fun h => hne (Fin.ext (by
    have := congrFun h (0 : Fin 2)
    have e : win0_3.index t (0 : Fin 2) = win0_3.index t' (0 : Fin 2) := this
    obtain ⟨_, _, _, ⟨a3, _⟩, ⟨a4, _⟩, ⟨a5, _⟩, ⟨a6, _⟩⟩ := index_at t
    obtain ⟨_, _, _, ⟨b3, _⟩, ⟨b4, _⟩, ⟨b5, _⟩, ⟨b6, _⟩⟩ := index_at t'
    rwa [a3, b3] at e))

/-- Distinct points write distinct blocks of the second result. -/
theorem apart4 (t t' : Fin cfg0.N) (hne : t ≠ t') : Disjoint ((cfg0.win 4).blk t).view.set ((cfg0.win 4).blk t').view.set :=
  (cfg0.win 4).disjoint_blk fun h => hne (Fin.ext (by
    have := congrFun h (0 : Fin 2)
    have e : win0_4.index t (0 : Fin 2) = win0_4.index t' (0 : Fin 2) := this
    obtain ⟨_, _, _, ⟨a3, _⟩, ⟨a4, _⟩, ⟨a5, _⟩, ⟨a6, _⟩⟩ := index_at t
    obtain ⟨_, _, _, ⟨b3, _⟩, ⟨b4, _⟩, ⟨b5, _⟩, ⟨b6, _⟩⟩ := index_at t'
    rwa [a4, b4] at e))

/-- Distinct points write distinct blocks of the third result. -/
theorem apart5 (t t' : Fin cfg0.N) (hne : t ≠ t') : Disjoint ((cfg0.win 5).blk t).view.set ((cfg0.win 5).blk t').view.set :=
  (cfg0.win 5).disjoint_blk fun h => hne (Fin.ext (by
    have := congrFun h (0 : Fin 2)
    have e : win0_5.index t (0 : Fin 2) = win0_5.index t' (0 : Fin 2) := this
    obtain ⟨_, _, _, ⟨a3, _⟩, ⟨a4, _⟩, ⟨a5, _⟩, ⟨a6, _⟩⟩ := index_at t
    obtain ⟨_, _, _, ⟨b3, _⟩, ⟨b4, _⟩, ⟨b5, _⟩, ⟨b6, _⟩⟩ := index_at t'
    rwa [a5, b5] at e))

/-- Distinct points write distinct blocks of the fourth result. -/
theorem apart6 (t t' : Fin cfg0.N) (hne : t ≠ t') : Disjoint ((cfg0.win 6).blk t).view.set ((cfg0.win 6).blk t').view.set :=
  (cfg0.win 6).disjoint_blk fun h => hne (Fin.ext (by
    have := congrFun h (0 : Fin 2)
    have e : win0_6.index t (0 : Fin 2) = win0_6.index t' (0 : Fin 2) := this
    obtain ⟨_, _, _, ⟨a3, _⟩, ⟨a4, _⟩, ⟨a5, _⟩, ⟨a6, _⟩⟩ := index_at t
    obtain ⟨_, _, _, ⟨b3, _⟩, ⟨b4, _⟩, ⟨b5, _⟩, ⟨b6, _⟩⟩ := index_at t'
    rwa [a6, b6] at e))

variable (m : (ℓ : Loc nD τ sig) → Buf (Elt Ideal) ℓ) (c : Dev nD)

theorem result_block3 (t : Fin cfg0.N) (r : Fin 512) (k : Fin 1536) (a : Fin 16384) (ha : a.val = t.val * 512 + r.val) :
    (dats m 0 c).arrAt 3 cfg0.N (ix2 a k : S16384x1536.Idx) = out3 (iblk m c 0 t) (iblk m c 1 t) (iblk m c 2 t) (ix2 r k : S512x1536.Idx) := by
  obtain ⟨_, _, _, i3, i4, i5, i6⟩ := index_at t
  obtain ⟨h0, h1⟩ := i3
  have hb := congrFun ((dats m 0 c).read_blk_arrAt_eq_flushed 3 (fun t t' _ _ h => apart3 t t' h) cfg0.N t t.isLt (flush0_3 t)) (ix2 r k : S512x1536.Idx)
  rw [show (dats m 0 c).flushed 3 t = (cfg0.win 3).cut (grid0.coords t) (out3 (iblk m c 0 t) (iblk m c 1 t) (iblk m c 2 t)) from by
    show (cfg0.win 3).cut (grid0.coords t) ((dats m 0 c).after 3 t) = _
    rw [after0_3]] at hb
  refine Eq.trans (congrArg ((dats m 0 c).arrAt 3 cfg0.N) (funext fun d => ?_)) hb
  match d with
  | ⟨0, _⟩ => exact Fin.ext (by show a.val = win0_3.index t (0 : Fin 2) * 512 + 1 * r.val; rw [h0]; omega)
  | ⟨1, _⟩ => exact Fin.ext (by show k.val = win0_3.index t (1 : Fin 2) * 1536 + 1 * k.val; rw [h1]; omega)

theorem result_block4 (t : Fin cfg0.N) (r : Fin 2048) (k : Fin 128) (a : Fin 65536) (ha : a.val = t.val * 2048 + r.val) :
    (dats m 0 c).arrAt 4 cfg0.N (ix2 a k : S65536x128.Idx) = out4 (iblk m c 0 t) (iblk m c 1 t) (iblk m c 2 t) (ix2 r k : S2048x128.Idx) := by
  obtain ⟨_, _, _, i3, i4, i5, i6⟩ := index_at t
  obtain ⟨h0, h1⟩ := i4
  have hb := congrFun ((dats m 0 c).read_blk_arrAt_eq_flushed 4 (fun t t' _ _ h => apart4 t t' h) cfg0.N t t.isLt (flush0_4 t)) (ix2 r k : S2048x128.Idx)
  rw [show (dats m 0 c).flushed 4 t = (cfg0.win 4).cut (grid0.coords t) (out4 (iblk m c 0 t) (iblk m c 1 t) (iblk m c 2 t)) from by
    show (cfg0.win 4).cut (grid0.coords t) ((dats m 0 c).after 4 t) = _
    rw [after0_4]] at hb
  refine Eq.trans (congrArg ((dats m 0 c).arrAt 4 cfg0.N) (funext fun d => ?_)) hb
  match d with
  | ⟨0, _⟩ => exact Fin.ext (by show a.val = win0_4.index t (0 : Fin 2) * 2048 + 1 * r.val; rw [h0]; omega)
  | ⟨1, _⟩ => exact Fin.ext (by show k.val = win0_4.index t (1 : Fin 2) * 128 + 1 * k.val; rw [h1]; omega)

theorem result_block5 (t : Fin cfg0.N) (r : Fin 2048) (k : Fin 128) (a : Fin 65536) (ha : a.val = t.val * 2048 + r.val) :
    (dats m 0 c).arrAt 5 cfg0.N (ix2 a k : S65536x128.Idx) = out5 (iblk m c 0 t) (iblk m c 1 t) (iblk m c 2 t) (ix2 r k : S2048x128.Idx) := by
  obtain ⟨_, _, _, i3, i4, i5, i6⟩ := index_at t
  obtain ⟨h0, h1⟩ := i5
  have hb := congrFun ((dats m 0 c).read_blk_arrAt_eq_flushed 5 (fun t t' _ _ h => apart5 t t' h) cfg0.N t t.isLt (flush0_5 t)) (ix2 r k : S2048x128.Idx)
  rw [show (dats m 0 c).flushed 5 t = (cfg0.win 5).cut (grid0.coords t) (out5 (iblk m c 0 t) (iblk m c 1 t) (iblk m c 2 t)) from by
    show (cfg0.win 5).cut (grid0.coords t) ((dats m 0 c).after 5 t) = _
    rw [after0_5]] at hb
  refine Eq.trans (congrArg ((dats m 0 c).arrAt 5 cfg0.N) (funext fun d => ?_)) hb
  match d with
  | ⟨0, _⟩ => exact Fin.ext (by show a.val = win0_5.index t (0 : Fin 2) * 2048 + 1 * r.val; rw [h0]; omega)
  | ⟨1, _⟩ => exact Fin.ext (by show k.val = win0_5.index t (1 : Fin 2) * 128 + 1 * k.val; rw [h1]; omega)

theorem result_block6 (t : Fin cfg0.N) (r : Fin 512) (k : Fin 1536) (a : Fin 16384) (ha : a.val = t.val * 512 + r.val) :
    (dats m 0 c).arrAt 6 cfg0.N (ix2 a k : S16384x1536.Idx) = out6 (iblk m c 0 t) (iblk m c 1 t) (iblk m c 2 t) (ix2 r k : S512x1536.Idx) := by
  obtain ⟨_, _, _, i3, i4, i5, i6⟩ := index_at t
  obtain ⟨h0, h1⟩ := i6
  have hb := congrFun ((dats m 0 c).read_blk_arrAt_eq_flushed 6 (fun t t' _ _ h => apart6 t t' h) cfg0.N t t.isLt (flush0_6 t)) (ix2 r k : S512x1536.Idx)
  rw [show (dats m 0 c).flushed 6 t = (cfg0.win 6).cut (grid0.coords t) (out6 (iblk m c 0 t) (iblk m c 1 t) (iblk m c 2 t)) from by
    show (cfg0.win 6).cut (grid0.coords t) ((dats m 0 c).after 6 t) = _
    rw [after0_6]] at hb
  refine Eq.trans (congrArg ((dats m 0 c).arrAt 6 cfg0.N) (funext fun d => ?_)) hb
  match d with
  | ⟨0, _⟩ => exact Fin.ext (by show a.val = win0_6.index t (0 : Fin 2) * 512 + 1 * r.val; rw [h0]; omega)
  | ⟨1, _⟩ => exact Fin.ext (by show k.val = win0_6.index t (1 : Fin 2) * 1536 + 1 * k.val; rw [h1]; omega)

/-- The rows, the norm's scale and the weights as launched. -/
abbrev xArg : S16384x1024.Idx → EReal := m ((c : Thread nD τ).loc main_arg0)
abbrev gArg : S1x1024.Idx → EReal := m ((c : Thread nD τ).loc main_arg1)
abbrev wArg : S1024x3072.Idx → EReal := m ((c : Thread nD τ).loc main_arg2)

theorem block_x (t : Fin cfg0.N) (r : Fin 512) (k : Fin 1024) (a : Fin 16384) (ha : a.val = t.val * 512 + r.val) :
    (iblk m c 0 t (ix2 r k : S512x1024.Idx) : EReal) = xArg m c (ix2 a k) := by
  obtain ⟨⟨h0, h1⟩, _⟩ := index_at t
  show V m c main_arg0 _ = _
  refine congrArg _ (funext fun d => ?_)
  match d with
  | ⟨0, _⟩ => exact Fin.ext (by show win0_0.index t (0 : Fin 2) * 512 + 1 * r.val = a.val; rw [h0]; omega)
  | ⟨1, _⟩ => exact Fin.ext (by show win0_0.index t (1 : Fin 2) * 1024 + 1 * k.val = k.val; rw [h1]; omega)

theorem block_g (t : Fin cfg0.N) (k : Fin 1) (j : Fin 1024) : (iblk m c 1 t (ix2 k j : S1x1024.Idx) : EReal) = gArg m c (ix2 k j) := by
  obtain ⟨_, ⟨h0, h1⟩, _⟩ := index_at t
  show V m c main_arg1 _ = _
  refine congrArg _ (funext fun d => ?_)
  match d with
  | ⟨0, _⟩ => exact Fin.ext (by show win0_1.index t (0 : Fin 2) * 1 + 1 * k.val = k.val; rw [h0]; omega)
  | ⟨1, _⟩ => exact Fin.ext (by show win0_1.index t (1 : Fin 2) * 1024 + 1 * j.val = j.val; rw [h1]; omega)

theorem block_w (t : Fin cfg0.N) (k : Fin 1024) (j : Fin 3072) : (iblk m c 2 t (ix2 k j : S1024x3072.Idx) : EReal) = wArg m c (ix2 k j) := by
  obtain ⟨_, _, ⟨h0, h1⟩, _⟩ := index_at t
  show V m c main_arg2 _ = _
  refine congrArg _ (funext fun d => ?_)
  match d with
  | ⟨0, _⟩ => exact Fin.ext (by show win0_2.index t (0 : Fin 2) * 1024 + 1 * k.val = k.val; rw [h0]; omega)
  | ⟨1, _⟩ => exact Fin.ext (by show win0_2.index t (1 : Fin 2) * 3072 + 1 * j.val = j.val; rw [h1]; omega)

/-- A token's row through column `n` of the weights. -/
def value (a : Fin 16384) (n : ℕ) : EReal :=
  Cert.Proj.through (fun k => xArg m c (ix2 a k)) (fun k => gArg m c (ix2 0 k)) (fun k => wArg m c (ix2 k (Fin.ofNat 3072 n)))

theorem z_block (t : Fin cfg0.N) (r n : ℕ) (hr : r < 512) (a : Fin 16384) (ha : a.val = t.val * 512 + r) :
    z (iblk m c 0 t) (iblk m c 1 t) (iblk m c 2 t) r n = value m c a n := by
  unfold z value
  congr 1
  · funext k
    exact block_x m c t (Fin.ofNat 512 r) k a (by show a.val = t.val * 512 + r % 512; rw [Nat.mod_eq_of_lt hr]; exact ha)
  · funext k; exact block_g m c t 0 k
  · funext k; exact block_w m c t k _

/-- The first result at a token and a column. -/
theorem result3_at (a : Fin 16384) (j : Fin 1536) :
    ((dats m 0 c).arrAt 3 cfg0.N (ix2 a j : S16384x1536.Idx) : EReal) = value m c a (0 + j.val) := by
  have hN : a.val / 512 < cfg0.N := by rw [show cfg0.N = 32 from N_0]; omega
  rw [result_block3 m c ⟨a.val / 512, hN⟩ ⟨a.val % 512, by omega⟩ j a (by show a.val = a.val / 512 * 512 + a.val % 512; omega), out3_at]
  unfold flat
  exact z_block m c _ _ _ (Nat.mod_lt _ (by omega)) _ (by show a.val = a.val / 512 * 512 + a.val % 512; omega)

/-- The fourth result at a token and a column. -/
theorem result6_at (a : Fin 16384) (j : Fin 1536) :
    ((dats m 0 c).arrAt 6 cfg0.N (ix2 a j : S16384x1536.Idx) : EReal) = value m c a (1536 + j.val) := by
  have hN : a.val / 512 < cfg0.N := by rw [show cfg0.N = 32 from N_0]; omega
  rw [result_block6 m c ⟨a.val / 512, hN⟩ ⟨a.val % 512, by omega⟩ j a (by show a.val = a.val / 512 * 512 + a.val % 512; omega), out6_at]
  unfold flat
  exact z_block m c _ _ _ (Nat.mod_lt _ (by omega)) _ (by show a.val = a.val / 512 * 512 + a.val % 512; omega)

/-- The second result at a row, of token `a / 4` and head `a % 4`, and a column. -/
theorem result4_at (a : Fin 65536) (j : Fin 128) :
    ((dats m 0 c).arrAt 4 cfg0.N (ix2 a j : S65536x128.Idx) : EReal) = value m c ⟨a.val / 4, by omega⟩ (2048 + a.val % 4 * 128 + j.val) := by
  have hN : a.val / 2048 < cfg0.N := by rw [show cfg0.N = 32 from N_0]; omega
  rw [result_block4 m c ⟨a.val / 2048, hN⟩ ⟨a.val % 2048, by omega⟩ j a (by show a.val = a.val / 2048 * 2048 + a.val % 2048; omega), out4_at]
  unfold heads
  show z _ _ _ (a.val % 2048 / 4) (2048 + a.val % 2048 % 4 * 128 + j.val) = _
  rw [show a.val % 2048 % 4 = a.val % 4 from by omega]
  exact z_block m c _ _ _ (by omega) _ (by show a.val / 4 = a.val / 2048 * 512 + a.val % 2048 / 4; omega)

/-- The third result at a row, of token `a / 4` and head `a % 4`, and a column. -/
theorem result5_at (a : Fin 65536) (j : Fin 128) :
    ((dats m 0 c).arrAt 5 cfg0.N (ix2 a j : S65536x128.Idx) : EReal) = value m c ⟨a.val / 4, by omega⟩ (2560 + a.val % 4 * 128 + j.val) := by
  have hN : a.val / 2048 < cfg0.N := by rw [show cfg0.N = 32 from N_0]; omega
  rw [result_block5 m c ⟨a.val / 2048, hN⟩ ⟨a.val % 2048, by omega⟩ j a (by show a.val = a.val / 2048 * 2048 + a.val % 2048; omega), out5_at]
  unfold heads
  show z _ _ _ (a.val % 2048 / 4) (2560 + a.val % 2048 % 4 * 128 + j.val) = _
  rw [show a.val % 2048 % 4 = a.val % 4 from by omega]
  exact z_block m c _ _ _ (by omega) _ (by show a.val / 4 = a.val / 2048 * 512 + a.val % 2048 / 4; omega)

end Cert.Kernel6Ideal.Even

end
-- ==== Proof.EvenReference.lean ====
/- The even layers' projection's reference over the extended reals, place by place. -/
module

public import proofs.«01_k».proof.Proof.EvenValue
public import proofs.«01_k».proof.Proof.Gen.Reference6Ideal.Read

@[expose] public section

set_option maxRecDepth 16384

noncomputable section

namespace Cert.Reference6Ideal.Even

open Cert.Reference6Ideal Cert.Reference6Ideal.Read Idealize.ShloMosaic Idealize.ShloMosaic.TcCoe Idealize.ShloMosaic.Tactic Cert

variable (x0 : (⟨S16384x1024, .f32⟩ : BufTy).Contents (Elt Ideal)) (x1 : (⟨S1x1024, .f32⟩ : BufTy).Contents (Elt Ideal))
  (x2 : (⟨S1024x3072, .bf16⟩ : BufTy).Contents (Elt Ideal))

/-- A sum that starts at the zero constant is the sum. -/
theorem from_zero {a b : EReal} (h : a = b) : Ideal.ofBits .f32 0x00000000#32 + a = b := by
  rw [Ideal.ofBits_zero_f32, zero_add, h]

/-- The normed rows. -/
theorem norm_at (a : Fin 16384) (k : Fin 1024) :
    (val_main_v11 (F := Ideal) x0 x1 (ix2 a k) : EReal) = Ffn.norm (fun k => x0 (ix2 a k)) (fun k => x1 (ix2 0 k)) k := by
  have hx : (val_main_v10 (F := Ideal) x1 (ix2 a k) : EReal) = x1 (ix2 0 k) := by
    rw [val_main_v10_apply]
    refine congrArg x1 (funext fun d => ?_)
    match d with
    | ⟨0, _⟩ => rfl
    | ⟨1, _⟩ => rfl
  have hr : (val_main_v8 (F := Ideal) x0 (ix2 a k) : EReal)
      = Ideal.rsqrt (Ideal.div (∑ k : Fin 1024, (x0 (ix2 a k) : EReal) * x0 (ix2 a k)) (Ideal.ofBits .f32 0x44800000#32) + Ideal.ofBits .f32 0x358637BD#32) := by
    rw [val_main_v8_apply, val_main_v7_apply, val_main_v6_apply, val_main_v4_apply, val_main_v2_apply, val_main_v1_apply, val_main_v3_apply, val_main_v5_apply]
    refine congrArg (fun u : EReal => Ideal.rsqrt (Ideal.div u (Ideal.ofBits .f32 0x44800000#32) + Ideal.ofBits .f32 0x358637BD#32)) (from_zero ?_)
    refine Finset.sum_congr rfl fun q _ => ?_
    have e : idx_main_v1 (idx_main_v2 (idx_main_v8 (ix2 a k))) q = ix2 a q := funext fun d => by
      match d with
      | ⟨0, _⟩ => rfl
      | ⟨1, _⟩ => rfl
    rw [e, val_main_v0_apply]
    rfl
  rw [val_main_v11_apply, val_main_v9_apply, hx, hr]
  rfl

/-- A token's row through column `n` of the weights. -/
def value (a : Fin 16384) (n : ℕ) : EReal :=
  Cert.Proj.through (fun k => x0 (ix2 a k)) (fun k => x1 (ix2 0 k)) (fun k => x2 (ix2 k (Fin.ofNat 3072 n)))

theorem product_at (i : S16384x3072.Idx) (a : Fin 16384) (n : ℕ) (ha : (i 0).val = a.val) (hn : (i 1).val = n) :
    (val_main_v13 (F := Ideal) x0 x1 x2 i : EReal) = value x0 x1 x2 a n := by
  have h1 : (i 1).val < 3072 := (i 1).isLt
  rw [val_main_v13_apply]
  unfold value Cert.Proj.through
  refine Finset.sum_congr rfl fun k _ => ?_
  have el : lidx_main_v13 i k = ix2 a k := funext fun d => by
    match d with
    | ⟨0, _⟩ => exact Fin.ext ha
    | ⟨1, _⟩ => rfl
  have er : ridx_main_v13 i k = ix2 k (Fin.ofNat 3072 n) := funext fun d => by
    match d with
    | ⟨0, _⟩ => rfl
    | ⟨1, _⟩ => exact Fin.ext (by show (i 1).val = n % 3072; omega)
  rw [el, er, norm_at]
  rfl

theorem result3_at (a : Fin 16384) (j : Fin 1536) :
    (val_main_v14 (F := Ideal) x0 x1 x2 (ix2 a j) : EReal) = value x0 x1 x2 a (0 + j.val) := by
  rw [val_main_v14_apply]
  exact product_at x0 x1 x2 _ a (0 + j.val) rfl (Nat.zero_add _).symm

theorem result6_at (a : Fin 16384) (j : Fin 1536) :
    (val_main_v21 (F := Ideal) x0 x1 x2 (ix2 a j) : EReal) = value x0 x1 x2 a (1536 + j.val) := by
  rw [val_main_v21_apply]
  refine (show _ = (val_main_v20 (F := Ideal) x0 x1 x2 (ix2 a j) : EReal) from rfl).trans ?_
  rw [val_main_v20_apply]
  exact product_at x0 x1 x2 _ a (1536 + j.val) rfl rfl

theorem result4_at (a : Fin 65536) (j : Fin 128) :
    (val_main_v18 (F := Ideal) x0 x1 x2 (ix2 a j) : EReal) = value x0 x1 x2 ⟨a.val / 4, by omega⟩ (2048 + a.val % 4 * 128 + j.val) := by
  have hj := j.isLt
  rw [val_main_v18_apply, val_main_v16_apply]
  exact product_at x0 x1 x2 _ _ _ (by show (a.val * 128 + j.val) / 512 = a.val / 4; omega)
    (by show 2048 + (a.val * 128 + j.val) % 512 = 2048 + a.val % 4 * 128 + j.val; omega)

theorem result5_at (a : Fin 65536) (j : Fin 128) :
    (val_main_v19 (F := Ideal) x0 x1 x2 (ix2 a j) : EReal) = value x0 x1 x2 ⟨a.val / 4, by omega⟩ (2560 + a.val % 4 * 128 + j.val) := by
  have hj := j.isLt
  rw [val_main_v19_apply, val_main_v17_apply]
  exact product_at x0 x1 x2 _ _ _ (by show (a.val * 128 + j.val) / 512 = a.val / 4; omega)
    (by show 2560 + (a.val * 128 + j.val) % 512 = 2560 + a.val % 4 * 128 + j.val; omega)

end Cert.Reference6Ideal.Even

end
-- ==== Proof.EvenClaims.lean ====
/- The claims of the even layers' projection. -/
module

public import proofs.«01_k».proof.Defs
public import proofs.«01_k».proof.Proof.Gen.Kernel6
public import proofs.«01_k».proof.Proof.EvenReference
public import Idealize.ShloMosaic.Adequacy
public import Idealize.ShloMosaic.Init

@[expose] public section

set_option maxRecDepth 16384

noncomputable section

namespace Cert.Proof

open Idealize.ShloMosaic Idealize.SL.Sem Idealize.ShloMosaic.Tactic

/-- The program as executed and the program read over the extended reals are one program: their body tables are equal. -/
theorem even_bodies_eq : @Cert.Kernel6.defs₀ Bits _ _ = @Cert.Kernel6Ideal.defs₀ Bits _ _ := by
  unfold Cert.Kernel6.defs₀ Cert.Kernel6Ideal.defs₀
  refine congrArg Defs.onTc (funext fun l => funext fun a => ?_)
  match l, a with
  | ⟨0, _⟩, (t, s) => exact rfl

theorem even_tables_eq : Cert.Kernel6.defs (F := Bits) = Cert.Kernel6Ideal.defs (F := Bits) :=
  congrArg (Pipeline.defs Cert.Kernel6.pcfgs) even_bodies_eq

theorem frame_p6 : Cert.quiescent_Kernel6 := fun m ρ _ => by
  rw [even_tables_eq]
  exact Cert.Kernel6Ideal.Even.frame_run (F := Bits) m ρ

theorem frame_pi6 : Cert.quiescent_Kernel6Ideal := fun m ρ _ => Cert.Kernel6Ideal.Even.frame_run (F := Ideal) m ρ

/-- The projection's reference runs and leaves its arguments unchanged. -/
theorem frame_ri6 : Cert.quiescent_Reference6Ideal := fun m g _ =>
  (θ_run Cert.Reference6Ideal.defs _ _).mono (fun r h => ⟨fun c => (h c).2.2.2.2, Idealize.ShloMosaic.sem_eq_zero_of_no_sems (by decide) r.2⟩)
    (Cert.Reference6Ideal.Value.run (F := Ideal) m g)

theorem preserves6 : Cert.preserves_Kernel6_Kernel6Ideal := trivial

/-- The projection's four results agree with the reference's at every index. -/
theorem algebraic6 : Cert.algebraic_Kernel6Ideal_Reference6Ideal := by
  intro m g m' g' _ hagree
  refine ⟨fun c => (Cert.Kernel6Ideal.Even.dats m 0 c).arrAt 3 Cert.Kernel6Ideal.cfg0.N, fun c => (Cert.Kernel6Ideal.Even.dats m 0 c).arrAt 4 Cert.Kernel6Ideal.cfg0.N, fun c => (Cert.Kernel6Ideal.Even.dats m 0 c).arrAt 5 Cert.Kernel6Ideal.cfg0.N, fun c => (Cert.Kernel6Ideal.Even.dats m 0 c).arrAt 6 Cert.Kernel6Ideal.cfg0.N,
    Cert.Kernel6Ideal.Even.run_arrays (F := Ideal) m g, ?_⟩
  refine (θ_run Cert.Reference6Ideal.defs _ _).mono (fun r h c => ⟨(h c).1.trans ?_, (h c).2.1.trans ?_, (h c).2.2.1.trans ?_, (h c).2.2.2.1.trans ?_, (h c).2.2.2.2⟩)
    (Cert.Reference6Ideal.Value.run (F := Ideal) m' g')
  · obtain ⟨h0, h1, h2⟩ := hagree c
    rw [h0, h1, h2]
    refine (Cert.Reference6Ideal.Read.val_main_v14_eq _ _ _).trans (funext fun i => ?_)
    have e : i = ix2 (n0 := 16384) (n1 := 1536) ⟨(i 0).val, (i 0).isLt⟩ ⟨(i 1).val, (i 1).isLt⟩ := funext fun d => by
      match d with
      | ⟨0, _⟩ => rfl
      | ⟨1, _⟩ => rfl
    rw [e]
    exact (Cert.Reference6Ideal.Even.result3_at _ _ _ _ _).trans (Cert.Kernel6Ideal.Even.result3_at m c _ _).symm
  · obtain ⟨h0, h1, h2⟩ := hagree c
    rw [h0, h1, h2]
    refine (Cert.Reference6Ideal.Read.val_main_v18_eq _ _ _).trans (funext fun i => ?_)
    have e : i = ix2 (n0 := 65536) (n1 := 128) ⟨(i 0).val, (i 0).isLt⟩ ⟨(i 1).val, (i 1).isLt⟩ := funext fun d => by
      match d with
      | ⟨0, _⟩ => rfl
      | ⟨1, _⟩ => rfl
    rw [e]
    exact (Cert.Reference6Ideal.Even.result4_at _ _ _ _ _).trans (Cert.Kernel6Ideal.Even.result4_at m c _ _).symm
  · obtain ⟨h0, h1, h2⟩ := hagree c
    rw [h0, h1, h2]
    refine (Cert.Reference6Ideal.Read.val_main_v19_eq _ _ _).trans (funext fun i => ?_)
    have e : i = ix2 (n0 := 65536) (n1 := 128) ⟨(i 0).val, (i 0).isLt⟩ ⟨(i 1).val, (i 1).isLt⟩ := funext fun d => by
      match d with
      | ⟨0, _⟩ => rfl
      | ⟨1, _⟩ => rfl
    rw [e]
    exact (Cert.Reference6Ideal.Even.result5_at _ _ _ _ _).trans (Cert.Kernel6Ideal.Even.result5_at m c _ _).symm
  · obtain ⟨h0, h1, h2⟩ := hagree c
    rw [h0, h1, h2]
    refine (Cert.Reference6Ideal.Read.val_main_v21_eq _ _ _).trans (funext fun i => ?_)
    have e : i = ix2 (n0 := 16384) (n1 := 1536) ⟨(i 0).val, (i 0).isLt⟩ ⟨(i 1).val, (i 1).isLt⟩ := funext fun d => by
      match d with
      | ⟨0, _⟩ => rfl
      | ⟨1, _⟩ => rfl
    rw [e]
    exact (Cert.Reference6Ideal.Even.result6_at _ _ _ _ _).trans (Cert.Kernel6Ideal.Even.result6_at m c _ _).symm

end Cert.Proof

end
-- ==== Proof.lean ====
module

public import proofs.«01_k».proof.Defs
public import proofs.«01_k».proof.Proof.Claims
public import proofs.«01_k».proof.Proof.FfnClaims
public import proofs.«01_k».proof.Proof.MixOdd
public import proofs.«01_k».proof.Proof.InnerClaims
public import proofs.«01_k».proof.Proof.ProjClaims
public import proofs.«01_k».proof.Proof.EvenClaims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Launch
public import proofs.«01_k».proof.Proof.Gen.Kernel2.Skeleton
public import proofs.«01_k».proof.Proof.Gen.Kernel2.Points
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Launch
public import proofs.«01_k».proof.Proof.Gen.Kernel4.Skeleton
public import proofs.«01_k».proof.Proof.Gen.Kernel4.Points
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Launch
public import proofs.«01_k».proof.Proof.Gen.Kernel5.Skeleton
public import proofs.«01_k».proof.Proof.Gen.Kernel5.Points
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Launch
public import proofs.«01_k».proof.Proof.Gen.Kernel6.Skeleton
public import proofs.«01_k».proof.Proof.Gen.Kernel6.Points
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, pre_facts,
    frame_p, frame_pi, frame_pi_pre, frame_ri, frame_ri_pre, frame_p2, frame_pi2, frame_ri2, frame_p3, frame_pi3, frame_ri3, frame_p4, frame_pi4, frame_ri4,
    frame_p5, frame_pi5, frame_ri5, frame_p6, frame_pi6, frame_ri6,
    preserves, algebraic, preserves2, algebraic2, preserves3, algebraic3, preserves4, algebraic4, preserves5, algebraic5, preserves6, algebraic6⟩

end Cert.Proof

end
